-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v37)) (v4 : (c : Dev Cert.KernelIdeal.nD) → Buf (Elt Ideal) ((c.tc : Thread Cert.KernelIdeal.nD Cert.KernelIdeal.τ).loc Cert.KernelIdeal.main_v38)) (v5 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_v38) = v4 c
          ∧ r.2.mem ((c.tc : Thread Cert.KernelIdeal.nD Cert.KernelIdeal.τ).loc Cert.KernelIdeal.main_v39) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x2560 : Shape := ⟨3, ![2, 384, 2560]⟩
abbrev S2x384 : Shape := ⟨2, ![2, 384]⟩
abbrev S2x32 : Shape := ⟨2, ![2, 32]⟩
abbrev S2560 : Shape := ⟨1, ![2560]⟩
abbrev S3x3x2560x1280 : Shape := ⟨4, ![3, 3, 2560, 1280]⟩
abbrev S1280 : Shape := ⟨1, ![1280]⟩
abbrev S2x1280 : Shape := ⟨2, ![2, 1280]⟩
abbrev S3x3x1280x1280 : Shape := ⟨4, ![3, 3, 1280, 1280]⟩
abbrev S2x384x1280 : Shape := ⟨3, ![2, 384, 1280]⟩
abbrev S768x2560 : Shape := ⟨2, ![768, 2560]⟩
abbrev S768x1 : Shape := ⟨2, ![768, 1]⟩
abbrev S2x32x80 : Shape := ⟨3, ![2, 32, 80]⟩
abbrev S2x2560 : Shape := ⟨2, ![2, 2560]⟩
abbrev S2x1x2560 : Shape := ⟨3, ![2, 1, 2560]⟩
abbrev S1x2560 : Shape := ⟨2, ![1, 2560]⟩
abbrev S3x768x2560 : Shape := ⟨3, ![3, 768, 2560]⟩
abbrev S32x2560 : Shape := ⟨2, ![32, 2560]⟩
abbrev S32x1 : Shape := ⟨2, ![32, 1]⟩
abbrev S1x1x2560 : Shape := ⟨3, ![1, 1, 2560]⟩
abbrev S3x32x2560 : Shape := ⟨3, ![3, 32, 2560]⟩
abbrev S32 : Shape := ⟨1, ![32]⟩
abbrev S32x252 : Shape := ⟨2, ![32, 252]⟩
abbrev S1x32x2560 : Shape := ⟨3, ![1, 32, 2560]⟩
abbrev S768x1280 : Shape := ⟨2, ![768, 1280]⟩
abbrev S3x768x1280 : Shape := ⟨3, ![3, 768, 1280]⟩
abbrev S32x1280 : Shape := ⟨2, ![32, 1280]⟩
abbrev S3x32x1280 : Shape := ⟨3, ![3, 32, 1280]⟩
abbrev S1x32x1280 : Shape := ⟨3, ![1, 32, 1280]⟩
abbrev S3x2x384x1280 : Shape := ⟨4, ![3, 2, 384, 1280]⟩
abbrev S_ : Shape := ⟨0, ![]⟩
abbrev S3x2x416x1280 : Shape := ⟨4, ![3, 2, 416, 1280]⟩
abbrev S9x2560x1280 : Shape := ⟨3, ![9, 2560, 1280]⟩
abbrev S1x1280 : Shape := ⟨2, ![1, 1280]⟩
abbrev S2x1x1280 : Shape := ⟨3, ![2, 1, 1280]⟩
abbrev S2x32x40 : Shape := ⟨3, ![2, 32, 40]⟩
abbrev S3x768x256 : Shape := ⟨3, ![3, 768, 256]⟩
abbrev S9x256x256 : Shape := ⟨3, ![9, 256, 256]⟩
abbrev S1x256 : Shape := ⟨2, ![1, 256]⟩
abbrev S2x1x256 : Shape := ⟨3, ![2, 1, 256]⟩
abbrev S768x256 : Shape := ⟨2, ![768, 256]⟩
abbrev S1x256x256 : Shape := ⟨3, ![1, 256, 256]⟩
abbrev S256x256 : Shape := ⟨2, ![256, 256]⟩
abbrev S1x768x256 : Shape := ⟨3, ![1, 768, 256]⟩
abbrev S368x256 : Shape := ⟨2, ![368, 256]⟩
abbrev S384x256 : Shape := ⟨2, ![384, 256]⟩
abbrev S1x1x256 : Shape := ⟨3, ![1, 1, 256]⟩
abbrev S1280x768 : Shape := ⟨2, ![1280, 768]⟩
abbrev S128x1280 : Shape := ⟨2, ![128, 1280]⟩
abbrev S128x1 : Shape := ⟨2, ![128, 1]⟩
abbrev S1280x128 : Shape := ⟨2, ![1280, 128]⟩
abbrev S128 : Shape := ⟨1, ![128]⟩
abbrev S128x252 : Shape := ⟨2, ![128, 252]⟩
abbrev S9x1280x1280 : Shape := ⟨3, ![9, 1280, 1280]⟩
abbrev S3x2x416x256 : Shape := ⟨4, ![3, 2, 416, 256]⟩
abbrev S1x1x384x256 : Shape := ⟨4, ![1, 1, 384, 256]⟩
abbrev S1x2x416x256 : Shape := ⟨4, ![1, 2, 416, 256]⟩
abbrev S1x1280x256 : Shape := ⟨3, ![1, 1280, 256]⟩
abbrev S1280x256 : Shape := ⟨2, ![1280, 256]⟩

abbrev nBuf : Space → Nat
  | .hbm => 64
  | .vmem => 65
  | .smem => 0
  | _ => 0

abbrev bufTy : (tb : Table) → Fin (tcTables nBuf tb) → BufTy
  | .hbm, ⟨0, _⟩ => ⟨S2x384x2560, .i8⟩
  | .hbm, ⟨1, _⟩ => ⟨S2x384, .f32⟩
  | .hbm, ⟨2, _⟩ => ⟨S2x32, .f32⟩
  | .hbm, ⟨3, _⟩ => ⟨S2x32, .f32⟩
  | .hbm, ⟨4, _⟩ => ⟨S2560, .f32⟩
  | .hbm, ⟨5, _⟩ => ⟨S2560, .f32⟩
  | .hbm, ⟨6, _⟩ => ⟨S3x3x2560x1280, .fp8e4m3⟩
  | .hbm, ⟨7, _⟩ => ⟨S1280, .f32⟩
  | .hbm, ⟨8, _⟩ => ⟨S1280, .f32⟩
  | .hbm, ⟨9, _⟩ => ⟨S2x1280, .f32⟩
  | .hbm, ⟨10, _⟩ => ⟨S2x32, .f32⟩
  | .hbm, ⟨11, _⟩ => ⟨S2x32, .f32⟩
  | .hbm, ⟨12, _⟩ => ⟨S1280, .f32⟩
  | .hbm, ⟨13, _⟩ => ⟨S1280, .f32⟩
  | .hbm, ⟨14, _⟩ => ⟨S3x3x1280x1280, .fp8e4m3⟩
  | .hbm, ⟨15, _⟩ => ⟨S1280, .f32⟩
  | .hbm, ⟨16, _⟩ => ⟨S2x384x1280, .fp8e5m2⟩
  | .hbm, ⟨17, _⟩ => ⟨S2x384, .f32⟩
  | .hbm, ⟨18, _⟩ => ⟨S768x2560, .i8⟩
  | .hbm, ⟨19, _⟩ => ⟨S768x1, .f32⟩
  | .hbm, ⟨20, _⟩ => ⟨S2x32x80, .f32⟩
  | .hbm, ⟨21, _⟩ => ⟨S2x2560, .f32⟩
  | .hbm, ⟨22, _⟩ => ⟨S2x1x2560, .f32⟩
  | .hbm, ⟨23, _⟩ => ⟨S2x32x80, .f32⟩
  | .hbm, ⟨24, _⟩ => ⟨S2x2560, .f32⟩
  | .hbm, ⟨25, _⟩ => ⟨S2x1x2560, .f32⟩
  | .hbm, ⟨26, _⟩ => ⟨S1x2560, .f32⟩
  | .hbm, ⟨27, _⟩ => ⟨S1x2560, .f32⟩
  | .hbm, ⟨28, _⟩ => ⟨S768x2560, .fp8e4m3⟩
  | .hbm, ⟨29, _⟩ => ⟨S768x1, .f32⟩
  | .hbm, ⟨30, _⟩ => ⟨S3x768x2560, .bf16⟩
  | .hbm, ⟨31, _⟩ => ⟨S768x1280, .fp8e5m2⟩
  | .hbm, ⟨32, _⟩ => ⟨S768x1, .f32⟩
  | .hbm, ⟨33, _⟩ => ⟨S3x768x1280, .bf16⟩
  | .hbm, ⟨34, _⟩ => ⟨S3x2x384x1280, .bf16⟩
  | .hbm, ⟨35, _⟩ => ⟨S_, .i32⟩
  | .hbm, ⟨36, _⟩ => ⟨S_, .bf16⟩
  | .hbm, ⟨37, _⟩ => ⟨S3x2x416x1280, .bf16⟩
  | .hbm, ⟨38, _⟩ => ⟨S9x2560x1280, .fp8e4m3⟩
  | .hbm, ⟨39, _⟩ => ⟨S1x1280, .f32⟩
  | .hbm, ⟨40, _⟩ => ⟨S1x1280, .f32⟩
  | .hbm, ⟨41, _⟩ => ⟨S2x1x1280, .f32⟩
  | .hbm, ⟨42, _⟩ => ⟨S2x32x40, .f32⟩
  | .hbm, ⟨43, _⟩ => ⟨S2x1280, .f32⟩
  | .hbm, ⟨44, _⟩ => ⟨S2x1x1280, .f32⟩
  | .hbm, ⟨45, _⟩ => ⟨S2x32x40, .f32⟩
  | .hbm, ⟨46, _⟩ => ⟨S2x1280, .f32⟩
  | .hbm, ⟨47, _⟩ => ⟨S2x1x1280, .f32⟩
  | .hbm, ⟨48, _⟩ => ⟨S1x1280, .f32⟩
  | .hbm, ⟨49, _⟩ => ⟨S1x1280, .f32⟩
  | .hbm, ⟨50, _⟩ => ⟨S768x1280, .f32⟩
  | .hbm, ⟨51, _⟩ => ⟨S768x1280, .fp8e4m3⟩
  | .hbm, ⟨52, _⟩ => ⟨S768x1, .f32⟩
  | .hbm, ⟨53, _⟩ => ⟨S1280x768, .bf16⟩
  | .hbm, ⟨54, _⟩ => ⟨S9x1280x1280, .fp8e4m3⟩
  | .hbm, ⟨55, _⟩ => ⟨S1x1280, .f32⟩
  | .hbm, ⟨56, _⟩ => ⟨S768x1280, .bf16⟩
  | .hbm, ⟨57, _⟩ => ⟨S9x1280x1280, .f32⟩
  | .hbm, ⟨58, _⟩ => ⟨S3x3x1280x1280, .f32⟩
  | .hbm, ⟨59, _⟩ => ⟨S2x384x1280, .bf16⟩
  | .hbm, ⟨60, _⟩ => ⟨S2x384x2560, .fp8e4m3⟩
  | .hbm, ⟨61, _⟩ => ⟨S2x384, .f32⟩
  | .hbm, ⟨62, _⟩ => ⟨S2x384x1280, .fp8e4m3⟩
  | .hbm, ⟨63, _⟩ => ⟨S2x384, .f32⟩
  | .local _ .vmem, ⟨0, _⟩ => ⟨S32x2560, .i8⟩
  | .local _ .vmem, ⟨1, _⟩ => ⟨S32x2560, .i8⟩
  | .local _ .vmem, ⟨2, _⟩ => ⟨S32x1, .f32⟩
  | .local _ .vmem, ⟨3, _⟩ => ⟨S32x1, .f32⟩
  | .local _ .vmem, ⟨4, _⟩ => ⟨S1x1x2560, .f32⟩
  | .local _ .vmem, ⟨5, _⟩ => ⟨S1x1x2560, .f32⟩
  | .local _ .vmem, ⟨6, _⟩ => ⟨S1x1x2560, .f32⟩
  | .local _ .vmem, ⟨7, _⟩ => ⟨S1x1x2560, .f32⟩
  | .local _ .vmem, ⟨8, _⟩ => ⟨S1x2560, .f32⟩
  | .local _ .vmem, ⟨9, _⟩ => ⟨S1x2560, .f32⟩
  | .local _ .vmem, ⟨10, _⟩ => ⟨S32x2560, .fp8e4m3⟩
  | .local _ .vmem, ⟨11, _⟩ => ⟨S32x2560, .fp8e4m3⟩
  | .local _ .vmem, ⟨12, _⟩ => ⟨S32x1, .f32⟩
  | .local _ .vmem, ⟨13, _⟩ => ⟨S32x1, .f32⟩
  | .local _ .vmem, ⟨14, _⟩ => ⟨S3x32x2560, .bf16⟩
  | .local _ .vmem, ⟨15, _⟩ => ⟨S3x32x2560, .bf16⟩
  | .local _ .vmem, ⟨16, _⟩ => ⟨S32x1280, .fp8e5m2⟩
  | .local _ .vmem, ⟨17, _⟩ => ⟨S32x1280, .fp8e5m2⟩
  | .local _ .vmem, ⟨18, _⟩ => ⟨S32x1, .f32⟩
  | .local _ .vmem, ⟨19, _⟩ => ⟨S32x1, .f32⟩
  | .local _ .vmem, ⟨20, _⟩ => ⟨S3x32x1280, .bf16⟩
  | .local _ .vmem, ⟨21, _⟩ => ⟨S3x32x1280, .bf16⟩
  | .local _ .vmem, ⟨22, _⟩ => ⟨S3x768x256, .bf16⟩
  | .local _ .vmem, ⟨23, _⟩ => ⟨S3x768x256, .bf16⟩
  | .local _ .vmem, ⟨24, _⟩ => ⟨S9x256x256, .fp8e4m3⟩
  | .local _ .vmem, ⟨25, _⟩ => ⟨S9x256x256, .fp8e4m3⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2x1x256, .f32⟩
  | .local _ .vmem, ⟨31, _⟩ => ⟨S2x1x256, .f32⟩
  | .local _ .vmem, ⟨32, _⟩ => ⟨S2x1x256, .f32⟩
  | .local _ .vmem, ⟨33, _⟩ => ⟨S2x1x256, .f32⟩
  | .local _ .vmem, ⟨34, _⟩ => ⟨S2x1x256, .f32⟩
  | .local _ .vmem, ⟨35, _⟩ => ⟨S2x1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S768x256, .f32⟩
  | .local _ .vmem, ⟨41, _⟩ => ⟨S768x256, .f32⟩
  | .local _ .vmem, ⟨42, _⟩ => ⟨S768x256, .f32⟩
  | .local _ .vmem, ⟨43, _⟩ => ⟨S128x1280, .f32⟩
  | .local _ .vmem, ⟨44, _⟩ => ⟨S128x1280, .f32⟩
  | .local _ .vmem, ⟨45, _⟩ => ⟨S128x1280, .fp8e4m3⟩
  | .local _ .vmem, ⟨46, _⟩ => ⟨S128x1280, .fp8e4m3⟩
  | .local _ .vmem, ⟨47, _⟩ => ⟨S128x1, .f32⟩
  | .local _ .vmem, ⟨48, _⟩ => ⟨S128x1, .f32⟩
  | .local _ .vmem, ⟨49, _⟩ => ⟨S1280x128, .bf16⟩
  | .local _ .vmem, ⟨50, _⟩ => ⟨S1280x128, .bf16⟩
  | .local _ .vmem, ⟨51, _⟩ => ⟨S3x2x416x256, .bf16⟩
  | .local _ .vmem, ⟨52, _⟩ => ⟨S3x2x416x256, .bf16⟩
  | .local _ .vmem, ⟨53, _⟩ => ⟨S9x256x256, .fp8e4m3⟩
  | .local _ .vmem, ⟨54, _⟩ => ⟨S9x256x256, .fp8e4m3⟩
  | .local _ .vmem, ⟨55, _⟩ => ⟨S1x256, .f32⟩
  | .local _ .vmem, ⟨56, _⟩ => ⟨S1x256, .f32⟩
  | .local _ .vmem, ⟨57, _⟩ => ⟨S768x256, .bf16⟩
  | .local _ .vmem, ⟨58, _⟩ => ⟨S768x256, .bf16⟩
  | .local _ .vmem, ⟨59, _⟩ => ⟨S768x256, .f32⟩
  | .local _ .vmem, ⟨60, _⟩ => ⟨S1280x768, .bf16⟩
  | .local _ .vmem, ⟨61, _⟩ => ⟨S1x2x416x256, .bf16⟩
  | .local _ .vmem, ⟨62, _⟩ => ⟨S1x2x416x256, .bf16⟩
  | .local _ .vmem, ⟨63, _⟩ => ⟨S1x1280x256, .f32⟩
  | .local _ .vmem, ⟨64, _⟩ => ⟨S1x1280x256, .f32⟩
  | _, _ => ⟨S2x384x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_call0_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v29_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc2_scratch0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg2_1 : Ref sig .tc := ⟨.vmem, 56, rfl⟩
abbrev cc4_stg3_0 : Ref sig .tc := ⟨.vmem, 57, rfl⟩
abbrev cc4_stg3_1 : Ref sig .tc := ⟨.vmem, 58, rfl⟩
abbrev cc4_scratch0 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg1_1 : Ref sig .tc := ⟨.vmem, 62, rfl⟩
abbrev cc5_stg2_0 : Ref sig .tc := ⟨.vmem, 63, rfl⟩
abbrev cc5_stg2_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57
abbrev cc5_sem0_0 : DmaSem sig := 58
abbrev cc5_sem1_0 : DmaSem sig := 59
abbrev cc5_sem1_1 : DmaSem sig := 60
abbrev cc5_sem2_0 : DmaSem sig := 61
abbrev cc5_sem2_1 : DmaSem sig := 62

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x32x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x1280 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x32x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![5, 10], ![false, false]⟩

def k2_cond2 (i : grid2.Coords) : BitVec 1 :=
  let arg1 : BitVec 32 := BitVec.ofNat 32 (i 1).val
  let c9_i32 : BitVec 32 := 9#32
  let v165 : BitVec 1 := Scalar.cmpi .eq arg1 c9_i32
  let v166 : BitVec 32 := Scalar.extui v165
  let c0_i32_123 : BitVec 32 := 0#32
  let v167 : BitVec 1 := Scalar.cmpi .ne v166 c0_i32_123
  v167

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S3x768x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S9x256x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S2x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S768x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S128x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1280 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1280x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![5, 5], ![false, false]⟩

def k4_cond2 (i : grid4.Coords) : BitVec 1 :=
  let arg1 : BitVec 32 := BitVec.ofNat 32 (i 1).val
  let c4_i32 : BitVec 32 := 4#32
  let v219 : BitVec 1 := Scalar.cmpi .eq arg1 c4_i32
  let v220 : BitVec 32 := Scalar.extui v219
  let c0_i32_195 : BitVec 32 := 0#32
  let v221 : BitVec 1 := Scalar.cmpi .ne v220 c0_i32_195
  v221

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S3x2x416x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S9x256x256 .fp8e4m3 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S768x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![9, 5], ![false, false]⟩

def k5_mult1 (i : grid5.Coords) : BitVec 32 :=
  let c16_i32_5 : BitVec 32 := 16#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c16_i32 : BitVec 32 := 16#32
  let v18 : BitVec 32 := Scalar.muli v17 c16_i32
  let v19 : BitVec 32 := Scalar.subi c16_i32_5 v18
  v19
def k5_off1 (i : grid5.Coords) : Fin 4 → Nat :=
  let c0 : Index := 0#32
  let c0_6 : Index := 0#32
  let c16_i32_5 : BitVec 32 := 16#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c16_i32 : BitVec 32 := 16#32
  let v18 : BitVec 32 := Scalar.muli v17 c16_i32
  let v19 : BitVec 32 := Scalar.subi c16_i32_5 v18
  let v20 : BitVec 32 := v19
  let v21 : Index := Scalar.indexCast v20
  let c0_7 : Index := 0#32
  ![0, 0, v21.toNat, 0]
def k5_off2 (i : grid5.Coords) : Fin 4 → Nat :=
  let c0_8 : Index := 0#32
  let c1 : Index := 1#32
  let c16_i32_5 : BitVec 32 := 16#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c16_i32 : BitVec 32 := 16#32
  let v18 : BitVec 32 := Scalar.muli v17 c16_i32
  let v19 : BitVec 32 := Scalar.subi c16_i32_5 v18
  let v20 : BitVec 32 := v19
  let v24 : Index := Scalar.indexCast v20
  let c0_9 : Index := 0#32
  ![0, 1, v24.toNat, 0]
def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 1 → Memref sig .tc .vmem S1280x768 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1x2x416x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1280x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== ReferenceIdeal.lean ====
abbrev S2x384x2560 : Shape := ⟨3, ![2, 384, 2560]⟩
abbrev S2x384 : Shape := ⟨2, ![2, 384]⟩
abbrev S2x32 : Shape := ⟨2, ![2, 32]⟩
abbrev S2560 : Shape := ⟨1, ![2560]⟩
abbrev S3x3x2560x1280 : Shape := ⟨4, ![3, 3, 2560, 1280]⟩
abbrev S1280 : Shape := ⟨1, ![1280]⟩
abbrev S2x1280 : Shape := ⟨2, ![2, 1280]⟩
abbrev S3x3x1280x1280 : Shape := ⟨4, ![3, 3, 1280, 1280]⟩
abbrev S2x384x1280 : Shape := ⟨3, ![2, 384, 1280]⟩
abbrev S2x384x1 : Shape := ⟨3, ![2, 384, 1]⟩
abbrev S2x384x32x80 : Shape := ⟨4, ![2, 384, 32, 80]⟩
abbrev S2x1x32x1 : Shape := ⟨4, ![2, 1, 32, 1]⟩
abbrev S1x1x2560 : Shape := ⟨3, ![1, 1, 2560]⟩
abbrev S2x384x252 : Shape := ⟨3, ![2, 384, 252]⟩
abbrev S2x24x16x2560 : Shape := ⟨4, ![2, 24, 16, 2560]⟩
abbrev S2x1x16x2560 : Shape := ⟨4, ![2, 1, 16, 2560]⟩
abbrev S2x25x16x2560 : Shape := ⟨4, ![2, 25, 16, 2560]⟩
abbrev S2x26x16x2560 : Shape := ⟨4, ![2, 26, 16, 2560]⟩
abbrev S2x26x1x2560 : Shape := ⟨4, ![2, 26, 1, 2560]⟩
abbrev S2x26x17x2560 : Shape := ⟨4, ![2, 26, 17, 2560]⟩
abbrev S2x26x18x2560 : Shape := ⟨4, ![2, 26, 18, 2560]⟩
abbrev S768x2560 : Shape := ⟨2, ![768, 2560]⟩
abbrev S1x1x2560x1280 : Shape := ⟨4, ![1, 1, 2560, 1280]⟩
abbrev S2560x1280 : Shape := ⟨2, ![2560, 1280]⟩
abbrev S768x1280 : Shape := ⟨2, ![768, 1280]⟩
abbrev S1x1x1280 : Shape := ⟨3, ![1, 1, 1280]⟩
abbrev S2x1x1280 : Shape := ⟨3, ![2, 1, 1280]⟩
abbrev S2x384x32x40 : Shape := ⟨4, ![2, 384, 32, 40]⟩
abbrev S2x24x16x1280 : Shape := ⟨4, ![2, 24, 16, 1280]⟩
abbrev S2x1x16x1280 : Shape := ⟨4, ![2, 1, 16, 1280]⟩
abbrev S2x25x16x1280 : Shape := ⟨4, ![2, 25, 16, 1280]⟩
abbrev S2x26x16x1280 : Shape := ⟨4, ![2, 26, 16, 1280]⟩
abbrev S2x26x1x1280 : Shape := ⟨4, ![2, 26, 1, 1280]⟩
abbrev S2x26x17x1280 : Shape := ⟨4, ![2, 26, 17, 1280]⟩
abbrev S2x26x18x1280 : Shape := ⟨4, ![2, 26, 18, 1280]⟩
abbrev S1280x1280 : Shape := ⟨2, ![1280, 1280]⟩
abbrev S1x1x1280x1280 : Shape := ⟨4, ![1, 1, 1280, 1280]⟩
abbrev S1x1280 : Shape := ⟨2, ![1, 1280]⟩

abbrev nBuf : Space → Nat
  | .hbm => 24
  | .vmem => 24
  | .smem => 0
  | _ => 0

abbrev bufTy : (tb : Table) → Fin (tcTables nBuf tb) → BufTy
  | .hbm, ⟨0, _⟩ => ⟨S2x384x2560, .i8⟩
  | .hbm, ⟨1, _⟩ => ⟨S2x384, .f32⟩
  | .hbm, ⟨2, _⟩ => ⟨S2x32, .f32⟩
  | .hbm, ⟨3, _⟩ => ⟨S2x32, .f32⟩
  | .hbm, ⟨4, _⟩ => ⟨S2560, .f32⟩
  | .hbm, ⟨5, _⟩ => ⟨S2560, .f32⟩
  | .hbm, ⟨6, _⟩ => ⟨S3x3x2560x1280, .fp8e4m3⟩
  | .hbm, ⟨7, _⟩ => ⟨S1280, .f32⟩
  | .hbm, ⟨8, _⟩ => ⟨S1280, .f32⟩
  | .hbm, ⟨9, _⟩ => ⟨S2x1280, .f32⟩
  | .hbm, ⟨10, _⟩ => ⟨S2x32, .f32⟩
  | .hbm, ⟨11, _⟩ => ⟨S2x32, .f32⟩
  | .hbm, ⟨12, _⟩ => ⟨S1280, .f32⟩
  | .hbm, ⟨13, _⟩ => ⟨S1280, .f32⟩
  | .hbm, ⟨14, _⟩ => ⟨S3x3x1280x1280, .fp8e4m3⟩
  | .hbm, ⟨15, _⟩ => ⟨S1280, .f32⟩
  | .hbm, ⟨16, _⟩ => ⟨S2x384x1280, .fp8e5m2⟩
  | .hbm, ⟨17, _⟩ => ⟨S2x384, .f32⟩
  | .hbm, ⟨18, _⟩ => ⟨S3x3x1280x1280, .f32⟩
  | .hbm, ⟨19, _⟩ => ⟨S2x384x1280, .bf16⟩
  | .hbm, ⟨20, _⟩ => ⟨S2x384x2560, .fp8e4m3⟩
  | .hbm, ⟨21, _⟩ => ⟨S2x384, .f32⟩
  | .hbm, ⟨22, _⟩ => ⟨S2x384x1280, .fp8e4m3⟩
  | .hbm, ⟨23, _⟩ => ⟨S2x384, .f32⟩
  | .local _ .vmem, ⟨0, _⟩ => ⟨S2x384x2560, .i8⟩
  | .local _ .vmem, ⟨1, _⟩ => ⟨S2x384, .f32⟩
  | .local _ .vmem, ⟨2, _⟩ => ⟨S2x32, .f32⟩
  | .local _ .vmem, ⟨3, _⟩ => ⟨S2x32, .f32⟩
  | .local _ .vmem, ⟨4, _⟩ => ⟨S2560, .f32⟩
  | .local _ .vmem, ⟨5, _⟩ => ⟨S2560, .f32⟩
  | .local _ .vmem, ⟨6, _⟩ => ⟨S3x3x2560x1280, .fp8e4m3⟩
  | .local _ .vmem, ⟨7, _⟩ => ⟨S1280, .f32⟩
  | .local _ .vmem, ⟨8, _⟩ => ⟨S1280, .f32⟩
  | .local _ .vmem, ⟨9, _⟩ => ⟨S2x1280, .f32⟩
  | .local _ .vmem, ⟨10, _⟩ => ⟨S2x32, .f32⟩
  | .local _ .vmem, ⟨11, _⟩ => ⟨S2x32, .f32⟩
  | .local _ .vmem, ⟨12, _⟩ => ⟨S1280, .f32⟩
  | .local _ .vmem, ⟨13, _⟩ => ⟨S1280, .f32⟩
  | .local _ .vmem, ⟨14, _⟩ => ⟨S3x3x1280x1280, .fp8e4m3⟩
  | .local _ .vmem, ⟨15, _⟩ => ⟨S1280, .f32⟩
  | .local _ .vmem, ⟨16, _⟩ => ⟨S2x384x1280, .fp8e5m2⟩
  | .local _ .vmem, ⟨17, _⟩ => ⟨S2x384, .f32⟩
  | .local _ .vmem, ⟨18, _⟩ => ⟨S3x3x1280x1280, .f32⟩
  | .local _ .vmem, ⟨19, _⟩ => ⟨S2x384x1280, .bf16⟩
  | .local _ .vmem, ⟨20, _⟩ => ⟨S2x384x2560, .fp8e4m3⟩
  | .local _ .vmem, ⟨21, _⟩ => ⟨S2x384, .f32⟩
  | .local _ .vmem, ⟨22, _⟩ => ⟨S2x384x1280, .fp8e4m3⟩
  | .local _ .vmem, ⟨23, _⟩ => ⟨S2x384, .f32⟩
  | _, _ => ⟨S2x384x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x384x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x3x2560x1280 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x3x1280x1280 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x384x1280 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x3x1280x1280 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x384x1280 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x384x2560 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x384x1280 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.Run.Region0.lean ====
/- Custom call 0 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_gn1` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S32x2560 := Rect.unit (s := S32x2560) ![0, 0] S32x2560.size inb_S32x2560_S32x2560_0_0
abbrev r0_1 : Rect S32x1 := Rect.unit (s := S32x1) ![0, 0] S32x1.size inb_S32x1_S32x1_0_0
abbrev r0_2 : Rect S1x1x2560 := Rect.unit (s := S1x1x2560) ![0, 0, 0] S1x1x2560.size inb_S1x1x2560_S1x1x2560_0_0_0
abbrev r0_3 : Rect S1x2560 := Rect.unit (s := S1x2560) ![0, 0] S1x2560.size inb_S1x2560_S1x2560_0_0
abbrev r0_4 : Rect S3x32x2560 := Rect.unit (s := S3x32x2560) ![0, 0, 0] S1x32x2560.size inb_S3x32x2560_S1x32x2560_0_0_0
abbrev r0_5 : Rect S3x32x2560 := Rect.unit (s := S3x32x2560) ![1, 0, 0] S1x32x2560.size inb_S3x32x2560_S1x32x2560_1_0_0
abbrev r0_6 : Rect S3x32x2560 := Rect.unit (s := S3x32x2560) ![2, 0, 0] S1x32x2560.size inb_S3x32x2560_S1x32x2560_2_0_0

/-! ## What the body leaves in each output window's buffer -/

/-! ### Values of the body that the stores' payloads, spelt out, would write more than once

    Each is a vector the body binds (often a part call's result), stated over the input windows' blocks and
    numbered on from the skeleton's payload functions (`k0_pay13` …, after `k0_pay12`), so that
    `out0_W` and the values after it name it instead of spelling it out; the comment after each is the printed function's
    name for the value (a count appended where that name is bound again). -/

def k0_pay13 (x0 : Vec F S32x2560 .i8) (x1 : Vec F S32x1 .f32) (x2 : Vec F S1x1x2560 .f32) (x3 : Vec F S1x1x2560 .f32) (x4 : Vec F S1x2560 .f32) (x5 : Vec F S1x2560 .f32) : FVec F S32x2560 .f32 :=
  k0_pay2 (View.ld x0 r0_0) (View.ld x1 r0_1) (View.ld x2 r0_2) (View.ld x3 r0_2) (View.ld x4 r0_3) (View.ld x5 r0_3) -- `v24`
def k0_pay14 (x0 : Vec F S32x2560 .i8) (x1 : Vec F S32x1 .f32) (x2 : Vec F S1x1x2560 .f32) (x3 : Vec F S1x1x2560 .f32) (x4 : Vec F S1x2560 .f32) (x5 : Vec F S1x2560 .f32) : IVec S32 32 :=
  k0_pay3 (View.ld x0 r0_0) (View.ld x1 r0_1) (View.ld x2 r0_2) (View.ld x3 r0_2) (View.ld x4 r0_3) (View.ld x5 r0_3) -- `v39`
def k0_pay15 (x0 : Vec F S32x2560 .i8) (x1 : Vec F S32x1 .f32) (x2 : Vec F S1x1x2560 .f32) (x3 : Vec F S1x1x2560 .f32) (x4 : Vec F S1x2560 .f32) (x5 : Vec F S1x2560 .f32) : FVec F S32x2560 .f32 :=
  k0_pay7 (k0_pay13 x0 x1 x2 x3 x4 x5) (k0_pay14 x0 x1 x2 x3 x4 x5) -- `v75`

/-- Window 6's staging buffer after the body, from the input windows' blocks: its 1 store as pieces, LAST
    FIRST (Lib/Pipeline/FrameBody.lean `View.canon`; the payloads are the skeleton's and the values stated above). -/
def out0_6 (x0 : Vec F S32x2560 .i8) (x1 : Vec F S32x1 .f32) (x2 : Vec F S1x1x2560 .f32) (x3 : Vec F S1x1x2560 .f32) (x4 : Vec F S1x2560 .f32) (x5 : Vec F S1x2560 .f32) : Vec F S32x2560 .fp8e4m3 :=
  View.canon [⟨r0_0, k0_pay5 (k0_pay13 x0 x1 x2 x3 x4 x5) (k0_pay14 x0 x1 x2 x3 x4 x5)⟩]

/-- Its stores tile the buffer (checked by evaluation), so they cover it. -/
theorem cover0_6 (p0 : Vec F S32x2560 .fp8e4m3) (y : S32x2560.Idx) :
    ∃ pc ∈ ([⟨r0_0, p0⟩] : List (View.Piece (Elt F) S32x2560 .fp8e4m3)), y ∈ pc.1.set :=
  View.cover_of_tiled [⟨r0_0, p0⟩] S32x2560.size (by rfl) y

/-- Window 7's staging buffer after the body, from the input windows' blocks: its 1 store as pieces, LAST
    FIRST (Lib/Pipeline/FrameBody.lean `View.canon`; the payloads are the skeleton's and the values stated above). -/
def out0_7 (x0 : Vec F S32x2560 .i8) (x1 : Vec F S32x1 .f32) (x2 : Vec F S1x1x2560 .f32) (x3 : Vec F S1x1x2560 .f32) (x4 : Vec F S1x2560 .f32) (x5 : Vec F S1x2560 .f32) : Vec F S32x1 .f32 :=
  View.canon [⟨r0_1, k0_pay6 (F := F) (k0_pay14 x0 x1 x2 x3 x4 x5)⟩]

/-- Its stores tile the buffer (checked by evaluation), so they cover it. -/
theorem cover0_7 (p0 : Vec F S32x1 .f32) (y : S32x1.Idx) :
    ∃ pc ∈ ([⟨r0_1, p0⟩] : List (View.Piece (Elt F) S32x1 .f32)), y ∈ pc.1.set :=
  View.cover_of_tiled [⟨r0_1, p0⟩] S32x1.size (by rfl) y

/-- Window 8's staging buffer after the body, from the input windows' blocks: its 3 stores as pieces, LAST
    FIRST (Lib/Pipeline/FrameBody.lean `View.canon`; the payloads are the skeleton's and the values stated above). -/
def out0_8 (x0 : Vec F S32x2560 .i8) (x1 : Vec F S32x1 .f32) (x2 : Vec F S1x1x2560 .f32) (x3 : Vec F S1x1x2560 .f32) (x4 : Vec F S1x2560 .f32) (x5 : Vec F S1x2560 .f32) : Vec F S3x32x2560 .bf16 :=
  View.canon [⟨r0_6, k0_pay1 (k0_pay15 x0 x1 x2 x3 x4 x5) (Scalar.select (Scalar.cmpi .eq 16#32 0#32) 1#32 16#32) k0_pay10 k0_pay11 k0_pay12⟩,
    ⟨r0_5, k0_pay9 (k0_pay15 x0 x1 x2 x3 x4 x5)⟩,
    ⟨r0_4, k0_pay8 (k0_pay15 x0 x1 x2 x3 x4 x5) (iota .tc S32x2560 32 [0] iota_S32x2560_d0_w32) (Scalar.select (Scalar.cmpi .eq 16#32 0#32) 1#32 16#32)⟩]

/-- Its stores tile the buffer (checked by evaluation), so they cover it. -/
theorem cover0_8 (p0 : Vec F S1x32x2560 .bf16) (p1 : Vec F S1x32x2560 .bf16) (p2 : Vec F S1x32x2560 .bf16) (y : S3x32x2560.Idx) :
    ∃ pc ∈ ([⟨r0_6, p0⟩, ⟨r0_5, p1⟩, ⟨r0_4, p2⟩] : List (View.Piece (Elt F) S3x32x2560 .bf16)), y ∈ pc.1.set :=
  View.cover_of_tiled [⟨r0_6, p0⟩, ⟨r0_5, p1⟩, ⟨r0_4, p2⟩] S1x32x2560.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S32x2560 .i8) (harg1 : arg1.IsWhole) (arg2 : Memref sig .tc .vmem S32x1 .f32) (harg2 : arg2.IsWhole) (arg3 : Memref sig .tc .vmem S1x1x2560 .f32) (harg3 : arg3.IsWhole) (arg4 : Memref sig .tc .vmem S1x1x2560 .f32) (harg4 : arg4.IsWhole) (arg5 : Memref sig .tc .vmem S1x2560 .f32) (harg5 : arg5.IsWhole) (arg6 : Memref sig .tc .vmem S1x2560 .f32) (harg6 : arg6.IsWhole) (arg7 : Memref sig .tc .vmem S32x2560 .fp8e4m3) (harg7 : arg7.IsWhole) (arg8 : Memref sig .tc .vmem S32x1 .f32) (harg8 : arg8.IsWhole) (arg9 : Memref sig .tc .vmem S3x32x2560 .bf16) (harg9 : arg9.IsWhole)
    (x0 : Vec F S32x2560 .i8) (x1 : Vec F S32x1 .f32) (x2 : Vec F S1x1x2560 .f32) (x3 : Vec F S1x1x2560 .f32) (x4 : Vec F S1x2560 .f32) (x5 : Vec F S1x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5)) -∗ K ⟨⟩))
      ⊢ wp frame (wpE (defs₀ (F := F)) Variants.none c none) E (cc0_gn1 i arg1 harg1 arg2 harg2 arg3 harg3 arg4 harg4 arg5 harg5 arg6 harg6 arg7 harg7 arg8 harg8 arg9 harg9) K := by
  simp only [cc0_gn1_eq_skeleton]; unfold cc0_gn1_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Run.Region1.lean ====
/- Custom call 1 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dyprep` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S32x1280 := Rect.unit (s := S32x1280) ![0, 0] S32x1280.size inb_S32x1280_S32x1280_0_0
abbrev r1_1 : Rect S32x1 := Rect.unit (s := S32x1) ![0, 0] S32x1.size inb_S32x1_S32x1_0_0
abbrev r1_2 : Rect S3x32x1280 := Rect.unit (s := S3x32x1280) ![0, 0, 0] S1x32x1280.size inb_S3x32x1280_S1x32x1280_0_0_0
abbrev r1_3 : Rect S3x32x1280 := Rect.unit (s := S3x32x1280) ![1, 0, 0] S1x32x1280.size inb_S3x32x1280_S1x32x1280_1_0_0
abbrev r1_4 : Rect S3x32x1280 := Rect.unit (s := S3x32x1280) ![2, 0, 0] S1x32x1280.size inb_S3x32x1280_S1x32x1280_2_0_0

/-! ## What the body leaves in each output window's buffer -/

/-- Window 2's staging buffer after the body, from the input windows' blocks: its 3 stores as pieces, LAST
    FIRST (Lib/Pipeline/FrameBody.lean `View.canon`; the payloads are the skeleton's). -/
def out1_2 (x0 : Vec F S32x1280 .fp8e5m2) (x1 : Vec F S32x1 .f32) : Vec F S3x32x1280 .bf16 :=
  View.canon [⟨r1_4, k1_pay1 (k1_pay2 (View.ld x0 r1_0) (View.ld x1 r1_1)) (iota .tc S32x1280 32 [0] iota_S32x1280_d0_w32)⟩,
    ⟨r1_3, k1_pay4 (View.ld x0 r1_0) (View.ld x1 r1_1)⟩,
    ⟨r1_2, k1_pay3 (View.ld x0 r1_0) (View.ld x1 r1_1)⟩]

/-- Its stores tile the buffer (checked by evaluation), so they cover it. -/
theorem cover1_2 (p0 : Vec F S1x32x1280 .bf16) (p1 : Vec F S1x32x1280 .bf16) (p2 : Vec F S1x32x1280 .bf16) (y : S3x32x1280.Idx) :
    ∃ pc ∈ ([⟨r1_4, p0⟩, ⟨r1_3, p1⟩, ⟨r1_2, p2⟩] : List (View.Piece (Elt F) S3x32x1280 .bf16)), y ∈ pc.1.set :=
  View.cover_of_tiled [⟨r1_4, p0⟩, ⟨r1_3, p1⟩, ⟨r1_2, p2⟩] S1x32x1280.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (i : grid1.Coords) (arg1 : Memref sig .tc .vmem S32x1280 .fp8e5m2) (harg1 : arg1.IsWhole) (arg2 : Memref sig .tc .vmem S32x1 .f32) (harg2 : arg2.IsWhole) (arg3 : Memref sig .tc .vmem S3x32x1280 .bf16) (harg3 : arg3.IsWhole)
    (x0 : Vec F S32x1280 .fp8e5m2) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_dyprep i arg1 harg1 arg2 harg2 arg3 harg3) K := by
  simp only [cc1_dyprep_eq_skeleton]; unfold cc1_dyprep_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _ _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Run.Region2.lean ====
/- Custom call 2 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_conv1` (pipeline 2), at the entry contents `V` — class R  -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 10) — by arithmetic of the point. -/
theorem hcond2_0 : ∀ t : Fin cfg2.N, cond2_0 (grid2.coords t) ↔ t.val % 10 = 0 :=
  (fun t => by
    have ht : t.val < 50 := Nat.lt_of_lt_of_eq t.isLt N_2
    have e0 : (grid2.coords t 0).val = t.val / 10 % 5 := Pipeline.Grid.coords_val t 0 (by decide) rfl
    have e1 : (grid2.coords t 1).val = t.val / 1 % 10 := Pipeline.Grid.coords_val t 1 (by decide) rfl
    simp only [cond2_0, e0, e1]
    word_cmp
   : ∀ t : Fin grid2.N, cond2_0 (grid2.coords t) ↔ t.val % 10 = 0)

/-- The condition of the body's `scf.if` 1 (`k2_h2`), from the grid coordinates (the skeleton's scalar
    chain substituted). -/
abbrev cond2_1 (i : grid2.Coords) : Prop := k2_cond2 i = 1#1
/-- It holds at the points ≡ 9 (mod 10) — by arithmetic of the point. -/
theorem hcond2_1 : ∀ t : Fin cfg2.N, cond2_1 (grid2.coords t) ↔ t.val % 10 = 9 :=
  (fun t => by
    have ht : t.val < 50 := Nat.lt_of_lt_of_eq t.isLt N_2
    have e0 : (grid2.coords t 0).val = t.val / 10 % 5 := Pipeline.Grid.coords_val t 0 (by decide) rfl
    have e1 : (grid2.coords t 1).val = t.val / 1 % 10 := Pipeline.Grid.coords_val t 1 (by decide) rfl
    simp only [cond2_1, k2_cond2, e0, e1]
    word_cmp
   : ∀ t : Fin grid2.N, cond2_1 (grid2.coords t) ↔ t.val % 10 = 9)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Window 6 is never idle (an input). -/
theorem liveAt2_6 : ∀ t : Fin cfg2.N, cfg2.idle 6 (grid2.coords t) = false := fun _ => rfl
/-- Window 7 is never idle (an input). -/
theorem liveAt2_7 : ∀ t : Fin cfg2.N, cfg2.idle 7 (grid2.coords t) = false := fun _ => rfl
/-- Window 8 is never idle (an input). -/
theorem liveAt2_8 : ∀ t : Fin cfg2.N, cfg2.idle 8 (grid2.coords t) = false := fun _ => rfl
/-- At the points of case A the printed configuration (`Cfg.idle`) calls output 9 idle: the case stores nothing into it. -/
theorem idleAt2_9_A : ∀ t : Fin cfg2.N, cond2_0 (grid2.coords t) → ¬cond2_1 (grid2.coords t) → cfg2.idle 9 (grid2.coords t) = true := by decide +kernel
/-- At the points of case A the pipeline does not write output 9's block back. -/
theorem noFlush2_9_A : ∀ t : Fin cfg2.N, cond2_0 (grid2.coords t) → ¬cond2_1 (grid2.coords t) → (cfg2.win 9).flush t = false := by decide +kernel
/-- At the points of case B the printed configuration (`Cfg.idle`) calls output 9 idle: the case stores nothing into it. -/
theorem idleAt2_9_B : ∀ t : Fin cfg2.N, ¬cond2_0 (grid2.coords t) → ¬cond2_1 (grid2.coords t) → cfg2.idle 9 (grid2.coords t) = true := by decide +kernel
/-- At the points of case B the pipeline does not write output 9's block back. -/
theorem noFlush2_9_B : ∀ t : Fin cfg2.N, ¬cond2_0 (grid2.coords t) → ¬cond2_1 (grid2.coords t) → (cfg2.win 9).flush t = false := by decide +kernel
/-- At the points of case C the printed configuration (`Cfg.idle`) calls output 9 live: the case stores into it. -/
theorem liveAt2_9_C : ∀ t : Fin cfg2.N, ¬cond2_0 (grid2.coords t) → cond2_1 (grid2.coords t) → cfg2.idle 9 (grid2.coords t) = false := by decide +kernel

/-! ## The kernel body on any staging memrefs: a subtype the run finds -/

/-- One staging buffer of output window 9, through which its contents are stated (`View.read_writes_of_cover`: the
    choice does not matter). -/
abbrev VO2_9 : View sig .tc .vmem S768x256 .f32 := (Memref.whole cc2_stg9_0 : Memref sig .tc .vmem S768x256 .f32).view
/-- Each window's current staging memref at point `t`, spelled as the pipeline passes it (`bodyAt2`), and its wholeness. -/
abbrev ms2_0 (t : Fin cfg2.N) : Memref sig .tc .vmem S3x768x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S9x256x256 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2x1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x256 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S768x256 .f32 := win2_9.stage (cfg2.slots t 9)
abbrev hs2_9 (t : Fin cfg2.N) : (ms2_9 t).IsWhole := hstage2_9 ((cfg2.slots t 9).cast nbuf2_9)
/-- The scratch operands: whole scoped buffers of the kernel's own, passed beside the windows. -/
abbrev scM2_0 : Memref sig .tc .vmem S768x256 .f32 := Memref.whole cc2_scratch0
/-- The scratch `arg12` the kernel carries between points, as a view: what it holds is stated through it. -/
abbrev VS2_0 : View sig .tc .vmem S768x256 .f32 := scM2_0.view

/-- The scoped buffers of the core that the kernel does not use. -/
abbrev rest2 (c : Dev nD) : sProp 𝕄 :=
  Pipeline.scopedRestBut (Ix := Unit) (Name := ℕ) (U := UR sig nD τ) (Lvl := ℕ) (Val := Elt F) spec2 c [cc2_scratch0]

/-- The frame kit's invariant with the scratch operands as memrefs owned at some contents (`scopedRest2_eq`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

section Cases
variable (c : Dev nD) (i : grid2.Coords) (arg2 : Memref sig .tc .vmem S3x768x256 .bf16) (harg2 : arg2.IsWhole) (arg3 : Memref sig .tc .vmem S9x256x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S2x1x256 .f32) (harg6 : arg6.IsWhole) (arg7 : Memref sig .tc .vmem S2x1x256 .f32) (harg7 : arg7.IsWhole) (arg8 : Memref sig .tc .vmem S2x1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S768x256 .f32) (harg11 : arg11.IsWhole) (arg12 : Memref sig .tc .vmem S768x256 .f32) (harg12 : arg12.IsWhole)

section CaseA
variable (hc0 : cond2_0 i) (hc1 : ¬cond2_1 i)
    (x0 : Vec F S3x768x256 .bf16) (x1 : Vec F S9x256x256 .fp8e4m3) (x2 : Vec F S1x256 .f32) (x3 : Vec F S1x256 .f32) (x4 : Vec F S2x1x256 .f32) (x5 : Vec F S2x1x256 .f32) (x6 : Vec F S2x1x256 .f32) (x7 : Vec F S1x256 .f32) (x8 : Vec F S1x256 .f32)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 10, 20, 30, 40), WITH the
    proof that on whole staging memrefs — the inputs' at their contents, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun2_A :
    Σ' (L9 : List (View.Piece (Elt F) S768x256 .f32)), { LS0 : List (View.Piece (Elt F) S768x256 .f32) //
      ∀ (xi9 : Vec F S768x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2_conv1 i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc2_conv1_eq_skeleton]; unfold cc2_conv1_skel
    simp only [k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

/-- Case A stores nothing into output 9 (the window is idle at its points and not written back there):
    no pieces — a placeholder (junk read back) that nothing consults, since at these points the window is neither
    written back nor read at the next point (Lib/Pipeline.lean "Idle points"). -/
def out2_A_9 : Vec F S768x256 .f32 :=
  VO2_9.read (Elt F) (VO2_9.writes (Elt F) VO2_9.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's pieces for scratch `arg12`, which the kernel carries between points, cover it: one of them a store of the WHOLE buffer (Lib/Ring.lean `sl_whole_mem`). -/
theorem scover2_A_0 (y : S768x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_wholeMem (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 (by sl_whole_mem) y

/-- What case A leaves in scratch `arg12`: its pieces read back over junk. -/
def sout2_A_0 : Vec F S768x256 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

end CaseA

section CaseB
variable (hc0 : ¬cond2_0 i) (hc1 : ¬cond2_1 i)
    (x0 : Vec F S3x768x256 .bf16) (x1 : Vec F S9x256x256 .fp8e4m3) (x2 : Vec F S1x256 .f32) (x3 : Vec F S1x256 .f32) (x4 : Vec F S2x1x256 .f32) (x5 : Vec F S2x1x256 .f32) (x6 : Vec F S2x1x256 .f32) (x7 : Vec F S1x256 .f32) (x8 : Vec F S1x256 .f32) (xs0 : Vec F S768x256 .f32)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 48: 40 of 50), WITH the
    proof that on whole staging memrefs — the inputs' at their contents, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun2_B :
    Σ' (L9 : List (View.Piece (Elt F) S768x256 .f32)), { LS0 : List (View.Piece (Elt F) S768x256 .f32) //
      ∀ (xi9 : Vec F S768x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2_conv1 i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc2_conv1_eq_skeleton]; unfold cc2_conv1_skel
    simp only [k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

/-- Case B stores nothing into output 9 (the window is idle at its points and not written back there):
    no pieces — a placeholder (junk read back) that nothing consults, since at these points the window is neither
    written back nor read at the next point (Lib/Pipeline.lean "Idle points"). -/
def out2_B_9 : Vec F S768x256 .f32 :=
  VO2_9.read (Elt F) (VO2_9.writes (Elt F) VO2_9.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's pieces for scratch `arg12`, which the kernel carries between points, cover it: 18 pieces (stores and landed copies) of several sizes (`S368x256`, `S384x256`) tiling it when cut into blocks of `![16, 256]` (Lib/Ring.lean `Piece.tiledBy`). -/
theorem scover2_B_0 (y : S768x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledBy (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 ![16, 256] (by sl_kernel_rfl) y

/-- What case B leaves in scratch `arg12`: its pieces read back over junk. -/
def sout2_B_0 : Vec F S768x256 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

end CaseB

section CaseC
variable (hc0 : ¬cond2_0 i) (hc1 : cond2_1 i)
    (x0 : Vec F S3x768x256 .bf16) (x1 : Vec F S9x256x256 .fp8e4m3) (x2 : Vec F S1x256 .f32) (x3 : Vec F S1x256 .f32) (x4 : Vec F S2x1x256 .f32) (x5 : Vec F S2x1x256 .f32) (x6 : Vec F S2x1x256 .f32) (x7 : Vec F S1x256 .f32) (x8 : Vec F S1x256 .f32) (xs0 : Vec F S768x256 .f32)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 9, 19, 29, 39, 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun2_C :
    Σ' (L9 : List (View.Piece (Elt F) S768x256 .f32)), { LS0 : List (View.Piece (Elt F) S768x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc2_conv1 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc2_conv1_eq_skeleton]; unfold cc2_conv1_skel
    simp only [k2_part2_eq_skeleton, k2_part3_eq_skeleton, k2_part4_eq_skeleton, k2_part5_eq_skeleton, k2_part6_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

/-- Case C's pieces for output 9 tile its block (2 stores of `S384x256`, checked by the kernel's evaluation: Lib/Ring.lean `Piece.tiledL`, linear in the pieces, through a loop's `@[irreducible]` trip theorem too), so they cover it. -/
theorem cover2_C_9 (y : S768x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S384x256.size (by sl_kernel_rfl) y

/-- What case C leaves in output 9's staging buffer: its pieces read back over junk. -/
def out2_C_9 : Vec F S768x256 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for scratch `arg12`, which the kernel carries between points, cover it: 18 pieces (stores and landed copies) of several sizes (`S368x256`, `S384x256`) tiling it when cut into blocks of `![16, 256]` (Lib/Ring.lean `Piece.tiledBy`). -/
theorem scover2_C_0 (y : S768x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledBy (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 ![16, 256] (by sl_kernel_rfl) y

/-- What case C leaves in scratch `arg12`: its pieces read back over junk. -/
def sout2_C_0 : Vec F S768x256 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

end CaseC
end Cases

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S768x256 .f32 × Vec F S768x256 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h0 : (n + 1) % 10 = 0 then
      if h1 : (n + 1) % 10 = 9 then
        False.elim (by have hN : n + 1 < 50 := lt_of_lt_of_eq hn (show cfg2.N = 50 from N_2); omega)
      else
        (out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩))
    else
      if h1 : (n + 1) % 10 = 9 then
        (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)
      else
        (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)

/-- `outsAt2` at a point of case A: that case's contents. -/
theorem outsAt2_A (c : Dev nD) (t : Fin cfg2.N) (h0 : t.val % 10 = 0) (h1 : ¬t.val % 10 = 9) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 10 = 0) (h1 : ¬t.val % 10 = 9) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 10 = 0) (h1 : t.val % 10 = 9) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS_zero2 (c : Dev nD) (n : ℕ) (h : n ≤ cfg2.N) (hz : n = 0) : PhiS2 V c n h = Pipeline.ΦA spec2 c := by
  subst hz; rfl

/-- After point `n` (before point `n + 1`): the carried scratch at that point's contents. -/
theorem PhiS_succ2 (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

/-- Before a point that is not the first: the carried scratch at what the point before left. -/
theorem PhiS_pos2 (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc2 (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The body leaves each input's buffer at its block. -/
theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leaves2_3 (c : Dev nD) (t : Fin cfg2.N) : (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from by
    unfold Dat.leavesExact; rw [liveAt2_3 t], after2_3]
theorem leaves2_4 (c : Dev nD) (t : Fin cfg2.N) : (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from by
    unfold Dat.leavesExact; rw [liveAt2_4 t], after2_4]
theorem leaves2_5 (c : Dev nD) (t : Fin cfg2.N) : (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from by
    unfold Dat.leavesExact; rw [liveAt2_5 t], after2_5]
theorem leaves2_6 (c : Dev nD) (t : Fin cfg2.N) : (dat2 V c).leavesExact 6 t = owns (c : Thread nD τ) (ms2_6 t) fullShare (iblk2 V c 6 t) := by
  rw [show (dat2 V c).leavesExact 6 t = owns (c : Thread nD τ) (ms2_6 t) fullShare ((dat2 V c).after 6 t) from by
    unfold Dat.leavesExact; rw [liveAt2_6 t], after2_6]
theorem leaves2_7 (c : Dev nD) (t : Fin cfg2.N) : (dat2 V c).leavesExact 7 t = owns (c : Thread nD τ) (ms2_7 t) fullShare (iblk2 V c 7 t) := by
  rw [show (dat2 V c).leavesExact 7 t = owns (c : Thread nD τ) (ms2_7 t) fullShare ((dat2 V c).after 7 t) from by
    unfold Dat.leavesExact; rw [liveAt2_7 t], after2_7]
theorem leaves2_8 (c : Dev nD) (t : Fin cfg2.N) : (dat2 V c).leavesExact 8 t = owns (c : Thread nD τ) (ms2_8 t) fullShare (iblk2 V c 8 t) := by
  rw [show (dat2 V c).leavesExact 8 t = owns (c : Thread nD τ) (ms2_8 t) fullShare ((dat2 V c).after 8 t) from by
    unfold Dat.leavesExact; rw [liveAt2_8 t], after2_8]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 9600000 in
/-- The body at any point: the inputs' memrefs hold their blocks (`before2_W`); the closed forms say which case the point is in (`by_cases`), an output the case reads before covering holds what the point before left (`before2_W_κ`); so the
    run applies; the invariant hands the body the carried scratch at what the point before left (`PhiS_pos2`; at anything at the first point, `PhiS_zero2`), the other scratch buffers and the generator register at some state, and takes the carried scratch back at this point's contents (`PhiS_succ2`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS_succ2]
  have hN : t.val < 50 := lt_of_lt_of_eq t.isLt (show cfg2.N = 50 from N_2)
  by_cases h0 : t.val % 10 = 0
  · by_cases h1 : t.val % 10 = 9
    · exfalso; omega
    · rw [leaves2_0, leaves2_1, leaves2_2, leaves2_3, leaves2_4, leaves2_5, leaves2_6, leaves2_7, leaves2_8]
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      by_cases hz : t.val = 0
      · rw [PhiS_castSucc2 V c t, PhiS_zero2 V c _ _ hz, PhiA2_eq]
        rw [outsAt2_A V c t h0 h1]
        unfold sout2_A_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS_castSucc2 V c t, PhiS_pos2 V c _ _ hz]
        rw [outsAt2_A V c t h0 h1]
        unfold sout2_A_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 10 = 9
    · rw [leaves2_0, leaves2_1, leaves2_2, leaves2_3, leaves2_4, leaves2_5, leaves2_6, leaves2_7, leaves2_8]
      rw [show (dat2 V c).leavesExact 9 t = owns (c : Thread nD τ) (ms2_9 t) fullShare ((dat2 V c).after 9 t) from by
      unfold Dat.leavesExact; rw [liveAt2_9_C t (fun h => h0 ((hcond2_0 t).mp h)) ((hcond2_1 t).mpr h1)], after2_9]
      by_cases hz : t.val = 0
      · exfalso; have hN : t.val < 50 := lt_of_lt_of_eq t.isLt (show cfg2.N = 50 from N_2); omega
      · rw [PhiS_castSucc2 V c t, PhiS_pos2 V c _ _ hz]
        rw [outsAt2_C V c t h0 h1]
        unfold out2_C_9 sout2_C_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover2_C_9 c _ _ _ _ _ _ _ _ _ _ _ _ _ _ _ _ _ _ _ _ _ _ _ _ _ _ _ _ _ _ _ _ _ _ _)
    · rw [leaves2_0, leaves2_1, leaves2_2, leaves2_3, leaves2_4, leaves2_5, leaves2_6, leaves2_7, leaves2_8]
      rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      by_cases hz : t.val = 0
      · exfalso; have hN : t.val < 50 := lt_of_lt_of_eq t.isLt (show cfg2.N = 50 from N_2); omega
      · rw [PhiS_castSucc2 V c t, PhiS_pos2 V c _ _ hz]
        rw [outsAt2_B V c t h0 h1]
        unfold sout2_B_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS_zero2 V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS_pos2 V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Regions

end Cert.KernelIdeal.Run

end
-- ==== Proof.Run.Region3.lean ====
/- Custom call 3 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_quant2` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S128x1280 := Rect.unit (s := S128x1280) ![0, 0] S128x1280.size inb_S128x1280_S128x1280_0_0
abbrev r3_1 : Rect S128x1 := Rect.unit (s := S128x1) ![0, 0] S128x1.size inb_S128x1_S128x1_0_0
abbrev r3_2 : Rect S1280x128 := Rect.unit (s := S1280x128) ![0, 0] S1280x128.size inb_S1280x128_S1280x128_0_0

/-! ## What the body leaves in each output window's buffer -/

/-! ### Values of the body that the stores' payloads, spelt out, would write more than once

    Each is a vector the body binds (often a part call's result), stated over the input windows' blocks and
    numbered on from the skeleton's payload functions (`k3_pay7` …, after `k3_pay6`), so that
    `out3_W` and the values after it name it instead of spelling it out; the comment after each is the printed function's
    name for the value (a count appended where that name is bound again). -/

def k3_pay7 (x0 : Vec F S128x1280 .f32) : IVec S128x1 32 :=
  k3_pay4 (View.ld x0 r3_0) -- `v23`

/-- Window 1's staging buffer after the body, from the input windows' blocks: its 1 store as pieces, LAST
    FIRST (Lib/Pipeline/FrameBody.lean `View.canon`; the payloads are the skeleton's and the values stated above). -/
def out3_1 (x0 : Vec F S128x1280 .f32) : Vec F S128x1280 .fp8e4m3 :=
  View.canon [⟨r3_0, k3_pay5 (View.ld x0 r3_0)⟩]

/-- Its stores tile the buffer (checked by evaluation), so they cover it. -/
theorem cover3_1 (p0 : Vec F S128x1280 .fp8e4m3) (y : S128x1280.Idx) :
    ∃ pc ∈ ([⟨r3_0, p0⟩] : List (View.Piece (Elt F) S128x1280 .fp8e4m3)), y ∈ pc.1.set :=
  View.cover_of_tiled [⟨r3_0, p0⟩] S128x1280.size (by rfl) y

/-- Window 2's staging buffer after the body, from the input windows' blocks: its 1 store as pieces, LAST
    FIRST (Lib/Pipeline/FrameBody.lean `View.canon`; the payloads are the skeleton's and the values stated above). -/
def out3_2 (x0 : Vec F S128x1280 .f32) : Vec F S128x1 .f32 :=
  View.canon [⟨r3_1, k3_pay1 (F := F) (k3_pay7 x0) k3_pay6⟩]

/-- Its stores tile the buffer (checked by evaluation), so they cover it. -/
theorem cover3_2 (p0 : Vec F S128x1 .f32) (y : S128x1.Idx) :
    ∃ pc ∈ ([⟨r3_1, p0⟩] : List (View.Piece (Elt F) S128x1 .f32)), y ∈ pc.1.set :=
  View.cover_of_tiled [⟨r3_1, p0⟩] S128x1.size (by rfl) y

/-- Window 3's staging buffer after the body, from the input windows' blocks: its 1 store as pieces, LAST
    FIRST (Lib/Pipeline/FrameBody.lean `View.canon`; the payloads are the skeleton's and the values stated above). -/
def out3_3 (x0 : Vec F S128x1280 .f32) : Vec F S1280x128 .bf16 :=
  View.canon [⟨r3_2, k3_pay2 (k3_pay7 x0) (k3_pay5 (View.ld x0 r3_0))⟩]

/-- Its stores tile the buffer (checked by evaluation), so they cover it. -/
theorem cover3_3 (p0 : Vec F S1280x128 .bf16) (y : S1280x128.Idx) :
    ∃ pc ∈ ([⟨r3_2, p0⟩] : List (View.Piece (Elt F) S1280x128 .bf16)), y ∈ pc.1.set :=
  View.cover_of_tiled [⟨r3_2, p0⟩] S1280x128.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`*_eq_skeleton`), which `sl_exec` runs (Lib/Exec.lean), through every part call. -/
theorem sound_kernel3 (c : Dev nD) (E : Set ℕ) (i : grid3.Coords) (arg1 : Memref sig .tc .vmem S128x1280 .f32) (harg1 : arg1.IsWhole) (arg2 : Memref sig .tc .vmem S128x1280 .fp8e4m3) (harg2 : arg2.IsWhole) (arg3 : Memref sig .tc .vmem S128x1 .f32) (harg3 : arg3.IsWhole) (arg4 : Memref sig .tc .vmem S1280x128 .bf16) (harg4 : arg4.IsWhole)
    (x0 : Vec F S128x1280 .f32) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (out3_1 x0) ∗ owns (c : Thread nD τ) arg3 fullShare (out3_2 x0) ∗ owns (c : Thread nD τ) arg4 fullShare (out3_3 x0)) -∗ K ⟨⟩))
      ⊢ wp frame (wpE (defs₀ (F := F)) Variants.none c none) E (cc3_quant2 i arg1 harg1 arg2 harg2 arg3 harg3 arg4 harg4) K := by
  simp only [cc3_quant2_eq_skeleton]; unfold cc3_quant2_skel
  simp only [k3_part1_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover3_1 _)).trans ?_
    rfl
  isplitl [H2]
  · iexists _; isplitr
    swap; · iexact H2
    ipureintro
    refine (View.read_writes_eq_canon _ _ _ (cover3_2 _)).trans ?_
    rfl
  iexists _; isplitr
  swap; · iexact H3
  ipureintro
  refine (View.read_writes_eq_canon _ _ _ (cover3_3 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
    | ⟨2, _⟩ => out3_2 (iblk3 V c 0 t)
    | ⟨3, _⟩ => out3_3 (iblk3 V c 0 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]
theorem after3_2 (c : Dev nD) (t : Fin cfg3.N) : (dat3 V c).after 2 t = out3_2 (iblk3 V c 0 t) := by dsimp only [dat3]
theorem after3_3 (c : Dev nD) (t : Fin cfg3.N) : (dat3 V c).after 3 t = out3_3 (iblk3 V c 0 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.Run.Region4.lean ====
/- Custom call 4 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_da2` (pipeline 4), at the entry contents `V` — class R  -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 1).val) 0#32)) 0#32) = 1#1
/-- It holds at the points ≡ 0 (mod 5) — by arithmetic of the point. -/
theorem hcond4_0 : ∀ t : Fin cfg4.N, cond4_0 (grid4.coords t) ↔ t.val % 5 = 0 :=
  (fun t => by
    have ht : t.val < 25 := Nat.lt_of_lt_of_eq t.isLt N_4
    have e0 : (grid4.coords t 0).val = t.val / 5 % 5 := Pipeline.Grid.coords_val t 0 (by decide) rfl
    have e1 : (grid4.coords t 1).val = t.val / 1 % 5 := Pipeline.Grid.coords_val t 1 (by decide) rfl
    simp only [cond4_0, e0, e1]
    word_cmp
   : ∀ t : Fin grid4.N, cond4_0 (grid4.coords t) ↔ t.val % 5 = 0)

/-- The condition of the body's `scf.if` 1 (`k4_h2`), from the grid coordinates (the skeleton's scalar
    chain substituted). -/
abbrev cond4_1 (i : grid4.Coords) : Prop := k4_cond2 i = 1#1
/-- It holds at the points ≡ 4 (mod 5) — by arithmetic of the point. -/
theorem hcond4_1 : ∀ t : Fin cfg4.N, cond4_1 (grid4.coords t) ↔ t.val % 5 = 4 :=
  (fun t => by
    have ht : t.val < 25 := Nat.lt_of_lt_of_eq t.isLt N_4
    have e0 : (grid4.coords t 0).val = t.val / 5 % 5 := Pipeline.Grid.coords_val t 0 (by decide) rfl
    have e1 : (grid4.coords t 1).val = t.val / 1 % 5 := Pipeline.Grid.coords_val t 1 (by decide) rfl
    simp only [cond4_1, k4_cond2, e0, e1]
    word_cmp
   : ∀ t : Fin grid4.N, cond4_1 (grid4.coords t) ↔ t.val % 5 = 4)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- At the points of case A the printed configuration (`Cfg.idle`) calls output 3 idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B the printed configuration (`Cfg.idle`) calls output 3 idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C the printed configuration (`Cfg.idle`) calls output 3 live: the case stores into it. -/
theorem liveAt4_3_C : ∀ t : Fin cfg4.N, ¬cond4_0 (grid4.coords t) → cond4_1 (grid4.coords t) → cfg4.idle 3 (grid4.coords t) = false := by decide +kernel

/-! ## The kernel body on any staging memrefs: a subtype the run finds -/

/-- One staging buffer of output window 3, through which its contents are stated (`View.read_writes_of_cover`: the
    choice does not matter). -/
abbrev VO4_3 : View sig .tc .vmem S768x256 .bf16 := (Memref.whole cc4_stg3_0 : Memref sig .tc .vmem S768x256 .bf16).view
/-- Each window's current staging memref at point `t`, spelled as the pipeline passes it (`bodyAt4`), and its wholeness. -/
abbrev ms4_0 (t : Fin cfg4.N) : Memref sig .tc .vmem S3x2x416x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S9x256x256 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S768x256 .bf16 := win4_3.stage (cfg4.slots t 3)
abbrev hs4_3 (t : Fin cfg4.N) : (ms4_3 t).IsWhole := hstage4_3 ((cfg4.slots t 3).cast nbuf4_3)
/-- The scratch operands: whole scoped buffers of the kernel's own, passed beside the windows. -/
abbrev scM4_0 : Memref sig .tc .vmem S768x256 .f32 := Memref.whole cc4_scratch0
/-- The scratch `arg6` the kernel carries between points, as a view: what it holds is stated through it. -/
abbrev VS4_0 : View sig .tc .vmem S768x256 .f32 := scM4_0.view

/-- The scoped buffers of the core that the kernel does not use. -/
abbrev rest4 (c : Dev nD) : sProp 𝕄 :=
  Pipeline.scopedRestBut (Ix := Unit) (Name := ℕ) (U := UR sig nD τ) (Lvl := ℕ) (Val := Elt F) spec4 c [cc4_scratch0]

/-- The frame kit's invariant with the scratch operands as memrefs owned at some contents (`scopedRest4_eq`,
    Lib/Memref.lean `owns_whole`): what the body obligation hands the run and takes back. -/
theorem PhiA4_eq (c : Dev nD) :
    (Pipeline.ΦA spec4 c : sProp 𝕄)
      = iprop(iprop((∃ d, owns (c : Thread nD τ) scM4_0 fullShare d) ∗ rest4 c) ∗ (∃ r, prngReg c r)) := by
  unfold Pipeline.ΦA; rw [scopedRest4_split]; simp only [scM4_0, owns_whole]; try rfl

section Cases
variable (c : Dev nD) (i : grid4.Coords) (arg2 : Memref sig .tc .vmem S3x2x416x256 .bf16) (harg2 : arg2.IsWhole) (arg3 : Memref sig .tc .vmem S9x256x256 .fp8e4m3) (harg3 : arg3.IsWhole) (arg4 : Memref sig .tc .vmem S1x256 .f32) (harg4 : arg4.IsWhole) (arg5 : Memref sig .tc .vmem S768x256 .bf16) (harg5 : arg5.IsWhole) (arg6 : Memref sig .tc .vmem S768x256 .f32) (harg6 : arg6.IsWhole)

section CaseA
variable (hc0 : cond4_0 i) (hc1 : ¬cond4_1 i)
    (x0 : Vec F S3x2x416x256 .bf16) (x1 : Vec F S9x256x256 .fp8e4m3) (x2 : Vec F S1x256 .f32)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 5, 10, 15, 20), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun4_A :
    Σ' (L3 : List (View.Piece (Elt F) S768x256 .bf16)), { LS0 : List (View.Piece (Elt F) S768x256 .f32) //
      ∀ (xi3 : Vec F S768x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_da2 i arg2 harg2 arg3 harg3 arg4 harg4 arg5 harg5 arg6 harg6) K } := by
  refine ⟨[], ?_, fun xi3 E K => ?run⟩
  case run =>
    simp only [cc4_da2_eq_skeleton]; unfold cc4_da2_skel
    simp only [k4_part1_eq_skeleton, k4_part2_eq_skeleton, k4_part3_eq_skeleton, k4_part4_eq_skeleton, k4_part5_eq_skeleton, k4_part6_eq_skeleton, k4_part7_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out4_A_3 : Vec F S768x256 .bf16 :=
  VO4_3.read (Elt F) (VO4_3.writes (Elt F) VO4_3.junk (kernelRun4_A c i arg2 harg2 arg3 harg3 arg4 harg4 arg5 harg5 arg6 harg6 hc0 hc1 x0 x1 x2).1)

/-- Case A's pieces for scratch `arg6`, which the kernel carries between points, cover it: one of them a store of the WHOLE buffer (Lib/Ring.lean `sl_whole_mem`). -/
theorem scover4_A_0 (y : S768x256.Idx) :
    ∃ pc ∈ (kernelRun4_A c i arg2 harg2 arg3 harg3 arg4 harg4 arg5 harg5 arg6 harg6 hc0 hc1 x0 x1 x2).2.1, y ∈ pc.1.set :=
  View.cover_of_wholeMem (kernelRun4_A c i arg2 harg2 arg3 harg3 arg4 harg4 arg5 harg5 arg6 harg6 hc0 hc1 x0 x1 x2).2.1 (by sl_whole_mem) y

/-- What case A leaves in scratch `arg6`: its pieces read back over junk. -/
def sout4_A_0 : Vec F S768x256 .f32 :=
  VS4_0.read (Elt F) (VS4_0.writes (Elt F) VS4_0.junk (kernelRun4_A c i arg2 harg2 arg3 harg3 arg4 harg4 arg5 harg5 arg6 harg6 hc0 hc1 x0 x1 x2).2.1)

end CaseA

section CaseB
variable (hc0 : ¬cond4_0 i) (hc1 : ¬cond4_1 i)
    (x0 : Vec F S3x2x416x256 .bf16) (x1 : Vec F S9x256x256 .fp8e4m3) (x2 : Vec F S1x256 .f32) (xs0 : Vec F S768x256 .f32)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 23: 15 of 25), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun4_B :
    Σ' (L3 : List (View.Piece (Elt F) S768x256 .bf16)), { LS0 : List (View.Piece (Elt F) S768x256 .f32) //
      ∀ (xi3 : Vec F S768x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_da2 i arg2 harg2 arg3 harg3 arg4 harg4 arg5 harg5 arg6 harg6) K } := by
  refine ⟨[], ?_, fun xi3 E K => ?run⟩
  case run =>
    simp only [cc4_da2_eq_skeleton]; unfold cc4_da2_skel
    simp only [k4_part1_eq_skeleton, k4_part2_eq_skeleton, k4_part3_eq_skeleton, k4_part4_eq_skeleton, k4_part5_eq_skeleton, k4_part6_eq_skeleton, k4_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out4_B_3 : Vec F S768x256 .bf16 :=
  VO4_3.read (Elt F) (VO4_3.writes (Elt F) VO4_3.junk (kernelRun4_B c i arg2 harg2 arg3 harg3 arg4 harg4 arg5 harg5 arg6 harg6 hc0 hc1 x0 x1 x2 xs0).1)

/-- Case B's pieces for scratch `arg6`, which the kernel carries between points, cover it: 18 pieces of `S384x256` tiling it (Lib/Ring.lean `Piece.tiledL`). -/
theorem scover4_B_0 (y : S768x256.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S384x256.size (by sl_kernel_rfl) y

/-- What case B leaves in scratch `arg6`: its pieces read back over junk. -/
def sout4_B_0 : Vec F S768x256 .f32 :=
  VS4_0.read (Elt F) (VS4_0.writes (Elt F) VS4_0.junk (kernelRun4_B c i arg2 harg2 arg3 harg3 arg4 harg4 arg5 harg5 arg6 harg6 hc0 hc1 x0 x1 x2 xs0).2.1)

end CaseB

section CaseC
variable (hc0 : ¬cond4_0 i) (hc1 : cond4_1 i)
    (x0 : Vec F S3x2x416x256 .bf16) (x1 : Vec F S9x256x256 .fp8e4m3) (x2 : Vec F S1x256 .f32) (xs0 : Vec F S768x256 .f32)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 4, 9, 14, 19, 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun4_C :
    Σ' (L3 : List (View.Piece (Elt F) S768x256 .bf16)), { LS0 : List (View.Piece (Elt F) S768x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4_da2 i arg2 harg2 arg3 harg3 arg4 harg4 arg5 harg5 arg6 harg6) K } := by
  refine ⟨?_, ?_, fun E K => ?run⟩
  case run =>
    simp only [cc4_da2_eq_skeleton]; unfold cc4_da2_skel
    simp only [k4_part1_eq_skeleton, k4_part2_eq_skeleton, k4_part3_eq_skeleton, k4_part4_eq_skeleton, k4_part5_eq_skeleton, k4_part6_eq_skeleton, k4_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Case C's pieces for output 3 tile its block (1 store of `S768x256`, checked by the kernel's evaluation: Lib/Ring.lean `Piece.tiledL`, linear in the pieces, through a loop's `@[irreducible]` trip theorem too), so they cover it. -/
theorem cover4_C_3 (y : S768x256.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S768x256.size (by sl_kernel_rfl) y

/-- What case C leaves in output 3's staging buffer: its pieces read back over junk. -/
def out4_C_3 : Vec F S768x256 .bf16 :=
  VO4_3.read (Elt F) (VO4_3.writes (Elt F) VO4_3.junk (kernelRun4_C c i arg2 harg2 arg3 harg3 arg4 harg4 arg5 harg5 arg6 harg6 hc0 hc1 x0 x1 x2 xs0).1)

/-- Case C's pieces for scratch `arg6`, which the kernel carries between points, cover it: 18 pieces of `S384x256` tiling it (Lib/Ring.lean `Piece.tiledL`). -/
theorem scover4_C_0 (y : S768x256.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S384x256.size (by sl_kernel_rfl) y

/-- What case C leaves in scratch `arg6`: its pieces read back over junk. -/
def sout4_C_0 : Vec F S768x256 .f32 :=
  VS4_0.read (Elt F) (VS4_0.writes (Elt F) VS4_0.junk (kernelRun4_C c i arg2 harg2 arg3 harg3 arg4 harg4 arg5 harg5 arg6 harg6 hc0 hc1 x0 x1 x2 xs0).2.1)

end CaseC
end Cases

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S768x256 .bf16 × Vec F S768x256 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 5 = 0 then
      if h1 : (n + 1) % 5 = 4 then
        False.elim (by have hN : n + 1 < 25 := lt_of_lt_of_eq hn (show cfg4.N = 25 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 5 = 4 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 5 = 0) (h1 : ¬t.val % 5 = 4) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 5 = 0) (h1 : ¬t.val % 5 = 4) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 5 = 0) (h1 : t.val % 5 = 4) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt4`'s scratch components), the others at anything, and the generator register
    at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS_zero4 (c : Dev nD) (n : ℕ) (h : n ≤ cfg4.N) (hz : n = 0) : PhiS4 V c n h = Pipeline.ΦA spec4 c := by
  subst hz; rfl

/-- After point `n` (before point `n + 1`): the carried scratch at that point's contents. -/
theorem PhiS_succ4 (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

/-- Before a point that is not the first: the carried scratch at what the point before left. -/
theorem PhiS_pos4 (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of pipeline 4 on core `c`: the arrays as the region finds them (`V`); after the body at
    point `t` each input's buffer at its block and the outputs' at `outsAt4`; the invariant the class's
    (`PhiS4`: the class's `ΦA` before the first point, then the scoped rest with the carried scratch at `outsAt4`'s component);
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS_castSucc4 (c : Dev nD) (t : Fin cfg4.N) :
    (dat4 V c).Φ t.castSucc = PhiS4 V c t.val (Nat.le_of_lt t.isLt) := by
  dsimp only [dat4]; exact Pipeline.Dat.Φ_castSucc (PhiS4 V c) t

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The body leaves each input's buffer at its block. -/
theorem leaves4_0 (c : Dev nD) (t : Fin cfg4.N) : (dat4 V c).leavesExact 0 t = owns (c : Thread nD τ) (ms4_0 t) fullShare (iblk4 V c 0 t) := by
  rw [show (dat4 V c).leavesExact 0 t = owns (c : Thread nD τ) (ms4_0 t) fullShare ((dat4 V c).after 0 t) from by
    unfold Dat.leavesExact; rw [liveAt4_0 t], after4_0]
theorem leaves4_1 (c : Dev nD) (t : Fin cfg4.N) : (dat4 V c).leavesExact 1 t = owns (c : Thread nD τ) (ms4_1 t) fullShare (iblk4 V c 1 t) := by
  rw [show (dat4 V c).leavesExact 1 t = owns (c : Thread nD τ) (ms4_1 t) fullShare ((dat4 V c).after 1 t) from by
    unfold Dat.leavesExact; rw [liveAt4_1 t], after4_1]
theorem leaves4_2 (c : Dev nD) (t : Fin cfg4.N) : (dat4 V c).leavesExact 2 t = owns (c : Thread nD τ) (ms4_2 t) fullShare (iblk4 V c 2 t) := by
  rw [show (dat4 V c).leavesExact 2 t = owns (c : Thread nD τ) (ms4_2 t) fullShare ((dat4 V c).after 2 t) from by
    unfold Dat.leavesExact; rw [liveAt4_2 t], after4_2]

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks (`before4_W`); the closed forms say which case the point is in (`by_cases`), an output the case reads before covering holds what the point before left (`before4_W_κ`); so the
    run applies; the invariant hands the body the carried scratch at what the point before left (`PhiS_pos4`; at anything at the first point, `PhiS_zero4`), the other scratch buffers and the generator register at some state, and takes the carried scratch back at this point's contents (`PhiS_succ4`, by `scoverK_κ_N`); the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS_succ4]
  have hN : t.val < 25 := lt_of_lt_of_eq t.isLt (show cfg4.N = 25 from N_4)
  by_cases h0 : t.val % 5 = 0
  · by_cases h1 : t.val % 5 = 4
    · exfalso; omega
    · rw [leaves4_0, leaves4_1, leaves4_2]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS_castSucc4 V c t, PhiS_zero4 V c _ _ hz, PhiA4_eq]
        rw [outsAt4_A V c t h0 h1]
        unfold sout4_A_0; (try dsimp only)
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc4 V c t, PhiS_pos4 V c _ _ hz]
        rw [outsAt4_A V c t h0 h1]
        unfold sout4_A_0; (try dsimp only)
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 5 = 4
    · rw [leaves4_0, leaves4_1, leaves4_2]
      rw [show (dat4 V c).leavesExact 3 t = owns (c : Thread nD τ) (ms4_3 t) fullShare ((dat4 V c).after 3 t) from by
      unfold Dat.leavesExact; rw [liveAt4_3_C t (fun h => h0 ((hcond4_0 t).mp h)) ((hcond4_1 t).mpr h1)], after4_3]
      by_cases hz : t.val = 0
      · exfalso; have hN : t.val < 25 := lt_of_lt_of_eq t.isLt (show cfg4.N = 25 from N_4); omega
      · rw [PhiS_castSucc4 V c t, PhiS_pos4 V c _ _ hz]
        rw [outsAt4_C V c t h0 h1]
        unfold out4_C_3 sout4_C_0; (try dsimp only)
        iintro ⟨⟨⟨HS0, HR⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [leaves4_0, leaves4_1, leaves4_2]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 25 := lt_of_lt_of_eq t.isLt (show cfg4.N = 25 from N_4); omega
      · rw [PhiS_castSucc4 V c t, PhiS_pos4 V c _ _ hz]
        rw [outsAt4_B V c t h0 h1]
        unfold sout4_B_0; (try dsimp only)
        iintro ⟨⟨⟨HS0, HR⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS_zero4 V c 0 _ rfl]
  try exact Idealize.SL.BI.Entails.refl _

/-- After any point but the first the invariant gives `ΦA` back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS_pos4 V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Regions

end Cert.KernelIdeal.Run

end
-- ==== Proof.Run.Region5.lean ====
/- Custom call 5 of @main at any contents `V` of the buffers it finds: what its body leaves in every buffer, at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_dw2` (pipeline 5), at the entry contents `V` — class R  -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The kernel body on any staging memrefs: a subtype the run finds -/

/-- One staging buffer of output window 2, through which its contents are stated (`View.read_writes_of_cover`: the
    choice does not matter). -/
abbrev VO5_2 : View sig .tc .vmem S1x1280x256 .f32 := (Memref.whole cc5_stg2_0 : Memref sig .tc .vmem S1x1280x256 .f32).view
/-- Each window's current staging memref at point `t`, spelled as the pipeline passes it (`bodyAt5`), and its wholeness. -/
abbrev ms5_0 (t : Fin cfg5.N) : Memref sig .tc .vmem S1280x768 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2x416x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1280x256 .f32 := win5_2.stage (cfg5.slots t 2)
abbrev hs5_2 (t : Fin cfg5.N) : (ms5_2 t).IsWhole := hstage5_2 ((cfg5.slots t 2).cast nbuf5_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun5_A (c : Dev nD) (i : grid5.Coords) (arg2 : Memref sig .tc .vmem S1280x768 .bf16) (harg2 : arg2.IsWhole) (arg3 : Memref sig .tc .vmem S1x2x416x256 .bf16) (harg3 : arg3.IsWhole) (arg4 : Memref sig .tc .vmem S1x1280x256 .f32) (harg4 : arg4.IsWhole)
    (x0 : Vec F S1280x768 .bf16) (x1 : Vec F S1x2x416x256 .bf16) :
    { L2 : List (View.Piece (Elt F) S1x1280x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc5_dw2 i arg2 harg2 arg3 harg3 arg4 harg4) K } := by
  refine ⟨?_, fun E K => ?run⟩
  case run =>
    simp only [cc5_dw2_eq_skeleton]; unfold cc5_dw2_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The run's pieces for output 2 tile its block (1 store of `S1x1280x256`, checked by the kernel's evaluation: Lib/Ring.lean `Piece.tiledL`, linear in the pieces, through a loop's `@[irreducible]` trip theorem too), so they cover it. -/
theorem cover5_A_2 (c : Dev nD) (i : grid5.Coords) (arg2 : Memref sig .tc .vmem S1280x768 .bf16) (harg2 : arg2.IsWhole) (arg3 : Memref sig .tc .vmem S1x2x416x256 .bf16) (harg3 : arg3.IsWhole) (arg4 : Memref sig .tc .vmem S1x1280x256 .f32) (harg4 : arg4.IsWhole)
    (x0 : Vec F S1280x768 .bf16) (x1 : Vec F S1x2x416x256 .bf16) (y : S1x1280x256.Idx) :
    ∃ pc ∈ (kernelRun5_A c i arg2 harg2 arg3 harg3 arg4 harg4 x0 x1).1, y ∈ pc.1.set :=
  View.cover_of_tiledL (kernelRun5_A c i arg2 harg2 arg3 harg3 arg4 harg4 x0 x1).1 S1x1280x256.size (by sl_kernel_rfl) y

/-- What the run leaves in output 2's staging buffer: its pieces read back over junk. -/
def out5_A_2 (c : Dev nD) (i : grid5.Coords) (arg2 : Memref sig .tc .vmem S1280x768 .bf16) (harg2 : arg2.IsWhole) (arg3 : Memref sig .tc .vmem S1x2x416x256 .bf16) (harg3 : arg3.IsWhole) (arg4 : Memref sig .tc .vmem S1x1280x256 .f32) (harg4 : arg4.IsWhole)
    (x0 : Vec F S1280x768 .bf16) (x1 : Vec F S1x2x416x256 .bf16) : Vec F S1x1280x256 .f32 :=
  VO5_2.read (Elt F) (VO5_2.writes (Elt F) VO5_2.junk (kernelRun5_A c i arg2 harg2 arg3 harg3 arg4 harg4 x0 x1).1)

/-! ## What the outputs hold after each point -/

/-- What the outputs' staging buffers hold after the body at point `t`: the run's contents at
    the point's memrefs and input blocks. -/
def outsAt5 (c : Dev nD) (t : Fin cfg5.N) : Vec F S1x1280x256 .f32 :=
  out5_A_2 c (grid5.coords t) (ms5_0 t) (hs5_0 t) (ms5_1 t) (hs5_1 t) (ms5_2 t) (hs5_2 t) (iblk5 V c 0 t) (iblk5 V c 1 t)

/-! ## The pipeline's proof data -/

/-- The proof data of pipeline 5 on core `c`: the arrays as the region finds them (`V`); after the body at
    point `t` each input's buffer at its block and the outputs' at `outsAt5`; the invariant the class's
    (Lib/Pipeline/Frame.lean `ΦA`: the scoped rest and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t)
  Φ _ := Pipeline.ΦA spec5 c
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

/-- The body at any point: the inputs' memrefs hold their blocks (`before5_W`); so the
    run applies; the invariant passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  unfold outsAt5
  unfold out5_A_2
  iintro ⟨HΦ, Ho, ⟨%d0, H0⟩, ⟨%d1, H1⟩, ⟨%d2, H2⟩⟩
  iapply ((kernelRun5_A c (grid5.coords t) _ _ _ _ _ _ (iblk5 V c 0 t) (iblk5 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover5_A_2 c _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.Run.Hosts0.lean ====
/- The host operations of @main between the kernels. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v11, main_v12]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v14, main_c]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call0_v0, main_v15]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v16, main_v17, main_v18, main_v19, main_v20, main_v21, main_v22, main_v23, main_v24, main_v25, main_v26, main_v27]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v30, main_v31]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v34, main_v35, main_v36, main_v37, main_v38, main_v39]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

end Cert.KernelIdeal.Run

end
-- ==== Proof.Run.Fold0.lean ====
/- The buffer contents after each piece of @main, as a chain of valuations. -/
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Hosts0

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- After `hostOps2_1`. -/
abbrev W6 : Dev nD → Valuation τ sig (Elt F) := fun c => StableHlo.after hostOps2_1 (W5 m ρ c)
/-- A reference `hostOps2_1` does not write keeps its contents across it. -/
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W6_args (c : Dev nD) : ∀ a ∈ argRefs, W6 m ρ c (Proc.devRef .tc a) = m ((c : Thread nD τ).loc a) :=
  fun a ha => (W6_of m ρ c a (hostOps2_1_args a ha)).trans (W5_args m ρ c a ha)
/-- After `hostOps2_2` (region 2's entry). -/
abbrev W7 : Dev nD → Valuation τ sig (Elt F) := fun c => StableHlo.after hostOps2_2 (W6 m ρ c)
/-- A reference `hostOps2_2` does not write keeps its contents across it. -/
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W7_args (c : Dev nD) : ∀ a ∈ argRefs, W7 m ρ c (Proc.devRef .tc a) = m ((c : Thread nD τ).loc a) :=
  fun a ha => (W7_of m ρ c a (hostOps2_2_args a ha)).trans (W6_args m ρ c a ha)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded: `Dat.arrAt … N`), every other buffer as entered (Lib/Pipeline/FrameSuffix.lean `withArrays`) (region 3's entry). -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A reference that is none of region 2's OUTPUT arrays keeps its entry contents across it: an input window's
    array is never written back (`Dat.arrAt_in`, `A_eq2`); any other buffer is left as is. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After `hostOps4` (region 4's entry). -/
abbrev W10 : Dev nD → Valuation τ sig (Elt F) := fun c => StableHlo.after hostOps4 (W9 m ρ c)
/-- A reference `hostOps4` does not write keeps its contents across it. -/
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) : ∀ a ∈ argRefs, W10 m ρ c (Proc.devRef .tc a) = m ((c : Thread nD τ).loc a) :=
  fun a ha => (W10_of m ρ c a (hostOps4_args a ha)).trans (W9_args m ρ c a ha)
/-- The same read at the TensorCore's references (what region 4's proof data take). -/
abbrev V10 : (c : Dev nD) → (b : Ref sig .tc) → Buf (Elt F) ((c : Thread nD τ).loc b) := fun c b => W10 m ρ c b
/-- At region 4's exit: its arrays at what the pipeline leaves (the inputs as entered, each output's write-backs
    folded: `Dat.arrAt … N`), every other buffer as entered (Lib/Pipeline/FrameSuffix.lean `withArrays`) (region 5's entry). -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- A reference that is none of region 4's OUTPUT arrays keeps its entry contents across it: an input window's
    array is never written back (`Dat.arrAt_in`, `A_eq4`); any other buffer is left as is. -/
theorem W11_of (c : Dev nD) (r : Ref sig .tc) (h : ∀ w : Fin cfg4.W, Pipeline.arrRef spec4 w = r → (cfg4.win w).isOut = false) :
    W11 m ρ c (Proc.devRef .tc r) = W10 m ρ c (Proc.devRef .tc r) := by
  by_cases hw : ∃ w : Fin cfg4.W, Pipeline.arrRef spec4 w = r
  · obtain ⟨w, rfl⟩ := hw
    exact (W11_arr m ρ c w).trans (((dat4 (V10 m ρ) c).arrAt_in w (h w rfl) _).trans (A_eq4 (V10 m ρ) c w))
  · exact W11_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn4 a ha)).trans (W10_args m ρ c a ha)
/-- The same read at the TensorCore's references (region 4's exit contents). -/
abbrev V11 : (c : Dev nD) → (b : Ref sig .tc) → Buf (Elt F) ((c : Thread nD τ).loc b) := fun c b => W11 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it: an input window's
    array is never written back (`Dat.arrAt_in`, `A_eq5`); any other buffer is left as is. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`. -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
theorem W13_main_arg16 (c : Dev nD) : W13 m ρ c (Proc.devRef .tc main_arg16) = m ((c : Thread nD τ).loc main_arg16) :=
  W13_args m ρ c main_arg16 (by decide)
theorem W13_main_arg17 (c : Dev nD) : W13 m ρ c (Proc.devRef .tc main_arg17) = m ((c : Thread nD τ).loc main_arg17) :=
  W13_args m ρ c main_arg17 (by decide)
end Cert.KernelIdeal.Run

end
-- ==== Proof.Run.State.lean ====
/- The proof data of the six kernels and the state of the thread between the pieces of @main. -/
module

public import proofs.«01_k».proof.Proof.Run.Fold0

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V8 m ρ) c
  | ⟨4, _⟩ => fun c => dat4 (V10 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Run

end
-- ==== Proof.Run.Record0.lean ====
/- The record of custom call 0 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record1.lean ====
/- The record of custom call 1 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record2.lean ====
/- The record of custom call 2 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V7 m ρ) c
    unfold Pipeline.ΦA at h
    rw [show (pdats m ρ 2 c).Φ 0 = (dat2 (V7 m ρ) c).Φ 0 from rfl]
    iintro ⟨Hp, -, Hr⟩
    iapply h
    isplitl [Hr]; · iexact Hr
    iexact Hp
  hout c := by
    rw [Pipeline.ownSems0_none]
    have h := hout2 (V7 m ρ) c
    unfold Pipeline.ΦA at h
    rw [show (pdats m ρ 2 c).Φ (Fin.last _) = (dat2 (V7 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record3.lean ====
/- The record of custom call 3 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record4.lean ====
/- The record of custom call 4 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) (A_eq4 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V10 m ρ) c
    unfold Pipeline.ΦA at h
    rw [show (pdats m ρ 4 c).Φ 0 = (dat4 (V10 m ρ) c).Φ 0 from rfl]
    iintro ⟨Hp, -, Hr⟩
    iapply h
    isplitl [Hr]; · iexact Hr
    iexact Hp
  hout c := by
    rw [Pipeline.ownSems0_none]
    have h := hout4 (V10 m ρ) c
    unfold Pipeline.ΦA at h
    rw [show (pdats m ρ 4 c).Φ (Fin.last _) = (dat4 (V10 m ρ) c).Φ (Fin.last cfg4.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record5.lean ====
/- The record of custom call 5 of @main: what it needs on entry and what it leaves. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Frame.lean ====
/- The whole run of @main: its thirteen pieces in order, and what every final state looks like. -/
module

public import proofs.«01_k».proof.Proof.Run.Record0
public import proofs.«01_k».proof.Proof.Run.Record1
public import proofs.«01_k».proof.Proof.Run.Record2
public import proofs.«01_k».proof.Proof.Run.Record3
public import proofs.«01_k».proof.Proof.Run.Record4
public import proofs.«01_k».proof.Proof.Run.Record5

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .region (reg3 m ρ),
    .host (hseg hostOps4 hostOps4_sub hostOps4_fresh (W9 m ρ)),
    .region (reg4 m ρ),
    .region (reg5 m ρ),
    .host (hseg hostOps6 hostOps6_sub hostOps6_fresh (W12 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main from any memory with zero counters terminates without a fault, and in every
    final state each unscoped buffer of every core holds what the chain of contents `W0 … W13` says, and every
    semaphore counter is zero. -/
theorem final : θ_run defs (onTc (τ := τ) (main (F := F))) ⟨m, fun _ => 0, ρ⟩ (fun r => (∀ c : Dev nD,
      ∀ b ∈ Pipeline.ucRefs τ sig, r.2.mem (((c : Thread nD τ)).1, b) = W13 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The frame: @main terminates without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨(fun c =>
      ⟨(h.1 c _ (mem_uc main_arg0 (by decide))).trans (W13_main_arg0 m ρ c),
       (h.1 c _ (mem_uc main_arg1 (by decide))).trans (W13_main_arg1 m ρ c),
       (h.1 c _ (mem_uc main_arg2 (by decide))).trans (W13_main_arg2 m ρ c),
       (h.1 c _ (mem_uc main_arg3 (by decide))).trans (W13_main_arg3 m ρ c),
       (h.1 c _ (mem_uc main_arg4 (by decide))).trans (W13_main_arg4 m ρ c),
       (h.1 c _ (mem_uc main_arg5 (by decide))).trans (W13_main_arg5 m ρ c),
       (h.1 c _ (mem_uc main_arg6 (by decide))).trans (W13_main_arg6 m ρ c),
       (h.1 c _ (mem_uc main_arg7 (by decide))).trans (W13_main_arg7 m ρ c),
       (h.1 c _ (mem_uc main_arg8 (by decide))).trans (W13_main_arg8 m ρ c),
       (h.1 c _ (mem_uc main_arg9 (by decide))).trans (W13_main_arg9 m ρ c),
       (h.1 c _ (mem_uc main_arg10 (by decide))).trans (W13_main_arg10 m ρ c),
       (h.1 c _ (mem_uc main_arg11 (by decide))).trans (W13_main_arg11 m ρ c),
       (h.1 c _ (mem_uc main_arg12 (by decide))).trans (W13_main_arg12 m ρ c),
       (h.1 c _ (mem_uc main_arg13 (by decide))).trans (W13_main_arg13 m ρ c),
       (h.1 c _ (mem_uc main_arg14 (by decide))).trans (W13_main_arg14 m ρ c),
       (h.1 c _ (mem_uc main_arg15 (by decide))).trans (W13_main_arg15 m ρ c),
       (h.1 c _ (mem_uc main_arg16 (by decide))).trans (W13_main_arg16 m ρ c),
       (h.1 c _ (mem_uc main_arg17 (by decide))).trans (W13_main_arg17 m ρ c)⟩), h.2⟩) (final m ρ)

end Cert.KernelIdeal.Run

end
-- ==== Proof.Run.Transfer.lean ====
/- The printed kernel and its ideal form run the same text, so what is proved of the one is proved of the other. -/
module

public import proofs.«01_k».proof.Proof.Run.Frame
public import proofs.«01_k».proof.Proof.Gen.Kernel.Launch

@[expose] public section
set_option maxHeartbeats 0
set_option maxRecDepth 100000

namespace Cert.Kernel.Run
open Idealize.ShloMosaic Idealize.ShloMosaic.TcCoe Idealize.SL.Sem
open Cert.Kernel
variable [Cert.Kernel.Facts] [Cert.KernelIdeal.Facts]
variable {F : FTy → Type} [FloatOps F]

/-- The six kernel bodies, read region by region, are the same programs. -/
theorem defs₀_eq : Cert.Kernel.defs₀ (F := F) = Cert.KernelIdeal.defs₀ (F := F) := by
  unfold Cert.Kernel.defs₀ Cert.KernelIdeal.defs₀
  refine congrArg Defs.onTc ?_
  funext a b
  match a, b with
  | 0, (t, s) => rfl
  | 1, (t, s) => rfl
  | 2, (t, s) => rfl
  | 3, (t, s) => rfl
  | 4, (t, s) => rfl
  | 5, (t, s) => rfl

/-- The whole tables of definitions agree. -/
theorem defs_eq : Cert.Kernel.defs (F := F) = Cert.KernelIdeal.defs (F := F) := by
  unfold Cert.Kernel.defs Cert.KernelIdeal.defs
  rw [defs₀_eq]; rfl

/-- Every execution of the printed kernel ends without a fault, with its arguments unchanged and every semaphore
    counter at zero. -/
theorem frame (m : (ℓ : Loc nD τ sig) → Buf (Elt F) ℓ) (ρ : Dev nD → PrngReg) :
    θ_run (Cert.Kernel.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  rw [defs_eq]
  exact Cert.KernelIdeal.Run.frame m ρ

end Cert.Kernel.Run
-- ==== Proof.Value.Quant.lean ====
module
public import proofs.«01_k».proof.Proof.Gen.KernelIdeal.Skeleton
public import Idealize.ShloMosaic.Lib.Pointwise
@[expose] public section
set_option maxRecDepth 65536

/-!
The power-of-two quantiser of one row, on extended reals.  The reference asks for the largest power
of two not above `amax * f32(1/448)` and doubles it; the kernel counts how many powers of two are not
above it and assembles the scale and its inverse from the count.  Both give one scale and one code.
-/
noncomputable section
namespace Cert.Spec
open Idealize.ShloMosaic

/-- The sigmoid linear unit of a normalised value. -/
def gnSilu (v mean rstd gamma beta : EReal) : EReal :=
  ((v - mean) * rstd * gamma + beta) * Ideal.logistic ((v - mean) * rstd * gamma + beta)

/-- The largest absolute value of a row, times `f32(1/448)`. -/
def rowLevel {n : Nat} (f : Fin n → EReal) : EReal :=
  Finset.fold max (Ideal.ofBits .f32 4286578688#32)
    (fun x => FloatOps.absf (F := Ideal) (φ := .f32) (f x)) Finset.univ * Ideal.ofBits .f32 991054117#32

/-- The reference's candidate power of two number `k`. -/
def candidate (k : Fin 252) : EReal :=
  FloatOps.exp2 (F := Ideal) (φ := .f32) (FloatOps.sitofp (F := Ideal) .f32 (IntOp.subi (BitVec.ofNat 32 k.val) 126#32))

/-- The largest candidate not above `x`, zero when there is none. -/
def largest (x : EReal) : EReal :=
  Finset.fold max (Ideal.ofBits .f32 4286578688#32)
    (fun k : Fin 252 => if candidate k ≤ x then candidate k else 0) Finset.univ

/-- The row's scale. -/
def scaleOf (x : EReal) : EReal :=
  if largest x = 0 then 1 else Ideal.ofBits .f32 1073741824#32 * largest x

/-- The code of one value at the row's level. -/
def codeOf (v x : EReal) : EReal :=
  min (Ideal.ofBits .f32 1138753536#32) (max (Ideal.ofBits .f32 3286237184#32) (Ideal.div v (scaleOf x)))

/-- The kernel's count of powers of two not above `x`. -/
def kCount (x : EReal) : BitVec 32 :=
  Finset.fold IntOp.addi (0#32)
    (fun k : Fin 252 => BitVec.setWidth 32 (BitVec.ofBool (decide
      (Ideal.ofBits FTy.f32 (IntOp.shli ArithUnit.vector (IntOp.addi (BitVec.ofNat 32 k.val) 1#32) 23#32) ≤ x))))
    Finset.univ

/-- The kernel's scale of a count. -/
def kScale (c : BitVec 32) : EReal :=
  Ideal.ofBits FTy.f32 (IntOp.shli ArithUnit.vector
    (IntOp.addi (Scalar.select (IntOp.cmpi CmpIPredicate.eq c 0#32) (0#32) (IntOp.subi c 126#32)) 127#32) 23#32)

/-- The kernel's inverse scale of a count. -/
def kInv (c : BitVec 32) : EReal :=
  Ideal.ofBits FTy.f32 (IntOp.shli ArithUnit.vector
    (IntOp.addi (IntOp.subi (0#32)
      (Scalar.select (IntOp.cmpi CmpIPredicate.eq c 0#32) (0#32) (IntOp.subi c 126#32))) 127#32) 23#32)

/-- The fields of the pattern whose exponent is `n + 1` and whose significand is zero. -/
theorem word_fields : ∀ n : Fin 254,
    ((IntOp.shli ArithUnit.vector (BitVec.ofNat 32 (n.val + 1)) 23#32).extractLsb' (8 + 23) 1 == 1#1) = false ∧
    ((IntOp.shli ArithUnit.vector (BitVec.ofNat 32 (n.val + 1)) 23#32).extractLsb' 23 8).toNat = n.val + 1 ∧
    ((IntOp.shli ArithUnit.vector (BitVec.ofNat 32 (n.val + 1)) 23#32).extractLsb' 0 23).toNat = 0 := by
  decide +kernel

theorem ieee_word {b : BitVec 32} {n : Nat} (hn : n < 254)
    (h1 : (b.extractLsb' (8 + 23) 1 == 1#1) = false) (h2 : (b.extractLsb' 23 8).toNat = n + 1)
    (h3 : (b.extractLsb' 0 23).toNat = 0) :
    Ideal.ieee 8 23 b = (((2 : ℝ) ^ ((n : ℤ) - 126) : ℝ) : EReal) := by
  unfold Ideal.ieee
  simp only [h1, h2, h3]
  rw [if_neg (by omega), if_neg (by omega)]
  have h : ((2 : ℝ) ^ (23 : ℤ)) ≠ 0 := by positivity
  have e : (2 : ℝ) ^ ((n : ℤ) - 126) = (2 : ℝ) ^ (23 : ℤ) * (2 : ℝ) ^ ((n : ℤ) - 126 - 23) := by
    rw [← zpow_add₀ (by norm_num : (2 : ℝ) ≠ 0)]
    congr 1
    ring
  rw [e]
  congr 1
  have e2 : (((n + 1 : Nat) : ℤ) - (2 ^ (8 - 1) - 1) - ((23 : Nat) : ℤ)) = (n : ℤ) - 126 - 23 := by
    push_cast; norm_num; ring
  rw [e2]
  norm_num

/-- That pattern is a power of two. -/
theorem ofBits_word (n : Fin 254) :
    Ideal.ofBits FTy.f32 (IntOp.shli ArithUnit.vector (BitVec.ofNat 32 (n.val + 1)) 23#32)
      = (((2 : ℝ) ^ ((n.val : ℤ) - 126) : ℝ) : EReal) :=
  ieee_word n.isLt (word_fields n).1 (word_fields n).2.1 (word_fields n).2.2

theorem candidate_eq (k : Fin 252) : candidate k = (((2 : ℝ) ^ ((k.val : ℤ) - 126) : ℝ) : EReal) := by
  have h : ∀ k : Fin 252, (IntOp.subi (BitVec.ofNat 32 k.val) 126#32).toInt = (k.val : ℤ) - 126 := by
    decide +kernel
  show Ideal.exp2 ((((IntOp.subi (BitVec.ofNat 32 k.val) 126#32).toInt : ℝ)) : EReal) = _
  rw [Ideal.exp2_coe, h k]
  congr 1
  exact Real.rpow_intCast 2 _

theorem threshold_eq (k : Fin 252) :
    Ideal.ofBits FTy.f32 (IntOp.shli ArithUnit.vector (IntOp.addi (BitVec.ofNat 32 k.val) 1#32) 23#32)
      = candidate k := by
  have h : ∀ k : Fin 252, IntOp.addi (BitVec.ofNat 32 k.val) 1#32 = BitVec.ofNat 32 (k.val + 1) := by
    decide +kernel
  rw [h k, candidate_eq]
  exact ofBits_word ⟨k.val, by omega⟩

theorem candidate_mono {j k : Fin 252} (h : j ≤ k) : candidate j ≤ candidate k := by
  rw [candidate_eq, candidate_eq]
  refine EReal.coe_le_coe_iff.2 (zpow_le_zpow_right₀ (by norm_num) ?_)
  have : j.val ≤ k.val := h
  omega

theorem candidate_pos (k : Fin 252) : 0 < candidate k := by
  rw [candidate_eq]
  exact EReal.coe_pos.2 (zpow_pos (by norm_num) _)

/-- Adding ones as words counts. -/
theorem fold_count {ι : Type} [DecidableEq ι] (s : Finset ι) (P : ι → Prop) [DecidablePred P] :
    Finset.fold IntOp.addi (0#32) (fun k => BitVec.setWidth 32 (BitVec.ofBool (decide (P k)))) s
      = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun h' => ha (Finset.mem_filter.1 h').1)]
      simp only [h, decide_true]
      show BitVec.setWidth 32 (BitVec.ofBool true) + _ = _
      rw [Nat.add_comm, BitVec.ofNat_add]
      rfl
    · rw [if_neg h]
      simp only [h, decide_false]
      show BitVec.setWidth 32 (BitVec.ofBool false) + _ = _
      have : BitVec.setWidth 32 (BitVec.ofBool false) = 0#32 := rfl
      rw [this, BitVec.zero_add]

/-- The candidates not above `x` are the first `n`, for some `n`. -/
theorem exists_cut (x : EReal) : ∃ n : Nat, n ≤ 252 ∧ ∀ k : Fin 252, candidate k ≤ x ↔ k.val < n := by
  refine ⟨(Finset.univ.filter fun k : Fin 252 => candidate k ≤ x).card, ?_, fun k => ⟨fun h => ?_, fun h => ?_⟩⟩
  · exact (Finset.card_le_univ _).trans (by simp)
  · have hs : (Finset.univ.filter fun j : Fin 252 => j ≤ k) ⊆ Finset.univ.filter fun j => candidate j ≤ x := by
      intro j hj
      exact Finset.mem_filter.2 ⟨Finset.mem_univ _, (candidate_mono (Finset.mem_filter.1 hj).2).trans h⟩
    have := Finset.card_le_card hs
    have hc : (Finset.univ.filter fun j : Fin 252 => j ≤ k).card = k.val + 1 := by
      rw [Finset.filter_ge_eq_Iic] <;> simp
    omega
  · by_contra hk
    have hs : (Finset.univ.filter fun j : Fin 252 => candidate j ≤ x) ⊆ Finset.univ.filter fun j => j < k := by
      intro j hj
      refine Finset.mem_filter.2 ⟨Finset.mem_univ _, ?_⟩
      by_contra hjk
      exact hk ((candidate_mono (not_lt.1 hjk)).trans (Finset.mem_filter.1 hj).2)
    have := Finset.card_le_card hs
    have hc : (Finset.univ.filter fun j : Fin 252 => j < k).card = k.val := by
      rw [Finset.filter_gt_eq_Iio] <;> simp
    omega

theorem ofBits_ninf : Ideal.ofBits .f32 4286578688#32 = ⊥ := by
  simp [Ideal.ofBits, Ideal.ieee]

theorem ofBits_two : Ideal.ofBits .f32 1073741824#32 = ((2 : ℝ) : EReal) := by
  simp [Ideal.ofBits, Ideal.ieee, -EReal.coe_mul]
  norm_num

/-- The scale's exponent above `-126`, from the count. -/
def expo (n : Nat) : Nat := if n = 0 then 126 else n

theorem scaleOf_cut (x : EReal) (n : Nat) (hn : n ≤ 252) (h : ∀ k : Fin 252, candidate k ≤ x ↔ k.val < n) :
    scaleOf x = (((2 : ℝ) ^ ((expo n : ℤ) - 126) : ℝ) : EReal) := by
  unfold scaleOf
  rcases Nat.eq_zero_or_pos n with h0 | h0
  · have hl : largest x = 0 := by
      unfold largest
      rw [ofBits_ninf]
      refine le_antisymm ((Finset.fold_max_le _).2 ⟨bot_le, fun k _ => ?_⟩)
        ((Finset.le_fold_max _).2 (Or.inr ⟨0, Finset.mem_univ _, ?_⟩))
      · rw [if_neg (by rw [h]; omega)]
      · rw [if_neg (by rw [h]; omega)]
    rw [if_pos hl]
    subst h0
    simp [expo]
  · have hl : largest x = candidate ⟨n - 1, by omega⟩ := by
      unfold largest
      rw [ofBits_ninf]
      refine le_antisymm ((Finset.fold_max_le _).2 ⟨bot_le, fun k _ => ?_⟩)
        ((Finset.le_fold_max _).2 (Or.inr ⟨⟨n - 1, by omega⟩, Finset.mem_univ _, ?_⟩))
      · by_cases hk : k.val < n
        · rw [if_pos ((h k).2 hk)]
          exact candidate_mono (show k.val ≤ n - 1 by omega)
        · rw [if_neg (by rw [h]; exact hk)]
          exact (candidate_pos _).le
      · rw [if_pos ((h _).2 (show n - 1 < n by omega))]
    rw [hl, if_neg (candidate_pos _).ne', ofBits_two, candidate_eq, ← EReal.coe_mul]
    congr 1
    have he : expo n = n := if_neg (by omega)
    rw [he, ← zpow_one_add₀ (by norm_num : (2 : ℝ) ≠ 0)]
    congr 1
    push_cast [show 1 ≤ n from h0]
    ring

theorem kCount_cut (x : EReal) (n : Nat) (hn : n ≤ 252) (h : ∀ k : Fin 252, candidate k ≤ x ↔ k.val < n) :
    kCount x = BitVec.ofNat 32 n := by
  unfold kCount
  simp only [threshold_eq]
  rw [fold_count]
  congr 1
  rw [Finset.filter_congr (fun k _ => h k)]
  rw [Fin.card_filter_val_lt]
  omega

theorem scale_word : ∀ n : Fin 253,
    IntOp.addi (Scalar.select (IntOp.cmpi CmpIPredicate.eq (BitVec.ofNat 32 n.val) 0#32) (0#32)
      (IntOp.subi (BitVec.ofNat 32 n.val) 126#32)) 127#32 = BitVec.ofNat 32 (expo n.val + 1) := by
  decide +kernel

theorem inv_word : ∀ n : Fin 253,
    IntOp.addi (IntOp.subi (0#32) (Scalar.select (IntOp.cmpi CmpIPredicate.eq (BitVec.ofNat 32 n.val) 0#32) (0#32)
      (IntOp.subi (BitVec.ofNat 32 n.val) 126#32))) 127#32 = BitVec.ofNat 32 ((252 - expo n.val) + 1) := by
  decide +kernel

theorem expo_le {n : Nat} (hn : n ≤ 252) : expo n ≤ 252 := by
  unfold expo; split <;> omega

/-- The kernel's scale is the reference's. -/
theorem kScale_eq (x : EReal) : kScale (kCount x) = scaleOf x := by
  obtain ⟨n, hn, h⟩ := exists_cut x
  have he := expo_le hn
  rw [kCount_cut x n hn h, scaleOf_cut x n hn h]
  unfold kScale
  rw [scale_word ⟨n, by omega⟩]
  exact ofBits_word ⟨expo n, by omega⟩

/-- A product with the kernel's inverse scale is the reference's quotient. -/
theorem mul_kInv (x v : EReal) : v * kInv (kCount x) = Ideal.div v (scaleOf x) := by
  obtain ⟨n, hn, h⟩ := exists_cut x
  have he := expo_le hn
  rw [kCount_cut x n hn h, scaleOf_cut x n hn h, Ideal.div_coe (zpow_ne_zero _ (by norm_num))]
  unfold kInv
  rw [inv_word ⟨n, by omega⟩, ofBits_word ⟨252 - expo n, by omega⟩]
  congr 2
  rw [one_div, ← zpow_neg]
  congr 1
  push_cast [he]
  ring

/-- The kernel's code. -/
theorem kCode_eq (x v : EReal) :
    min (Ideal.ofBits .f32 1138753536#32) (max (Ideal.ofBits .f32 3286237184#32) (v * kInv (kCount x)))
      = codeOf v x := by
  rw [mul_kInv]; rfl

end Cert.Spec
-- ==== Proof.Value.Spec.lean ====
module
public import proofs.«01_k».proof.Proof.Value.Quant
@[expose] public section
set_option maxRecDepth 65536

/-!
The block's mathematics: rows are numbered from 0 to 767, image by image, sixteen to an image line.
-/
noncomputable section
namespace Cert.Spec
open Idealize.ShloMosaic

/-- The row a 3x3 tap meets at row `p`, zero outside the image: the row `ky - 1` lines and `kx - 1` places on. -/
def tapRow (R : ℕ → EReal) (ky kx p : ℕ) : EReal :=
  if 1 ≤ p % 384 / 16 + ky ∧ p % 384 / 16 + ky < 25 ∧ 1 ≤ p % 16 + kx ∧ p % 16 + kx < 17 then
    R (p + 16 * ky + kx - 17) else 0

/-- A row shifted along its line, zero past the line's ends. -/
def planeRow (R : ℕ → EReal) (kx p : ℕ) : EReal :=
  if 1 ≤ p % 16 + kx ∧ p % 16 + kx < 17 then R (p + kx - 1) else 0

theorem tapRow_eq (R : ℕ → EReal) (ky kx p : ℕ) :
    (if 16 ≤ p % 384 + 16 * ky ∧ p % 384 + 16 * ky < 400 then planeRow R kx (p + 16 * ky - 16) else 0) = tapRow R ky kx p := by
  unfold tapRow planeRow
  by_cases h1 : 16 ≤ p % 384 + 16 * ky ∧ p % 384 + 16 * ky < 400
  · rw [if_pos h1]
    have e : (p + 16 * ky - 16) % 16 = p % 16 := by omega
    rw [e]
    by_cases h2 : 1 ≤ p % 16 + kx ∧ p % 16 + kx < 17
    · rw [if_pos h2, if_pos (by omega)]
      congr 1
      omega
    · rw [if_neg h2, if_neg (by omega)]
  · rw [if_neg h1, if_neg (by omega)]

/-- The codes of the rows of `f`, -/
def codes {n : ℕ} (f : ℕ → Fin n → EReal) (p : ℕ) (d : Fin n) : EReal := codeOf (f p d) (rowLevel (f p))
/-- their scales, -/
def scales {n : ℕ} (f : ℕ → Fin n → EReal) (p : ℕ) : EReal := scaleOf (rowLevel (f p))
/-- and the quantised values. -/
def deq {n : ℕ} (f : ℕ → Fin n → EReal) (p : ℕ) (d : Fin n) : EReal := codes f p d * scales f p

/-- A dequantised, normalised value. -/
def normAct (x : Elt Ideal .i8) (sc mean rstd gamma beta : EReal) : EReal :=
  gnSilu (FloatOps.sitofp (F := Ideal) .f32 x * sc) mean rstd gamma beta

/-- Blocks of a range put together. -/
theorem sum_blocks {a b N : ℕ} (h : a * b = N) (f : Fin N → EReal) :
    ∑ s : Fin a, ∑ e : Fin b, f ⟨b * s.val + e.val, by
      have := s.isLt; have := e.isLt; subst h
      calc b * s.val + e.val < b * s.val + b := by omega
        _ = b * (s.val + 1) := by ring
        _ ≤ b * a := Nat.mul_le_mul_left _ (by omega)
        _ = a * b := Nat.mul_comm _ _⟩ = ∑ E : Fin N, f E := by
  subst h
  rw [← Fintype.sum_prod_type']
  refine Fintype.sum_equiv finProdFinEquiv _ _ fun x => ?_
  congr 1
  apply Fin.ext
  simp [finProdFinEquiv, Nat.add_comm]

/-- The two ways to pair two images over a tap: every pair of rows that the tap joins is met once. -/
theorem tap_swap (A G : ℕ → EReal) (ky kx : ℕ) (hy : ky < 3) (hx : kx < 3) :
    ∑ p : Fin 768, A p.val * tapRow G (2 - ky) (2 - kx) p.val = ∑ p : Fin 768, tapRow A ky kx p.val * G p.val := by
  have hl : ∀ p : Fin 768, A p.val * tapRow G (2 - ky) (2 - kx) p.val
      = ∑ q : Fin 768, if (1 ≤ q.val % 384 / 16 + ky ∧ q.val % 384 / 16 + ky < 25 ∧ 1 ≤ q.val % 16 + kx ∧ q.val % 16 + kx < 17)
          ∧ p.val = q.val + 16 * ky + kx - 17 then A p.val * G q.val else 0 := fun p => by
    unfold tapRow
    by_cases h : 1 ≤ p.val % 384 / 16 + (2 - ky) ∧ p.val % 384 / 16 + (2 - ky) < 25 ∧ 1 ≤ p.val % 16 + (2 - kx) ∧ p.val % 16 + (2 - kx) < 17
    · rw [if_pos h]
      have hq : p.val + 16 * (2 - ky) + (2 - kx) - 17 < 768 := by omega
      rw [Finset.sum_eq_single ⟨p.val + 16 * (2 - ky) + (2 - kx) - 17, hq⟩, if_pos]
      · dsimp only
        omega
      · intro q _ hne
        rw [if_neg]
        rintro ⟨h1, h2⟩
        exact hne (Fin.ext (by dsimp only; omega))
      · intro hn
        exact absurd (Finset.mem_univ _) hn
    · rw [if_neg h, mul_zero]
      symm
      refine Finset.sum_eq_zero fun q _ => if_neg ?_
      rintro ⟨h1, h2⟩
      omega
  have hr : ∀ q : Fin 768, tapRow A ky kx q.val * G q.val
      = ∑ p : Fin 768, if (1 ≤ q.val % 384 / 16 + ky ∧ q.val % 384 / 16 + ky < 25 ∧ 1 ≤ q.val % 16 + kx ∧ q.val % 16 + kx < 17)
          ∧ p.val = q.val + 16 * ky + kx - 17 then A p.val * G q.val else 0 := fun q => by
    unfold tapRow
    by_cases h : 1 ≤ q.val % 384 / 16 + ky ∧ q.val % 384 / 16 + ky < 25 ∧ 1 ≤ q.val % 16 + kx ∧ q.val % 16 + kx < 17
    · rw [if_pos h]
      have hq : q.val + 16 * ky + kx - 17 < 768 := by omega
      rw [Finset.sum_eq_single ⟨q.val + 16 * ky + kx - 17, hq⟩, if_pos ⟨h, rfl⟩]
      · intro p _ hne
        rw [if_neg]
        rintro ⟨h1, h2⟩
        exact hne (Fin.ext h2)
      · intro hn
        exact absurd (Finset.mem_univ _) hn
    · rw [if_neg h, zero_mul]
      symm
      exact Finset.sum_eq_zero fun p _ => if_neg fun h' => h h'.1
  rw [Finset.sum_congr rfl fun p _ => hl p, Finset.sum_comm]
  exact Finset.sum_congr rfl fun q _ => (hr q).symm

end Cert.Spec
-- ==== Proof.Value.Stage.lean ====
module
public import proofs.«01_k».proof.Proof.Gen.KernelIdeal.Skeleton
public import Idealize.ShloMosaic.Lib.Pointwise
public import Idealize.ShloMosaic.Lib.Pipeline.FrameBody
public import Idealize.ShloMosaic.Lib.Pipeline.Value
public import Idealize.ShloMosaic.Lib.WritesUnit
@[expose] public section
set_option maxRecDepth 65536

/-!
A buffer of 768 rows and 256 columns to which the body adds row ranges one after another.  `Stage` says
what a list of such stores has left: on the rows the list covers, and on the whole buffer above the
contents it found.
-/
noncomputable section
namespace Cert.Spec
open Idealize.ShloMosaic Idealize.ShloMosaic.TcCoe

/-- The shape of the accumulator. -/
abbrev SAcc : Shape := ⟨2, ![768, 256]⟩

/-- `S` with `P` added on rows `o … o + n - 1`. -/
def addRows (S : SAcc.Idx → EReal) (o n : ℕ) (P : SAcc.Idx → EReal) : SAcc.Idx → EReal :=
  fun y => S y + if o ≤ (y 0).val ∧ (y 0).val < o + n then P y else 0

/-- The rows in `U` or in `o … o + n - 1`. -/
def addCov (U : ℕ → Prop) (o n : ℕ) : ℕ → Prop := fun r => U r ∨ (o ≤ r ∧ r < o + n)

section
variable {sig : RefSig} {κ : Kind} {sp : Space}

/-- The stores `L` cover the rows in `U` and leave `S` there, and leave `S` everywhere above the contents `f`. -/
def Stage (v : View sig κ sp SAcc .f32) (f : v.ty.Contents (Elt Ideal))
    (L : List (View.Piece (Elt Ideal) SAcc .f32)) (S : SAcc.Idx → EReal) (U : ℕ → Prop) : Prop :=
  (∀ y : SAcc.Idx, U (y 0).val → View.canon L y = S y) ∧ ∀ y : SAcc.Idx, v.read (Elt Ideal) (v.writes (Elt Ideal) f L) y = S y

theorem Stage.nil (v : View sig κ sp SAcc .f32) (f : v.ty.Contents (Elt Ideal)) (S : SAcc.Idx → EReal)
    (h : ∀ y, v.read (Elt Ideal) f y = S y) : Stage v f [] S (fun _ => False) :=
  ⟨fun _ h => h.elim, h⟩

theorem mem_rows {o : ℕ} {size : Fin 2 → ℕ} (h1 : size 1 = 256) (y : SAcc.Idx)
    (h : o ≤ (y 0).val ∧ (y 0).val < o + size 0) :
    ∀ a : Fin SAcc.rank, (![o, 0] : Fin 2 → ℕ) a ≤ (y a).val ∧ (y a).val < (![o, 0] : Fin 2 → ℕ) a + size a :=
  Rect.unit_rows_mem y rfl h1 h

/-- A further store of rows `o …`. -/
theorem Stage.step {v : View sig κ sp SAcc .f32} {f : v.ty.Contents (Elt Ideal)}
    {L : List (View.Piece (Elt Ideal) SAcc .f32)} {S : SAcc.Idx → EReal} {U : ℕ → Prop} (h : Stage v f L S U)
    (o n : ℕ) (size : Fin 2 → ℕ) (h0 : size 0 = n) (h1 : size 1 = 256) (inb : ∀ a, (![o, 0] : Fin 2 → ℕ) a + size a ≤ SAcc.size a)
    (P : SAcc.Idx → EReal) (w : (Rect.unit (s := SAcc) ![o, 0] size inb).shape.Idx → Elt Ideal .f32)
    (hw : ∀ x, w x = S ((Rect.unit (s := SAcc) ![o, 0] size inb).emb x) + P ((Rect.unit (s := SAcc) ![o, 0] size inb).emb x)) :
    Stage v f (⟨Rect.unit (s := SAcc) ![o, 0] size inb, w⟩ :: L) (addRows S o n P) (addCov U o n) := by
  subst h0
  constructor
  · intro y hy
    by_cases hr : o ≤ (y 0).val ∧ (y 0).val < o + size 0
    · obtain ⟨x, rfl⟩ : ∃ x, (Rect.unit (s := SAcc) ![o, 0] size inb).emb x = y :=
        (Rect.unit (s := SAcc) ![o, 0] size inb).exists_idx_of_mem (by rw [Rect.mem_set_unit]; exact mem_rows h1 y hr)
      rw [View.canon_cons_emb, hw, addRows, if_pos hr]
    · have hm : y ∉ (Rect.unit (s := SAcc) ![o, 0] size inb).set := by
        intro hm
        rw [Rect.mem_set_unit] at hm
        exact hr (hm 0)
      rw [View.canon_cons_of_not_mem (⟨Rect.unit (s := SAcc) ![o, 0] size inb, w⟩ : View.Piece (Elt Ideal) SAcc .f32) L hm,
        addRows, if_neg hr, add_zero]
      exact h.1 y (hy.resolve_right hr)
  · intro y
    by_cases hr : o ≤ (y 0).val ∧ (y 0).val < o + size 0
    · obtain ⟨x, rfl⟩ : ∃ x, (Rect.unit (s := SAcc) ![o, 0] size inb).emb x = y :=
        (Rect.unit (s := SAcc) ![o, 0] size inb).exists_idx_of_mem (by rw [Rect.mem_set_unit]; exact mem_rows h1 y hr)
      rw [View.read_writes_cons_emb, hw, addRows, if_pos hr]
    · rw [View.read_writes_cons_unit_of_not_mem v f inb w L y rfl 0 (show (y 0).val < o ∨ o + size 0 ≤ (y 0).val by omega), addRows, if_neg hr, add_zero]
      exact h.2 y

/-- A store of the whole buffer. -/
theorem Stage.whole {v : View sig κ sp SAcc .f32} {f : v.ty.Contents (Elt Ideal)}
    {L : List (View.Piece (Elt Ideal) SAcc .f32)} {S : SAcc.Idx → EReal} {U : ℕ → Prop} (_ : Stage v f L S U)
    (inb : ∀ a, (![0, 0] : Fin 2 → ℕ) a + SAcc.size a ≤ SAcc.size a) (w : SAcc.Idx → EReal) :
    Stage v f (⟨Rect.unit (s := SAcc) ![0, 0] SAcc.size inb, w⟩ :: L) w (fun r => r < 768) := by
  have he : ∀ y : SAcc.Idx, (Rect.unit (s := SAcc) ![0, 0] SAcc.size inb).emb y = y := fun y => by
    funext a
    apply Fin.ext
    fin_cases a
    · show 0 + 1 * (y 0).val = (y 0).val; omega
    · show 0 + 1 * (y 1).val = (y 1).val; omega
  constructor
  · intro y _
    have := View.canon_cons_emb (Val := Elt Ideal) (Rect.unit (s := SAcc) ![0, 0] SAcc.size inb) w L y
    rwa [he] at this
  · intro y
    have := View.read_writes_cons_emb (Val := Elt Ideal) v f (Rect.unit (s := SAcc) ![0, 0] SAcc.size inb) w L y
    rwa [he] at this

/-- A load of covered rows. -/
theorem Stage.cov {v : View sig κ sp SAcc .f32} {f : v.ty.Contents (Elt Ideal)}
    {L : List (View.Piece (Elt Ideal) SAcc .f32)} {S : SAcc.Idx → EReal} {U : ℕ → Prop} (h : Stage v f L S U)
    (o : ℕ) (size : Fin 2 → ℕ) (inb : ∀ a, (![o, 0] : Fin 2 → ℕ) a + size a ≤ SAcc.size a)
    (hU : ∀ r, o ≤ r → r < o + size 0 → U r)
    (x : (Rect.unit (s := SAcc) ![o, 0] size inb).shape.Idx) :
    v.readCov L (Rect.unit (s := SAcc) ![o, 0] size inb).toLoadRect x = S ((Rect.unit (s := SAcc) ![o, 0] size inb).emb x) := by
  rw [View.readCov_eq_canon']
  refine h.1 _ (hU _ ?_ ?_)
  · show o ≤ o + 1 * (x 0).val; omega
  · show o + 1 * (x 0).val < o + size 0
    have : (x 0).val < size 0 := (x 0).isLt
    omega

/-- A load above the contents found. -/
theorem Stage.all {v : View sig κ sp SAcc .f32} {f : v.ty.Contents (Elt Ideal)}
    {L : List (View.Piece (Elt Ideal) SAcc .f32)} {S : SAcc.Idx → EReal} {U : ℕ → Prop} (h : Stage v f L S U)
    (o : ℕ) (size : Fin 2 → ℕ) (inb : ∀ a, (![o, 0] : Fin 2 → ℕ) a + size a ≤ SAcc.size a)
    (x : (Rect.unit (s := SAcc) ![o, 0] size inb).shape.Idx) :
    v.readAt (Elt Ideal) (Rect.unit (s := SAcc) ![o, 0] size inb).toLoadRect (v.writes (Elt Ideal) f L) x
      = S ((Rect.unit (s := SAcc) ![o, 0] size inb).emb x) :=
  h.2 _

end
end Cert.Spec
-- ==== Proof.Value.ConvPiece.lean ====
module
public import proofs.«01_k».proof.Proof.Value.Stage
@[expose] public section
set_option maxRecDepth 65536

/-!
One addition of the convolution's accumulation: a range of accumulator rows plus the same number of
rows of one tap's product, read at an index.
-/
noncomputable section
namespace Cert.Spec
open Idealize.ShloMosaic Idealize.ShloMosaic.TcCoe Cert.KernelIdeal Cert.KernelIdeal.Gen
variable [Cert.KernelIdeal.Facts]

/-- Row `q` of plane `kx`, zero past the last row. -/
def rowOf (x0 : Vec Ideal S3x768x256 .bf16) (kx : Fin 3) (q : ℕ) (d : Fin 256) : EReal :=
  if h : q < 768 then x0 (ix3 kx ⟨q, h⟩ d) else 0

/-- Row `q`, column `n` of the product of plane `kx` with tap `t`. -/
def prodRow (x0 : Vec Ideal S3x768x256 .bf16) (x1 : Vec Ideal S9x256x256 .fp8e4m3) (kx : Fin 3) (t : Fin 9)
    (q : ℕ) (n : Fin 256) : EReal := ∑ d : Fin 256, rowOf x0 kx q d * x1 (ix3 t d n)

/-- What a store at rows `o …` adds, its product's rows taken from `src`. -/
def tapAt (x0 : Vec Ideal S3x768x256 .bf16) (x1 : Vec Ideal S9x256x256 .fp8e4m3) (kx : Fin 3) (t : Fin 9)
    (o src : ℕ) : SAcc.Idx → EReal := fun y => prodRow x0 x1 kx t ((y 0).val - o + src) (y 1)

theorem read_plane (arg2 : Memref sig .tc .vmem S3x768x256 .bf16) (harg2 : arg2.IsWhole)
    (x0 : Vec Ideal S3x768x256 .bf16) (kx : Fin 3) (inb : ∀ a, (![kx.val, 0, 0] : Fin 3 → ℕ) a + S1x768x256.size a ≤ S3x768x256.size a)
    (q : Fin 768) (d : Fin 256) :
    View.readAt (Elt Ideal) arg2.view (Rect.unit (s := S3x768x256) ![kx.val, 0, 0] S1x768x256.size inb).toLoadRect
      (harg2.unread x0) (ix3 (0 : Fin 1) q d) = x0 (ix3 kx q d) := by
  show arg2.view.read (Elt Ideal) (harg2.unread x0) _ = _
  rw [Memref.IsWhole.read_unread]
  congr 1
  funext a
  fin_cases a <;> apply Fin.ext
  · show kx.val + 1 * 0 = kx.val; omega
  · show 0 + 1 * q.val = q.val; omega
  · show 0 + 1 * d.val = d.val; omega

theorem read_tap (arg3 : Memref sig .tc .vmem S9x256x256 .fp8e4m3) (harg3 : arg3.IsWhole)
    (x1 : Vec Ideal S9x256x256 .fp8e4m3) (t : Fin 9) (inb : ∀ a, (![t.val, 0, 0] : Fin 3 → ℕ) a + S1x256x256.size a ≤ S9x256x256.size a)
    (d n : Fin 256) :
    View.readAt (Elt Ideal) arg3.view (Rect.unit (s := S9x256x256) ![t.val, 0, 0] S1x256x256.size inb).toLoadRect
      (harg3.unread x1) (ix3 (0 : Fin 1) d n) = x1 (ix3 t d n) := by
  show arg3.view.read (Elt Ideal) (harg3.unread x1) _ = _
  rw [Memref.IsWhole.read_unread]
  congr 1
  funext a
  fin_cases a <;> apply Fin.ext
  · show t.val + 1 * 0 = t.val; omega
  · show 0 + 1 * d.val = d.val; omega
  · show 0 + 1 * n.val = n.val; omega

/-- The stored vector of one addition to 368 rows, its product's rows taken from `src`. -/
def conv368 (src : ℕ) (hs : S768x256.Slices ![src, 0] S368x256) (A : Vec Ideal S1x768x256 .bf16)
    (W : Vec Ideal S1x256x256 .fp8e4m3) (v : Vec Ideal S368x256 .f32) : FVec Ideal S368x256 .f32 :=
  shapeCast S368x256 (addf v (extractStridedSlice S368x256 ![src, 0]
    (matmul dot_S768x256_S256x256_S768x256_1_0_0_1_n_n none (shapeCast S768x256 A shapeCasts_S1x768x256_S768x256 : FVec Ideal S768x256 .bf16)
      (extf .bf16 (shapeCast S256x256 W shapeCasts_S1x256x256_S256x256 : FVec Ideal S256x256 .fp8e4m3) bitsLt_fp8e4m3_bf16 : FVec Ideal S256x256 .bf16)
      (constant S768x256 .f32 0x00000000#32)) hs) : FVec Ideal S368x256 .f32) shapeCasts_S368x256_S368x256

theorem conv368_piece (src : ℕ) (hs : S768x256.Slices ![src, 0] S368x256) (hb : src + 368 ≤ 768) (A : Vec Ideal S1x768x256 .bf16)
    (W : Vec Ideal S1x256x256 .fp8e4m3) (v : Vec Ideal S368x256 .f32) (i : Fin 368) (j : Fin 256) :
    conv368 src hs A W v (ix2 i j)
      = v (ix2 i j) + ∑ d : Fin 256, A (ix3 0 ⟨src + i.val, by omega⟩ d) * W (ix3 0 d j) := by
  pointwise [conv368]

/-- One addition to rows `o …` of an accumulator that holds `S`. -/
theorem conv368_at (arg2 : Memref sig .tc .vmem S3x768x256 .bf16) (harg2 : arg2.IsWhole)
    (arg3 : Memref sig .tc .vmem S9x256x256 .fp8e4m3) (harg3 : arg3.IsWhole)
    (x0 : Vec Ideal S3x768x256 .bf16) (x1 : Vec Ideal S9x256x256 .fp8e4m3) (kx : Fin 3) (t : Fin 9)
    (inbA : ∀ a, (![kx.val, 0, 0] : Fin 3 → ℕ) a + S1x768x256.size a ≤ S3x768x256.size a)
    (inbW : ∀ a, (![t.val, 0, 0] : Fin 3 → ℕ) a + S1x256x256.size a ≤ S9x256x256.size a)
    (o : ℕ) (inb : ∀ a, (![o, 0] : Fin 2 → ℕ) a + S368x256.size a ≤ SAcc.size a)
    (src : ℕ) (hs : S768x256.Slices ![src, 0] S368x256) (hb : src + 368 ≤ 768)
    (S : SAcc.Idx → EReal) (v : Vec Ideal S368x256 .f32)
    (hv : ∀ x : S368x256.Idx, v x = S ((Rect.unit (s := SAcc) ![o, 0] S368x256.size inb).emb x)) (x : S368x256.Idx) :
    conv368 src hs
      (View.readAt (Elt Ideal) arg2.view (Rect.unit (s := S3x768x256) ![kx.val, 0, 0] S1x768x256.size inbA).toLoadRect (harg2.unread x0))
      (View.readAt (Elt Ideal) arg3.view (Rect.unit (s := S9x256x256) ![t.val, 0, 0] S1x256x256.size inbW).toLoadRect (harg3.unread x1))
      v x
      = S ((Rect.unit (s := SAcc) ![o, 0] S368x256.size inb).emb x)
        + tapAt x0 x1 kx t o src ((Rect.unit (s := SAcc) ![o, 0] S368x256.size inb).emb x) := by
  rw [← hv]
  obtain ⟨i, j, rfl⟩ : ∃ (i : Fin 368) (j : Fin 256), x = ix2 i j :=
    ⟨x 0, x 1, funext fun a => by fin_cases a <;> rfl⟩
  rw [conv368_piece _ _ hb]
  congr 1
  unfold tapAt prodRow
  have hj : ((Rect.unit (s := SAcc) ![o, 0] S368x256.size inb).emb (ix2 i j)) 1 = j := Fin.ext (by
    show 0 + 1 * j.val = j.val; omega)
  have hi : (((Rect.unit (s := SAcc) ![o, 0] S368x256.size inb).emb (ix2 i j)) 0).val - o + src = src + i.val := by
    show o + 1 * i.val - o + src = src + i.val; omega
  rw [hj, hi]
  refine Finset.sum_congr rfl fun d _ => ?_
  rw [read_plane, read_tap, rowOf, dif_pos (by omega)]

/-- The stored vector of one addition to 384 rows, its product's rows taken from `src`. -/
def conv384 (src : ℕ) (hs : S768x256.Slices ![src, 0] S384x256) (A : Vec Ideal S1x768x256 .bf16)
    (W : Vec Ideal S1x256x256 .fp8e4m3) (v : Vec Ideal S384x256 .f32) : FVec Ideal S384x256 .f32 :=
  shapeCast S384x256 (addf v (extractStridedSlice S384x256 ![src, 0]
    (matmul dot_S768x256_S256x256_S768x256_1_0_0_1_n_n none (shapeCast S768x256 A shapeCasts_S1x768x256_S768x256 : FVec Ideal S768x256 .bf16)
      (extf .bf16 (shapeCast S256x256 W shapeCasts_S1x256x256_S256x256 : FVec Ideal S256x256 .fp8e4m3) bitsLt_fp8e4m3_bf16 : FVec Ideal S256x256 .bf16)
      (constant S768x256 .f32 0x00000000#32)) hs) : FVec Ideal S384x256 .f32) shapeCasts_S384x256_S384x256

theorem conv384_piece (src : ℕ) (hs : S768x256.Slices ![src, 0] S384x256) (hb : src + 384 ≤ 768) (A : Vec Ideal S1x768x256 .bf16)
    (W : Vec Ideal S1x256x256 .fp8e4m3) (v : Vec Ideal S384x256 .f32) (i : Fin 384) (j : Fin 256) :
    conv384 src hs A W v (ix2 i j)
      = v (ix2 i j) + ∑ d : Fin 256, A (ix3 0 ⟨src + i.val, by omega⟩ d) * W (ix3 0 d j) := by
  pointwise [conv384]

/-- One addition to rows `o …` of an accumulator that holds `S`. -/
theorem conv384_at (arg2 : Memref sig .tc .vmem S3x768x256 .bf16) (harg2 : arg2.IsWhole)
    (arg3 : Memref sig .tc .vmem S9x256x256 .fp8e4m3) (harg3 : arg3.IsWhole)
    (x0 : Vec Ideal S3x768x256 .bf16) (x1 : Vec Ideal S9x256x256 .fp8e4m3) (kx : Fin 3) (t : Fin 9)
    (inbA : ∀ a, (![kx.val, 0, 0] : Fin 3 → ℕ) a + S1x768x256.size a ≤ S3x768x256.size a)
    (inbW : ∀ a, (![t.val, 0, 0] : Fin 3 → ℕ) a + S1x256x256.size a ≤ S9x256x256.size a)
    (o : ℕ) (inb : ∀ a, (![o, 0] : Fin 2 → ℕ) a + S384x256.size a ≤ SAcc.size a)
    (src : ℕ) (hs : S768x256.Slices ![src, 0] S384x256) (hb : src + 384 ≤ 768)
    (S : SAcc.Idx → EReal) (v : Vec Ideal S384x256 .f32)
    (hv : ∀ x : S384x256.Idx, v x = S ((Rect.unit (s := SAcc) ![o, 0] S384x256.size inb).emb x)) (x : S384x256.Idx) :
    conv384 src hs
      (View.readAt (Elt Ideal) arg2.view (Rect.unit (s := S3x768x256) ![kx.val, 0, 0] S1x768x256.size inbA).toLoadRect (harg2.unread x0))
      (View.readAt (Elt Ideal) arg3.view (Rect.unit (s := S9x256x256) ![t.val, 0, 0] S1x256x256.size inbW).toLoadRect (harg3.unread x1))
      v x
      = S ((Rect.unit (s := SAcc) ![o, 0] S384x256.size inb).emb x)
        + tapAt x0 x1 kx t o src ((Rect.unit (s := SAcc) ![o, 0] S384x256.size inb).emb x) := by
  rw [← hv]
  obtain ⟨i, j, rfl⟩ : ∃ (i : Fin 384) (j : Fin 256), x = ix2 i j :=
    ⟨x 0, x 1, funext fun a => by fin_cases a <;> rfl⟩
  rw [conv384_piece _ _ hb]
  congr 1
  unfold tapAt prodRow
  have hj : ((Rect.unit (s := SAcc) ![o, 0] S384x256.size inb).emb (ix2 i j)) 1 = j := Fin.ext (by
    show 0 + 1 * j.val = j.val; omega)
  have hi : (((Rect.unit (s := SAcc) ![o, 0] S384x256.size inb).emb (ix2 i j)) 0).val - o + src = src + i.val := by
    show o + 1 * i.val - o + src = src + i.val; omega
  rw [hj, hi]
  refine Finset.sum_congr rfl fun d _ => ?_
  rw [read_plane, read_tap, rowOf, dif_pos (by omega)]

end Cert.Spec
-- ==== Proof.Value.StageMore.lean ====
module
public import proofs.«01_k».proof.Proof.Value.Stage
@[expose] public section

/-!
Two ways to weaken what a list of stores is known to have left.
-/
namespace Cert.Spec
open Idealize.ShloMosaic Idealize.ShloMosaic.TcCoe

theorem Stage.congr {sig : RefSig} {κ : Kind} {sp : Space} {v : View sig κ sp SAcc .f32} {f : v.ty.Contents (Elt Ideal)}
    {L : List (View.Piece (Elt Ideal) SAcc .f32)} {S S' : SAcc.Idx → EReal} {U : ℕ → Prop} (h : Stage v f L S U)
    (hS : ∀ y, S y = S' y) : Stage v f L S' U := (funext hS : S = S') ▸ h

theorem Stage.mono {sig : RefSig} {κ : Kind} {sp : Space} {v : View sig κ sp SAcc .f32} {f : v.ty.Contents (Elt Ideal)}
    {L : List (View.Piece (Elt Ideal) SAcc .f32)} {S : SAcc.Idx → EReal} {U U' : ℕ → Prop} (h : Stage v f L S U)
    (hU : ∀ r, r < 768 → U' r → U r) : Stage v f L S U' :=
  ⟨fun y hy => h.1 y (hU _ (y 0).isLt hy), h.2⟩

end Cert.Spec
-- ==== Proof.Value.ConvStage.lean ====
module
public import proofs.«01_k».proof.Proof.Value.ConvPiece
public import proofs.«01_k».proof.Proof.Value.StageMore
public import proofs.«01_k».proof.Proof.Run.Region2
@[expose] public section
set_option maxRecDepth 65536

/-!
What the convolution's eighteen additions of one grid point leave in the accumulator, in the first point
of a sweep (over zeros), a middle one and the last one (over what the point before left).
-/
noncomputable section
namespace Cert.Spec
open Idealize.ShloMosaic Idealize.ShloMosaic.TcCoe Cert.KernelIdeal Cert.KernelIdeal.Gen Cert.KernelIdeal.Run

/-- The first accumulator row of addition `k`, its number of rows, and the first product row. -/
def convO (k : ℕ) : ℕ := k % 2 * 384 + if k / 2 / 3 = 0 then 16 else 0
def convN (k : ℕ) : ℕ := if k / 2 / 3 = 1 then 384 else 368
def convSrc (k : ℕ) : ℕ := k % 2 * 384 + if k / 2 / 3 = 2 then 16 else 0

/-- The accumulator after the first `k` additions. -/
def convAcc (x0 : Vec Ideal S3x768x256 .bf16) (x1 : Vec Ideal S9x256x256 .fp8e4m3) (S : SAcc.Idx → EReal) :
    ℕ → SAcc.Idx → EReal
  | 0 => S
  | k + 1 => addRows (convAcc x0 x1 S k) (convO k) (convN k)
      (tapAt x0 x1 ⟨k / 2 % 3, Nat.mod_lt _ (by decide)⟩ ⟨k / 2 % 9, Nat.mod_lt _ (by decide)⟩ (convO k) (convSrc k))

/-- A further addition to 368 rows from `o`, all of them covered before. -/
theorem Stage.tap368 {sig : RefSig} {κ : Kind} {sp : Space} {v : View sig κ sp SAcc .f32} {f : v.ty.Contents (Elt Ideal)}
    {L : List (View.Piece (Elt Ideal) SAcc .f32)} {S : SAcc.Idx → EReal} {U U' : ℕ → Prop} (h : Stage v f L S U)
    {arg2 : Memref Cert.KernelIdeal.sig .tc .vmem S3x768x256 .bf16} {harg2 : arg2.IsWhole} {arg3 : Memref Cert.KernelIdeal.sig .tc .vmem S9x256x256 .fp8e4m3} {harg3 : arg3.IsWhole}
    {x0 : Vec Ideal S3x768x256 .bf16} {x1 : Vec Ideal S9x256x256 .fp8e4m3} (kx : Fin 3) (t : Fin 9)
    {inbA : ∀ a, (![kx.val, 0, 0] : Fin 3 → ℕ) a + S1x768x256.size a ≤ S3x768x256.size a}
    {inbW : ∀ a, (![t.val, 0, 0] : Fin 3 → ℕ) a + S1x256x256.size a ≤ S9x256x256.size a}
    (o : ℕ) {inb : ∀ a, (![o, 0] : Fin 2 → ℕ) a + S368x256.size a ≤ SAcc.size a}
    (src : ℕ) (hs : S768x256.Slices ![src, 0] S368x256) (hb : src + 368 ≤ 768 := by decide)
    (hU : ∀ r, o ≤ r → r < o + 368 → U r := by intro r h1 h2; omega)
    (hm : ∀ r, r < 768 → U' r → U r ∨ (o ≤ r ∧ r < o + 368) := by intro r h1 h2; omega) :
    Stage v f (⟨Rect.unit (s := SAcc) ![o, 0] S368x256.size inb, conv368 src hs
        (View.readAt (Elt Ideal) arg2.view (Rect.unit (s := S3x768x256) ![kx.val, 0, 0] S1x768x256.size inbA).toLoadRect (harg2.unread x0))
        (View.readAt (Elt Ideal) arg3.view (Rect.unit (s := S9x256x256) ![t.val, 0, 0] S1x256x256.size inbW).toLoadRect (harg3.unread x1))
        (v.readCov L (Rect.unit (s := SAcc) ![o, 0] S368x256.size inb).toLoadRect)⟩ :: L)
      (addRows S o 368 (tapAt x0 x1 kx t o src)) U' :=
  (h.step o 368 S368x256.size rfl rfl inb _ _ (conv368_at arg2 harg2 arg3 harg3 x0 x1 kx t inbA inbW o inb src hs hb _ _
    (h.cov o S368x256.size inb hU))).mono hm

/-- A further addition to 384 rows from `o`, all of them covered before. -/
theorem Stage.tap384 {sig : RefSig} {κ : Kind} {sp : Space} {v : View sig κ sp SAcc .f32} {f : v.ty.Contents (Elt Ideal)}
    {L : List (View.Piece (Elt Ideal) SAcc .f32)} {S : SAcc.Idx → EReal} {U U' : ℕ → Prop} (h : Stage v f L S U)
    {arg2 : Memref Cert.KernelIdeal.sig .tc .vmem S3x768x256 .bf16} {harg2 : arg2.IsWhole} {arg3 : Memref Cert.KernelIdeal.sig .tc .vmem S9x256x256 .fp8e4m3} {harg3 : arg3.IsWhole}
    {x0 : Vec Ideal S3x768x256 .bf16} {x1 : Vec Ideal S9x256x256 .fp8e4m3} (kx : Fin 3) (t : Fin 9)
    {inbA : ∀ a, (![kx.val, 0, 0] : Fin 3 → ℕ) a + S1x768x256.size a ≤ S3x768x256.size a}
    {inbW : ∀ a, (![t.val, 0, 0] : Fin 3 → ℕ) a + S1x256x256.size a ≤ S9x256x256.size a}
    (o : ℕ) {inb : ∀ a, (![o, 0] : Fin 2 → ℕ) a + S384x256.size a ≤ SAcc.size a}
    (src : ℕ) (hs : S768x256.Slices ![src, 0] S384x256) (hb : src + 384 ≤ 768 := by decide)
    (hU : ∀ r, o ≤ r → r < o + 384 → U r := by intro r h1 h2; omega)
    (hm : ∀ r, r < 768 → U' r → U r ∨ (o ≤ r ∧ r < o + 384) := by intro r h1 h2; omega) :
    Stage v f (⟨Rect.unit (s := SAcc) ![o, 0] S384x256.size inb, conv384 src hs
        (View.readAt (Elt Ideal) arg2.view (Rect.unit (s := S3x768x256) ![kx.val, 0, 0] S1x768x256.size inbA).toLoadRect (harg2.unread x0))
        (View.readAt (Elt Ideal) arg3.view (Rect.unit (s := S9x256x256) ![t.val, 0, 0] S1x256x256.size inbW).toLoadRect (harg3.unread x1))
        (v.readCov L (Rect.unit (s := SAcc) ![o, 0] S384x256.size inb).toLoadRect)⟩ :: L)
      (addRows S o 384 (tapAt x0 x1 kx t o src)) U' :=
  (h.step o 384 S384x256.size rfl rfl inb _ _ (conv384_at arg2 harg2 arg3 harg3 x0 x1 kx t inbA inbW o inb src hs hb _ _
    (h.cov o S384x256.size inb hU))).mono hm

set_option maxHeartbeats 1000000 in
/-- Case A. -/
theorem stage2_A {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : cond2_0 i} {hc1 : ¬cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {f : arg12.view.ty.Contents (Elt Ideal)} :
    Stage arg12.view (f) ((kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1) (convAcc x0 x1 (fun _ => 0) 18) (fun r => r < 768) := by
  have s0 : Stage arg12.view f kernelRun2_A.sl.HS0_1 (convAcc x0 x1 (fun _ => 0) 0) (fun r => r < 768) := by
    have hz : ∀ y : SAcc.Idx, k2_pay6 (F := Ideal) y = 0 := by
      intro y
      obtain ⟨i, j, rfl⟩ : ∃ (i : Fin 768) (j : Fin 256), y = ix2 i j := ⟨y 0, y 1, funext fun a => by fin_cases a <;> rfl⟩
      pointwise [k2_pay6]
    have h : Stage arg12.view f kernelRun2_A.sl.HS0_1 (k2_pay6 (F := Ideal)) (fun r => r < 768) :=
      (Stage.nil arg12.view f (fun y => arg12.view.read (Elt Ideal) f y) fun _ => rfl).whole
        inb_S768x256_S768x256_0_0 (k2_pay6 (F := Ideal))
    exact h.congr (S' := fun _ => 0) hz
  have s1 : Stage arg12.view f (kernelRun2_A.sl.HS0_2 c arg2 harg2 arg3 harg3 arg12 x0 x1)
      (convAcc x0 x1 (fun _ => 0) 1) (fun r => r < 768) :=
    s0.tap368 0 0 16 0 slices_S768x256_o0_0_S368x256
  have s2 : Stage arg12.view f (kernelRun2_A.sl.HS0_3 c arg2 harg2 arg3 harg3 arg12 x0 x1)
      (convAcc x0 x1 (fun _ => 0) 2) (fun r => r < 768) :=
    s1.tap368 0 0 400 384 slices_S768x256_o384_0_S368x256
  have s3 : Stage arg12.view f (kernelRun2_A.sl.HS0_4 c arg2 harg2 arg3 harg3 arg12 x0 x1)
      (convAcc x0 x1 (fun _ => 0) 3) (fun r => r < 768) :=
    s2.tap368 1 1 16 0 slices_S768x256_o0_0_S368x256
  have s4 : Stage arg12.view f (kernelRun2_A.sl.HS0_5 c arg2 harg2 arg3 harg3 arg12 x0 x1)
      (convAcc x0 x1 (fun _ => 0) 4) (fun r => r < 768) :=
    s3.tap368 1 1 400 384 slices_S768x256_o384_0_S368x256
  have s5 : Stage arg12.view f (kernelRun2_A.sl.HS0_6 c arg2 harg2 arg3 harg3 arg12 x0 x1)
      (convAcc x0 x1 (fun _ => 0) 5) (fun r => r < 768) :=
    s4.tap368 2 2 16 0 slices_S768x256_o0_0_S368x256
  have s6 : Stage arg12.view f (kernelRun2_A.sl.HS0_7 c arg2 harg2 arg3 harg3 arg12 x0 x1)
      (convAcc x0 x1 (fun _ => 0) 6) (fun r => r < 768) :=
    s5.tap368 2 2 400 384 slices_S768x256_o384_0_S368x256
  have s7 : Stage arg12.view f (kernelRun2_A.sl.HS0_8 c arg2 harg2 arg3 harg3 arg12 x0 x1)
      (convAcc x0 x1 (fun _ => 0) 7) (fun r => r < 768) :=
    s6.tap384 0 3 0 0 slices_S768x256_o0_0_S384x256
  have s8 : Stage arg12.view f (kernelRun2_A.sl.HS0_9 c arg2 harg2 arg3 harg3 arg12 x0 x1)
      (convAcc x0 x1 (fun _ => 0) 8) (fun r => r < 768) :=
    s7.tap384 0 3 384 384 slices_S768x256_o384_0_S384x256
  have s9 : Stage arg12.view f (kernelRun2_A.sl.HS0_10 c arg2 harg2 arg3 harg3 arg12 x0 x1)
      (convAcc x0 x1 (fun _ => 0) 9) (fun r => r < 768) :=
    s8.tap384 1 4 0 0 slices_S768x256_o0_0_S384x256
  have s10 : Stage arg12.view f (kernelRun2_A.sl.HS0_11 c arg2 harg2 arg3 harg3 arg12 x0 x1)
      (convAcc x0 x1 (fun _ => 0) 10) (fun r => r < 768) :=
    s9.tap384 1 4 384 384 slices_S768x256_o384_0_S384x256
  have s11 : Stage arg12.view f (kernelRun2_A.sl.HS0_12 c arg2 harg2 arg3 harg3 arg12 x0 x1)
      (convAcc x0 x1 (fun _ => 0) 11) (fun r => r < 768) :=
    s10.tap384 2 5 0 0 slices_S768x256_o0_0_S384x256
  have s12 : Stage arg12.view f (kernelRun2_A.sl.HS0_13 c arg2 harg2 arg3 harg3 arg12 x0 x1)
      (convAcc x0 x1 (fun _ => 0) 12) (fun r => r < 768) :=
    s11.tap384 2 5 384 384 slices_S768x256_o384_0_S384x256
  have s13 : Stage arg12.view f (kernelRun2_A.sl.HS0_14 c arg2 harg2 arg3 harg3 arg12 x0 x1)
      (convAcc x0 x1 (fun _ => 0) 13) (fun r => r < 768) :=
    s12.tap368 0 6 0 16 slices_S768x256_o16_0_S368x256
  have s14 : Stage arg12.view f (kernelRun2_A.sl.HS0_15 c arg2 harg2 arg3 harg3 arg12 x0 x1)
      (convAcc x0 x1 (fun _ => 0) 14) (fun r => r < 768) :=
    s13.tap368 0 6 384 400 slices_S768x256_o400_0_S368x256
  have s15 : Stage arg12.view f (kernelRun2_A.sl.HS0_16 c arg2 harg2 arg3 harg3 arg12 x0 x1)
      (convAcc x0 x1 (fun _ => 0) 15) (fun r => r < 768) :=
    s14.tap368 1 7 0 16 slices_S768x256_o16_0_S368x256
  have s16 : Stage arg12.view f (kernelRun2_A.sl.HS0_17 c arg2 harg2 arg3 harg3 arg12 x0 x1)
      (convAcc x0 x1 (fun _ => 0) 16) (fun r => r < 768) :=
    s15.tap368 1 7 384 400 slices_S768x256_o400_0_S368x256
  have s17 : Stage arg12.view f (kernelRun2_A.sl.HS0_18 c arg2 harg2 arg3 harg3 arg12 x0 x1)
      (convAcc x0 x1 (fun _ => 0) 17) (fun r => r < 768) :=
    s16.tap368 2 8 0 16 slices_S768x256_o16_0_S368x256
  have s18 : Stage arg12.view f ((kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)
      (convAcc x0 x1 (fun _ => 0) 18) (fun r => r < 768) :=
    s17.tap368 2 8 384 400 slices_S768x256_o400_0_S368x256
  exact s18

set_option maxHeartbeats 1000000 in
/-- The first seventeen additions over what the point before left: the same in cases B and C. -/
theorem stage2_mid {c : Dev nD} {arg2 : Memref sig .tc .vmem S3x768x256 .bf16} {harg2 : arg2.IsWhole} {arg3 : Memref sig .tc .vmem S9x256x256 .fp8e4m3} {harg3 : arg3.IsWhole}
    {arg12 : Memref sig .tc .vmem S768x256 .f32} {harg12 : arg12.IsWhole}
    {x0 : Vec Ideal S3x768x256 .bf16} {x1 : Vec Ideal S9x256x256 .fp8e4m3} {xs0 : Vec Ideal S768x256 .f32} :
    Stage arg12.view (harg12.unread xs0) (kernelRun2_B.sl.HS0_17 c arg2 harg2 arg3 harg3 arg12 harg12 x0 x1 xs0)
      (convAcc x0 x1 xs0 17) (fun r => r < 768) := by
  have s0 : Stage arg12.view (harg12.unread xs0) [] (convAcc x0 x1 xs0 0) (fun _ => False) :=
    Stage.nil _ _ _ fun y => by rw [Memref.IsWhole.read_unread]; rfl
  have s1 : Stage arg12.view (harg12.unread xs0) ([⟨Rect.unit (s := SAcc) ![16, 0] S368x256.size inb_S768x256_S368x256_16_0, k2_pay8 (View.readAt (Elt Ideal) arg3.view (Rect.unit (s := S9x256x256) ![0, 0, 0] S1x256x256.size inb_S9x256x256_S1x256x256_0_0_0).toLoadRect (harg3.unread x1)) (View.readAt (Elt Ideal) arg2.view (Rect.unit (s := S3x768x256) ![0, 0, 0] S1x768x256.size inb_S3x768x256_S1x768x256_0_0_0).toLoadRect (harg2.unread x0)) (View.readAt (Elt Ideal) arg12.view (Rect.unit (s := SAcc) ![16, 0] S368x256.size inb_S768x256_S368x256_16_0).toLoadRect (harg12.unread xs0))⟩])
      (convAcc x0 x1 xs0 1) (fun r => 16 ≤ r ∧ r < 384) :=
    (s0.step 16 368 S368x256.size rfl rfl inb_S768x256_S368x256_16_0
      (tapAt x0 x1 0 0 16 0) _
      (conv368_at arg2 harg2 arg3 harg3 x0 x1 0 0 inb_S3x768x256_S1x768x256_0_0_0 inb_S9x256x256_S1x256x256_0_0_0
        16 inb_S768x256_S368x256_16_0 0 slices_S768x256_o0_0_S368x256 (by decide) _ _ (s0.all 16 S368x256.size inb_S768x256_S368x256_16_0))).mono (by intro r hr h; unfold addCov; omega)
  have s2 : Stage arg12.view (harg12.unread xs0) (kernelRun2_B.sl.HS0_2 c arg2 harg2 arg3 harg3 arg12 harg12 x0 x1 xs0)
      (convAcc x0 x1 xs0 2) (fun r => (16 ≤ r ∧ r < 384) ∨ (400 ≤ r ∧ r < 768)) :=
    (s1.step 400 368 S368x256.size rfl rfl inb_S768x256_S368x256_400_0
      (tapAt x0 x1 0 0 400 384) _
      (conv368_at arg2 harg2 arg3 harg3 x0 x1 0 0 inb_S3x768x256_S1x768x256_0_0_0 inb_S9x256x256_S1x256x256_0_0_0
        400 inb_S768x256_S368x256_400_0 384 slices_S768x256_o384_0_S368x256 (by decide) _ _ (fun x => (s0.all 400 S368x256.size inb_S768x256_S368x256_400_0 x).trans (by
        show _ = addRows _ _ _ _ _
        rw [addRows, if_neg (by show ¬(16 ≤ 400 + 1 * (x 0).val ∧ 400 + 1 * (x 0).val < 16 + 368); omega), add_zero])))).mono (by intro r hr h; unfold addCov; omega)
  have s3 : Stage arg12.view (harg12.unread xs0) (kernelRun2_B.sl.HS0_3 c arg2 harg2 arg3 harg3 arg12 harg12 x0 x1 xs0)
      (convAcc x0 x1 xs0 3) (fun r => (16 ≤ r ∧ r < 384) ∨ (400 ≤ r ∧ r < 768)) :=
    s2.tap368 1 1 16 0 slices_S768x256_o0_0_S368x256
  have s4 : Stage arg12.view (harg12.unread xs0) (kernelRun2_B.sl.HS0_4 c arg2 harg2 arg3 harg3 arg12 harg12 x0 x1 xs0)
      (convAcc x0 x1 xs0 4) (fun r => (16 ≤ r ∧ r < 384) ∨ (400 ≤ r ∧ r < 768)) :=
    s3.tap368 1 1 400 384 slices_S768x256_o384_0_S368x256
  have s5 : Stage arg12.view (harg12.unread xs0) (kernelRun2_B.sl.HS0_5 c arg2 harg2 arg3 harg3 arg12 harg12 x0 x1 xs0)
      (convAcc x0 x1 xs0 5) (fun r => (16 ≤ r ∧ r < 384) ∨ (400 ≤ r ∧ r < 768)) :=
    s4.tap368 2 2 16 0 slices_S768x256_o0_0_S368x256
  have s6 : Stage arg12.view (harg12.unread xs0) (kernelRun2_B.sl.HS0_6 c arg2 harg2 arg3 harg3 arg12 harg12 x0 x1 xs0)
      (convAcc x0 x1 xs0 6) (fun r => (16 ≤ r ∧ r < 384) ∨ (400 ≤ r ∧ r < 768)) :=
    s5.tap368 2 2 400 384 slices_S768x256_o384_0_S368x256
  have s7 : Stage arg12.view (harg12.unread xs0) (kernelRun2_B.sl.HS0_7 c arg2 harg2 arg3 harg3 arg12 harg12 x0 x1 xs0)
      (convAcc x0 x1 xs0 7) (fun r => r < 384 ∨ (400 ≤ r ∧ r < 768)) :=
    (s6.step 0 384 S384x256.size rfl rfl inb_S768x256_S384x256_0_0
      (tapAt x0 x1 0 3 0 0) _
      (conv384_at arg2 harg2 arg3 harg3 x0 x1 0 3 inb_S3x768x256_S1x768x256_0_0_0 inb_S9x256x256_S1x256x256_3_0_0
        0 inb_S768x256_S384x256_0_0 0 slices_S768x256_o0_0_S384x256 (by decide) _ _ (s6.all 0 S384x256.size inb_S768x256_S384x256_0_0))).mono (by intro r hr h; unfold addCov; omega)
  have s8 : Stage arg12.view (harg12.unread xs0) (kernelRun2_B.sl.HS0_8 c arg2 harg2 arg3 harg3 arg12 harg12 x0 x1 xs0)
      (convAcc x0 x1 xs0 8) (fun r => r < 768) :=
    (s7.step 384 384 S384x256.size rfl rfl inb_S768x256_S384x256_384_0
      (tapAt x0 x1 0 3 384 384) _
      (conv384_at arg2 harg2 arg3 harg3 x0 x1 0 3 inb_S3x768x256_S1x768x256_0_0_0 inb_S9x256x256_S1x256x256_3_0_0
        384 inb_S768x256_S384x256_384_0 384 slices_S768x256_o384_0_S384x256 (by decide) _ _ (s7.all 384 S384x256.size inb_S768x256_S384x256_384_0))).mono (by intro r hr h; unfold addCov; omega)
  have s9 : Stage arg12.view (harg12.unread xs0) (kernelRun2_B.sl.HS0_9 c arg2 harg2 arg3 harg3 arg12 harg12 x0 x1 xs0)
      (convAcc x0 x1 xs0 9) (fun r => r < 768) :=
    s8.tap384 1 4 0 0 slices_S768x256_o0_0_S384x256
  have s10 : Stage arg12.view (harg12.unread xs0) (kernelRun2_B.sl.HS0_10 c arg2 harg2 arg3 harg3 arg12 harg12 x0 x1 xs0)
      (convAcc x0 x1 xs0 10) (fun r => r < 768) :=
    s9.tap384 1 4 384 384 slices_S768x256_o384_0_S384x256
  have s11 : Stage arg12.view (harg12.unread xs0) (kernelRun2_B.sl.HS0_11 c arg2 harg2 arg3 harg3 arg12 harg12 x0 x1 xs0)
      (convAcc x0 x1 xs0 11) (fun r => r < 768) :=
    s10.tap384 2 5 0 0 slices_S768x256_o0_0_S384x256
  have s12 : Stage arg12.view (harg12.unread xs0) (kernelRun2_B.sl.HS0_12 c arg2 harg2 arg3 harg3 arg12 harg12 x0 x1 xs0)
      (convAcc x0 x1 xs0 12) (fun r => r < 768) :=
    s11.tap384 2 5 384 384 slices_S768x256_o384_0_S384x256
  have s13 : Stage arg12.view (harg12.unread xs0) (kernelRun2_B.sl.HS0_13 c arg2 harg2 arg3 harg3 arg12 harg12 x0 x1 xs0)
      (convAcc x0 x1 xs0 13) (fun r => r < 768) :=
    s12.tap368 0 6 0 16 slices_S768x256_o16_0_S368x256
  have s14 : Stage arg12.view (harg12.unread xs0) (kernelRun2_B.sl.HS0_14 c arg2 harg2 arg3 harg3 arg12 harg12 x0 x1 xs0)
      (convAcc x0 x1 xs0 14) (fun r => r < 768) :=
    s13.tap368 0 6 384 400 slices_S768x256_o400_0_S368x256
  have s15 : Stage arg12.view (harg12.unread xs0) (kernelRun2_B.sl.HS0_15 c arg2 harg2 arg3 harg3 arg12 harg12 x0 x1 xs0)
      (convAcc x0 x1 xs0 15) (fun r => r < 768) :=
    s14.tap368 1 7 0 16 slices_S768x256_o16_0_S368x256
  have s16 : Stage arg12.view (harg12.unread xs0) (kernelRun2_B.sl.HS0_16 c arg2 harg2 arg3 harg3 arg12 harg12 x0 x1 xs0)
      (convAcc x0 x1 xs0 16) (fun r => r < 768) :=
    s15.tap368 1 7 384 400 slices_S768x256_o400_0_S368x256
  have s17 : Stage arg12.view (harg12.unread xs0) (kernelRun2_B.sl.HS0_17 c arg2 harg2 arg3 harg3 arg12 harg12 x0 x1 xs0)
      (convAcc x0 x1 xs0 17) (fun r => r < 768) :=
    s16.tap368 2 8 0 16 slices_S768x256_o16_0_S368x256
  exact s17

set_option maxHeartbeats 1000000 in
/-- Case B. -/
theorem stage2_B {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : ¬cond2_0 i} {hc1 : ¬cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {xs0 : Vec Ideal S768x256 .f32} :
    Stage arg12.view (harg12.unread xs0) ((kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) (convAcc x0 x1 (xs0) 18) (fun r => r < 768) := by
  have s17 : Stage arg12.view (harg12.unread xs0) (kernelRun2_B.sl.HS0_17 c arg2 harg2 arg3 harg3 arg12 harg12 x0 x1 xs0)
      (convAcc x0 x1 xs0 17) (fun r => r < 768) := stage2_mid
  have s18 : Stage arg12.view (harg12.unread xs0) ((kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)
      (convAcc x0 x1 xs0 18) (fun r => r < 768) :=
    s17.tap368 2 8 384 400 slices_S768x256_o400_0_S368x256
  exact s18

set_option maxHeartbeats 1000000 in
/-- Case C. -/
theorem stage2_C {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : ¬cond2_0 i} {hc1 : cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {xs0 : Vec Ideal S768x256 .f32} :
    Stage arg12.view (harg12.unread xs0) ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) (convAcc x0 x1 (xs0) 18) (fun r => r < 768) := by
  have s17 : Stage arg12.view (harg12.unread xs0) (kernelRun2_C.sl.HS0_17 c arg2 harg2 arg3 harg3 arg12 harg12 x0 x1 xs0)
      (convAcc x0 x1 xs0 17) (fun r => r < 768) := stage2_mid
  have s18 : Stage arg12.view (harg12.unread xs0) ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)
      (convAcc x0 x1 xs0 18) (fun r => r < 768) :=
    s17.tap368 2 8 384 400 slices_S768x256_o400_0_S368x256
  exact s18

end Cert.Spec
-- ==== Proof.Value.ConvSum.lean ====
module
public import proofs.«01_k».proof.Proof.Value.ConvStage
@[expose] public section
set_option maxRecDepth 65536

/-!
The eighteen additions of one grid point of the convolution as one sum over the nine taps.
-/
noncomputable section
namespace Cert.Spec
open Idealize.ShloMosaic Idealize.ShloMosaic.TcCoe Cert.KernelIdeal Cert.KernelIdeal.Gen Cert.KernelIdeal.Run

/-- What tap `t` adds to accumulator row `p`, column `n`. -/
def convTap (x0 : Vec Ideal S3x768x256 .bf16) (x1 : Vec Ideal S9x256x256 .fp8e4m3) (t : Fin 9) (y : SAcc.Idx) : EReal :=
  if 16 ≤ (y 0).val % 384 + 16 * (t.val / 3) ∧ (y 0).val % 384 + 16 * (t.val / 3) < 400 then
    prodRow x0 x1 ⟨t.val % 3, Nat.mod_lt _ (by decide)⟩ t ((y 0).val + 16 * (t.val / 3) - 16) (y 1) else 0

theorem prodRow_congr {x0 : Vec Ideal S3x768x256 .bf16} {x1 : Vec Ideal S9x256x256 .fp8e4m3} {kx kx' : Fin 3} {t t' : Fin 9}
    {q q' : ℕ} {n : Fin 256} (h1 : kx.val = kx'.val) (h2 : t.val = t'.val) (h3 : q = q') :
    prodRow x0 x1 kx t q n = prodRow x0 x1 kx' t' q' n := by
  obtain rfl := Fin.ext h1
  obtain rfl := Fin.ext h2
  rw [h3]

theorem convAcc_pair (x0 : Vec Ideal S3x768x256 .bf16) (x1 : Vec Ideal S9x256x256 .fp8e4m3) (S : SAcc.Idx → EReal)
    (t : ℕ) (ht : t < 9) (y : SAcc.Idx) :
    convAcc x0 x1 S (2 * t + 2) y = convAcc x0 x1 S (2 * t) y + convTap x0 x1 ⟨t, ht⟩ y := by
  have hy : (y 0).val < 768 := (y 0).isLt
  have h3 : t / 3 = 0 ∨ t / 3 = 1 ∨ t / 3 = 2 := by omega
  show addRows (addRows (convAcc x0 x1 S (2 * t)) _ _ _) _ _ _ y = _
  unfold addRows
  rw [add_assoc]
  congr 1
  unfold convTap convO convN convSrc tapAt
  dsimp only
  have e1 : 2 * t / 2 = t := by omega
  have e2 : (2 * t + 1) / 2 = t := by omega
  have e3 : 2 * t % 2 = 0 := by omega
  have e4 : (2 * t + 1) % 2 = 1 := by omega
  simp only [e1, e2, e3, e4]
  rcases h3 with h | h | h <;> simp only [h] <;> norm_num <;> split_ifs <;>
    first
    | (exfalso; omega)
    | (simp only [add_zero, zero_add]; done)
    | (simp only [add_zero, zero_add]; exact prodRow_congr rfl (by show t % 9 = t; omega) (by omega))

theorem convAcc_eq (x0 : Vec Ideal S3x768x256 .bf16) (x1 : Vec Ideal S9x256x256 .fp8e4m3) (S : SAcc.Idx → EReal)
    (y : SAcc.Idx) : convAcc x0 x1 S 18 y = S y + ∑ t : Fin 9, convTap x0 x1 t y := by
  have h := fun t ht => convAcc_pair x0 x1 S t ht y
  rw [h 8 (by decide), h 7 (by decide), h 6 (by decide), h 5 (by decide), h 4 (by decide), h 3 (by decide),
    h 2 (by decide), h 1 (by decide), h 0 (by decide)]
  rw [Fin.sum_univ_succ, Fin.sum_univ_eight]
  simp only [add_assoc]
  rfl

end Cert.Spec
-- ==== Proof.Value.ConvOut.lean ====
module
public import proofs.«01_k».proof.Proof.Value.ConvSum
public import proofs.«01_k».proof.Proof.Value.Quant
@[expose] public section
set_option maxRecDepth 65536

/-!
What one grid point of the convolution leaves in the accumulator and, at the end of a sweep, in its
output block.
-/
noncomputable section
namespace Cert.Spec
open Idealize.ShloMosaic Idealize.ShloMosaic.TcCoe Cert.KernelIdeal Cert.KernelIdeal.Gen Cert.KernelIdeal.Run

theorem sout2_A_at {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : cond2_0 i} {hc1 : ¬cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} (y : SAcc.Idx) :
    sout2_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y = 0 + ∑ t : Fin 9, convTap x0 x1 t y := by
  have h := (stage2_A (f := arg12.view.junk) (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (hc0 := hc0) (hc1 := hc1) (x0 := x0) (x1 := x1) (x2 := x2) (x3 := x3) (x4 := x4) (x5 := x5) (x6 := x6) (x7 := x7) (x8 := x8)).1 y (y 0).isLt
  unfold sout2_A_0
  rw [View.read_writes_junk_eq_canon, h, convAcc_eq]

theorem sout2_B_at {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : ¬cond2_0 i} {hc1 : ¬cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {xs0 : Vec Ideal S768x256 .f32} (y : SAcc.Idx) :
    sout2_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 y = xs0 y + ∑ t : Fin 9, convTap x0 x1 t y := by
  have h := (stage2_B (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (hc0 := hc0) (hc1 := hc1) (x0 := x0) (x1 := x1) (x2 := x2) (x3 := x3) (x4 := x4) (x5 := x5) (x6 := x6) (x7 := x7) (x8 := x8) (xs0 := xs0)).1 y (y 0).isLt
  unfold sout2_B_0
  rw [View.read_writes_junk_eq_canon, h, convAcc_eq]

theorem sout2_C_at {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : ¬cond2_0 i} {hc1 : cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {xs0 : Vec Ideal S768x256 .f32} (y : SAcc.Idx) :
    sout2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 y = xs0 y + ∑ t : Fin 9, convTap x0 x1 t y := by
  have h := (stage2_C (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (hc0 := hc0) (hc1 := hc1) (x0 := x0) (x1 := x1) (x2 := x2) (x3 := x3) (x4 := x4) (x5 := x5) (x6 := x6) (x7 := x7) (x8 := x8) (xs0 := xs0)).1 y (y 0).isLt
  unfold sout2_C_0
  rw [View.read_writes_junk_eq_canon, h, convAcc_eq]

theorem read_row256 (arg : Memref sig .tc .vmem S1x256 .f32) (harg : arg.IsWhole) (x : Vec Ideal S1x256 .f32)
    (inb : ∀ a, (![0, 0] : Fin 2 → ℕ) a + S1x256.size a ≤ S1x256.size a) (d : Fin 256) :
    View.readAt (Elt Ideal) arg.view (Rect.unit (s := S1x256) ![0, 0] S1x256.size inb).toLoadRect
      (harg.unread x) (ix2 (0 : Fin 1) d) = x (ix2 0 d) := by
  show arg.view.read (Elt Ideal) (harg.unread x) _ = _
  rw [Memref.IsWhole.read_unread]
  congr 1
  funext a
  fin_cases a <;> apply Fin.ext
  · rfl
  · show 0 + 1 * d.val = d.val; omega

theorem read_batch256 (arg : Memref sig .tc .vmem S2x1x256 .f32) (harg : arg.IsWhole) (x : Vec Ideal S2x1x256 .f32) (b : Fin 2)
    (inb : ∀ a, (![b.val, 0, 0] : Fin 3 → ℕ) a + S1x1x256.size a ≤ S2x1x256.size a) (d : Fin 256) :
    View.readAt (Elt Ideal) arg.view (Rect.unit (s := S2x1x256) ![b.val, 0, 0] S1x1x256.size inb).toLoadRect
      (harg.unread x) (ix3 (0 : Fin 1) (0 : Fin 1) d) = x (ix3 b 0 d) := by
  show arg.view.read (Elt Ideal) (harg.unread x) _ = _
  rw [Memref.IsWhole.read_unread]
  congr 1
  funext a
  fin_cases a <;> apply Fin.ext
  · show b.val + 1 * 0 = b.val; omega
  · rfl
  · show 0 + 1 * d.val = d.val; omega

/-- The epilogue of one row and column. -/
def epi (acc ws b1 temb mean rstd gamma beta : EReal) : EReal := gnSilu (acc * ws + b1 + temb) mean rstd gamma beta

theorem epi_congr {acc ws b1 t t' m m' r r' g b : EReal} (h1 : t = t') (h2 : m = m') (h3 : r = r') :
    epi acc ws b1 t m r g b = epi acc ws b1 t' m' r' g b := by rw [h1, h2, h3]

theorem pay4_at (v : Vec Ideal S384x256 .f32) (ws b1 : Vec Ideal S1x256 .f32) (te me rs : Vec Ideal S1x1x256 .f32)
    (ga be : Vec Ideal S1x256 .f32) (i : Fin 384) (j : Fin 256) :
    k2_pay4 v ws b1 te me rs ga be (ix2 i j) = epi (v (ix2 i j)) (ws (ix2 0 j)) (b1 (ix2 0 j)) (te (ix3 0 0 j))
      (me (ix3 0 0 j)) (rs (ix3 0 0 j)) (ga (ix2 0 j)) (be (ix2 0 j)) := by
  unfold epi gnSilu
  pointwise [k2_pay4]

theorem pay5_at (v : Vec Ideal S384x256 .f32) (ws b1 : Vec Ideal S1x256 .f32) (te me rs : Vec Ideal S1x1x256 .f32)
    (ga be : Vec Ideal S1x256 .f32) (i : Fin 384) (j : Fin 256) :
    k2_pay5 v ws b1 te me rs ga be (ix2 i j) = epi (v (ix2 i j)) (ws (ix2 0 j)) (b1 (ix2 0 j)) (te (ix3 0 0 j))
      (me (ix3 0 0 j)) (rs (ix3 0 0 j)) (ga (ix2 0 j)) (be (ix2 0 j)) := by
  unfold epi gnSilu
  pointwise [k2_pay5]

set_option maxHeartbeats 1000000 in
theorem out2_C_at {c : Dev nD} {i : grid2.Coords} {arg2 : Memref sig .tc .vmem S3x768x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S1x256 .f32} {harg5 : arg5.IsWhole} {arg6 : Memref sig .tc .vmem S2x1x256 .f32} {harg6 : arg6.IsWhole} {arg7 : Memref sig .tc .vmem S2x1x256 .f32} {harg7 : arg7.IsWhole} {arg8 : Memref sig .tc .vmem S2x1x256 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S768x256 .f32} {harg11 : arg11.IsWhole} {arg12 : Memref sig .tc .vmem S768x256 .f32} {harg12 : arg12.IsWhole} {hc0 : ¬cond2_0 i} {hc1 : cond2_1 i}
    {x0 : Vec Ideal S3x768x256 .bf16} {x1 : Vec Ideal S9x256x256 .fp8e4m3} {x2 : Vec Ideal S1x256 .f32} {x3 : Vec Ideal S1x256 .f32} {x4 : Vec Ideal S2x1x256 .f32} {x5 : Vec Ideal S2x1x256 .f32} {x6 : Vec Ideal S2x1x256 .f32} {x7 : Vec Ideal S1x256 .f32} {x8 : Vec Ideal S1x256 .f32} {xs0 : Vec Ideal S768x256 .f32} (b : Fin 2) (s : Fin 384) (n : Fin 256) :
    out2_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 (ix2 ⟨b.val * 384 + s.val, by omega⟩ n)
      = epi (sout2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 (ix2 ⟨b.val * 384 + s.val, by omega⟩ n)) (x2 (ix2 0 n)) (x3 (ix2 0 n)) (x4 (ix3 b 0 n))
        (x5 (ix3 b 0 n)) (x6 (ix3 b 0 n)) (x7 (ix2 0 n)) (x8 (ix2 0 n)) := by
  have hst := stage2_C (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (hc0 := hc0) (hc1 := hc1) (x0 := x0) (x1 := x1) (x2 := x2) (x3 := x3) (x4 := x4) (x5 := x5) (x6 := x6) (x7 := x7) (x8 := x8) (xs0 := xs0)
  have hL : (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 = [⟨Rect.unit (s := SAcc) ![384, 0] S384x256.size inb_S768x256_S384x256_384_0,
        k2_pay4 (arg12.view.readCov ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) (Rect.unit (s := SAcc) ![384, 0] S384x256.size inb_S768x256_S384x256_384_0).toLoadRect)
          (View.readAt (Elt Ideal) arg4.view (Rect.unit (s := S1x256) ![0, 0] S1x256.size inb_S1x256_S1x256_0_0).toLoadRect (harg4.unread x2))
          (View.readAt (Elt Ideal) arg5.view (Rect.unit (s := S1x256) ![0, 0] S1x256.size inb_S1x256_S1x256_0_0).toLoadRect (harg5.unread x3))
          (View.readAt (Elt Ideal) arg6.view (Rect.unit (s := S2x1x256) ![1, 0, 0] S1x1x256.size inb_S2x1x256_S1x1x256_1_0_0).toLoadRect (harg6.unread x4))
          (View.readAt (Elt Ideal) arg7.view (Rect.unit (s := S2x1x256) ![1, 0, 0] S1x1x256.size inb_S2x1x256_S1x1x256_1_0_0).toLoadRect (harg7.unread x5))
          (View.readAt (Elt Ideal) arg8.view (Rect.unit (s := S2x1x256) ![1, 0, 0] S1x1x256.size inb_S2x1x256_S1x1x256_1_0_0).toLoadRect (harg8.unread x6))
          (View.readAt (Elt Ideal) arg9.view (Rect.unit (s := S1x256) ![0, 0] S1x256.size inb_S1x256_S1x256_0_0).toLoadRect (harg9.unread x7))
          (View.readAt (Elt Ideal) arg10.view (Rect.unit (s := S1x256) ![0, 0] S1x256.size inb_S1x256_S1x256_0_0).toLoadRect (harg10.unread x8))⟩, ⟨Rect.unit (s := SAcc) ![0, 0] S384x256.size inb_S768x256_S384x256_0_0,
        k2_pay5 (arg12.view.readCov ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) (Rect.unit (s := SAcc) ![0, 0] S384x256.size inb_S768x256_S384x256_0_0).toLoadRect)
          (View.readAt (Elt Ideal) arg4.view (Rect.unit (s := S1x256) ![0, 0] S1x256.size inb_S1x256_S1x256_0_0).toLoadRect (harg4.unread x2))
          (View.readAt (Elt Ideal) arg5.view (Rect.unit (s := S1x256) ![0, 0] S1x256.size inb_S1x256_S1x256_0_0).toLoadRect (harg5.unread x3))
          (View.readAt (Elt Ideal) arg6.view (Rect.unit (s := S2x1x256) ![0, 0, 0] S1x1x256.size inb_S2x1x256_S1x1x256_0_0_0).toLoadRect (harg6.unread x4))
          (View.readAt (Elt Ideal) arg7.view (Rect.unit (s := S2x1x256) ![0, 0, 0] S1x1x256.size inb_S2x1x256_S1x1x256_0_0_0).toLoadRect (harg7.unread x5))
          (View.readAt (Elt Ideal) arg8.view (Rect.unit (s := S2x1x256) ![0, 0, 0] S1x1x256.size inb_S2x1x256_S1x1x256_0_0_0).toLoadRect (harg8.unread x6))
          (View.readAt (Elt Ideal) arg9.view (Rect.unit (s := S1x256) ![0, 0] S1x256.size inb_S1x256_S1x256_0_0).toLoadRect (harg9.unread x7))
          (View.readAt (Elt Ideal) arg10.view (Rect.unit (s := S1x256) ![0, 0] S1x256.size inb_S1x256_S1x256_0_0).toLoadRect (harg10.unread x8))⟩] := rfl
  have hs : ∀ y, sout2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 y = View.canon ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) y := fun y => by
    unfold sout2_C_0
    rw [View.read_writes_junk_eq_canon]
  unfold out2_C_9
  rw [View.read_writes_junk_eq_canon, hL]
  obtain rfl | rfl : b = 0 ∨ b = 1 := by omega
  · have hm : (ix2 ⟨(0 : Fin 2).val * 384 + s.val, by omega⟩ n : SAcc.Idx) ∉ (Rect.unit (s := SAcc) ![384, 0] S384x256.size inb_S768x256_S384x256_384_0).set := by
      intro hm
      rw [Rect.mem_set_unit] at hm
      have := (hm 0).1
      change 384 ≤ 0 * 384 + s.val at this
      omega
    have he : (ix2 ⟨(0 : Fin 2).val * 384 + s.val, by omega⟩ n : SAcc.Idx) = (Rect.unit (s := SAcc) ![0, 0] S384x256.size inb_S768x256_S384x256_0_0).emb (ix2 s n) := by
      funext a
      fin_cases a <;> apply Fin.ext
      · show 0 * 384 + s.val = 0 + 1 * s.val; omega
      · show n.val = 0 + 1 * n.val; omega
    rw [View.canon_cons_of_not_mem (⟨Rect.unit (s := SAcc) ![384, 0] S384x256.size inb_S768x256_S384x256_384_0,
        k2_pay4 (arg12.view.readCov ((kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1) (Rect.unit (s := SAcc) ![384, 0] S384x256.size inb_S768x256_S384x256_384_0).toLoadRect)
          (View.readAt (Elt Ideal) arg4.view (Rect.unit (s := S1x256) ![0, 0] S1x256.size inb_S1x256_S1x256_0_0).toLoadRect (harg4.unread x2))
          (View.readAt (Elt Ideal) arg5.view (Rect.unit (s := S1x256) ![0, 0] S1x256.size inb_S1x256_S1x256_0_0).toLoadRect (harg5.unread x3))
          (View.readAt (Elt Ideal) arg6.view (Rect.unit (s := S2x1x256) ![1, 0, 0] S1x1x256.size inb_S2x1x256_S1x1x256_1_0_0).toLoadRect (harg6.unread x4))
          (View.readAt (Elt Ideal) arg7.view (Rect.unit (s := S2x1x256) ![1, 0, 0] S1x1x256.size inb_S2x1x256_S1x1x256_1_0_0).toLoadRect (harg7.unread x5))
          (View.readAt (Elt Ideal) arg8.view (Rect.unit (s := S2x1x256) ![1, 0, 0] S1x1x256.size inb_S2x1x256_S1x1x256_1_0_0).toLoadRect (harg8.unread x6))
          (View.readAt (Elt Ideal) arg9.view (Rect.unit (s := S1x256) ![0, 0] S1x256.size inb_S1x256_S1x256_0_0).toLoadRect (harg9.unread x7))
          (View.readAt (Elt Ideal) arg10.view (Rect.unit (s := S1x256) ![0, 0] S1x256.size inb_S1x256_S1x256_0_0).toLoadRect (harg10.unread x8))⟩ : View.Piece (Elt Ideal) SAcc .f32) _ hm, hs, he, View.canon_cons_emb, pay5_at,
      hst.cov 0 S384x256.size inb_S768x256_S384x256_0_0 (by intro r h1 h2; change r < 0 + 384 at h2; omega),
      hst.1 _ (((Rect.unit (s := SAcc) ![0, 0] S384x256.size inb_S768x256_S384x256_0_0).emb (ix2 s n)) 0).isLt,
      read_row256, read_row256, read_row256, read_row256]
    exact epi_congr (read_batch256 arg6 harg6 x4 0 inb_S2x1x256_S1x1x256_0_0_0 n)
      (read_batch256 arg7 harg7 x5 0 inb_S2x1x256_S1x1x256_0_0_0 n) (read_batch256 arg8 harg8 x6 0 inb_S2x1x256_S1x1x256_0_0_0 n)
  · have he : (ix2 ⟨(1 : Fin 2).val * 384 + s.val, by omega⟩ n : SAcc.Idx) = (Rect.unit (s := SAcc) ![384, 0] S384x256.size inb_S768x256_S384x256_384_0).emb (ix2 s n) := by
      funext a
      fin_cases a <;> apply Fin.ext
      · show 1 * 384 + s.val = 384 + 1 * s.val; omega
      · show n.val = 0 + 1 * n.val; omega
    rw [hs, he, View.canon_cons_emb, pay4_at,
      hst.cov 384 S384x256.size inb_S768x256_S384x256_384_0 (by intro r h1 h2; change r < 384 + 384 at h2; omega),
      hst.1 _ (((Rect.unit (s := SAcc) ![384, 0] S384x256.size inb_S768x256_S384x256_384_0).emb (ix2 s n)) 0).isLt,
      read_row256, read_row256, read_row256, read_row256]
    exact epi_congr (read_batch256 arg6 harg6 x4 1 inb_S2x1x256_S1x1x256_1_0_0 n)
      (read_batch256 arg7 harg7 x5 1 inb_S2x1x256_S1x1x256_1_0_0 n) (read_batch256 arg8 harg8 x6 1 inb_S2x1x256_S1x1x256_1_0_0 n)

end Cert.Spec
-- ==== Proof.Value.Blocks2.lean ====
module
public import proofs.«01_k».proof.Proof.Run.Region2
public import Idealize.ShloMosaic.Lib.Pointwise
public import Idealize.ShloMosaic.Lib.Pipeline.ValueKit
@[expose] public section
set_option maxRecDepth 65536

/-!
Pipeline 2: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt2 (t : Fin cfg2.N) : t.val < 50 := lt_of_lt_of_eq t.isLt N_2

theorem idx2_0 : ∀ t : Fin cfg2.N, win2_0.index t = ![0, 0, t.val % 10] := by decide +kernel

theorem idx2_1 : ∀ t : Fin cfg2.N, win2_1.index t = ![0, t.val % 10, t.val / 10] := by decide +kernel

theorem idx2_2 : ∀ t : Fin cfg2.N, win2_2.index t = ![0, t.val / 10] := by decide +kernel

theorem idx2_3 : ∀ t : Fin cfg2.N, win2_3.index t = ![0, t.val / 10] := by decide +kernel

theorem idx2_4 : ∀ t : Fin cfg2.N, win2_4.index t = ![0, 0, t.val / 10] := by decide +kernel

theorem idx2_5 : ∀ t : Fin cfg2.N, win2_5.index t = ![0, 0, t.val / 10] := by decide +kernel

theorem idx2_6 : ∀ t : Fin cfg2.N, win2_6.index t = ![0, 0, t.val / 10] := by decide +kernel

theorem idx2_7 : ∀ t : Fin cfg2.N, win2_7.index t = ![0, t.val / 10] := by decide +kernel

theorem idx2_8 : ∀ t : Fin cfg2.N, win2_8.index t = ![0, t.val / 10] := by decide +kernel

theorem idx2_9 : ∀ t : Fin cfg2.N, win2_9.index t = ![0, t.val / 10] := by decide +kernel

theorem blk2_0 (c : Dev nD) (t : Fin cfg2.N) (i0 : Fin 3) (i1 : Fin 768) (i2 : Fin 256) :
    iblk2 V c 0 t (ix3 i0 i1 i2) = V c main_v10_2 (ix3 i0 i1 ⟨256 * (t.val % 10) + i2.val, by have := lt2 t; omega⟩) := by
  show V c main_v10_2 (((cfg2.win 0).blk t).view.emb (ix3 i0 i1 i2)) = _
  congr 1
  have h : win2_0.index t = _ := idx2_0 t
  funext a
  fin_cases a <;> apply Fin.ext
  · show win2_0.index t 0 * 3 + 1 * i0.val = i0.val
    rw [h]
    show (0) * 3 + 1 * i0.val = i0.val
    omega
  · show win2_0.index t 1 * 768 + 1 * i1.val = i1.val
    rw [h]
    show (0) * 768 + 1 * i1.val = i1.val
    omega
  · show win2_0.index t 2 * 256 + 1 * i2.val = 256 * (t.val % 10) + i2.val
    rw [h]
    show (t.val % 10) * 256 + 1 * i2.val = 256 * (t.val % 10) + i2.val
    omega

theorem blk2_1 (c : Dev nD) (t : Fin cfg2.N) (i0 : Fin 9) (i1 : Fin 256) (i2 : Fin 256) :
    iblk2 V c 1 t (ix3 i0 i1 i2) = V c main_v16 (ix3 i0 ⟨256 * (t.val % 10) + i1.val, by have := lt2 t; omega⟩ ⟨256 * (t.val / 10) + i2.val, by have := lt2 t; omega⟩) := by
  show V c main_v16 (((cfg2.win 1).blk t).view.emb (ix3 i0 i1 i2)) = _
  congr 1
  have h : win2_1.index t = _ := idx2_1 t
  funext a
  fin_cases a <;> apply Fin.ext
  · show win2_1.index t 0 * 9 + 1 * i0.val = i0.val
    rw [h]
    show (0) * 9 + 1 * i0.val = i0.val
    omega
  · show win2_1.index t 1 * 256 + 1 * i1.val = 256 * (t.val % 10) + i1.val
    rw [h]
    show (t.val % 10) * 256 + 1 * i1.val = 256 * (t.val % 10) + i1.val
    omega
  · show win2_1.index t 2 * 256 + 1 * i2.val = 256 * (t.val / 10) + i2.val
    rw [h]
    show (t.val / 10) * 256 + 1 * i2.val = 256 * (t.val / 10) + i2.val
    omega

theorem blk2_2 (c : Dev nD) (t : Fin cfg2.N) (i0 : Fin 1) (i1 : Fin 256) :
    iblk2 V c 2 t (ix2 i0 i1) = V c main_v17 (ix2 i0 ⟨256 * (t.val / 10) + i1.val, by have := lt2 t; omega⟩) := by
  show V c main_v17 (((cfg2.win 2).blk t).view.emb (ix2 i0 i1)) = _
  congr 1
  have h : win2_2.index t = _ := idx2_2 t
  funext a
  fin_cases a <;> apply Fin.ext
  · show win2_2.index t 0 * 1 + 1 * i0.val = i0.val
    rw [h]
    show (0) * 1 + 1 * i0.val = i0.val
    omega
  · show win2_2.index t 1 * 256 + 1 * i1.val = 256 * (t.val / 10) + i1.val
    rw [h]
    show (t.val / 10) * 256 + 1 * i1.val = 256 * (t.val / 10) + i1.val
    omega

theorem blk2_3 (c : Dev nD) (t : Fin cfg2.N) (i0 : Fin 1) (i1 : Fin 256) :
    iblk2 V c 3 t (ix2 i0 i1) = V c main_v18 (ix2 i0 ⟨256 * (t.val / 10) + i1.val, by have := lt2 t; omega⟩) := by
  show V c main_v18 (((cfg2.win 3).blk t).view.emb (ix2 i0 i1)) = _
  congr 1
  have h : win2_3.index t = _ := idx2_3 t
  funext a
  fin_cases a <;> apply Fin.ext
  · show win2_3.index t 0 * 1 + 1 * i0.val = i0.val
    rw [h]
    show (0) * 1 + 1 * i0.val = i0.val
    omega
  · show win2_3.index t 1 * 256 + 1 * i1.val = 256 * (t.val / 10) + i1.val
    rw [h]
    show (t.val / 10) * 256 + 1 * i1.val = 256 * (t.val / 10) + i1.val
    omega

theorem blk2_4 (c : Dev nD) (t : Fin cfg2.N) (i0 : Fin 2) (i1 : Fin 1) (i2 : Fin 256) :
    iblk2 V c 4 t (ix3 i0 i1 i2) = V c main_v19 (ix3 i0 i1 ⟨256 * (t.val / 10) + i2.val, by have := lt2 t; omega⟩) := by
  show V c main_v19 (((cfg2.win 4).blk t).view.emb (ix3 i0 i1 i2)) = _
  congr 1
  have h : win2_4.index t = _ := idx2_4 t
  funext a
  fin_cases a <;> apply Fin.ext
  · show win2_4.index t 0 * 2 + 1 * i0.val = i0.val
    rw [h]
    show (0) * 2 + 1 * i0.val = i0.val
    omega
  · show win2_4.index t 1 * 1 + 1 * i1.val = i1.val
    rw [h]
    show (0) * 1 + 1 * i1.val = i1.val
    omega
  · show win2_4.index t 2 * 256 + 1 * i2.val = 256 * (t.val / 10) + i2.val
    rw [h]
    show (t.val / 10) * 256 + 1 * i2.val = 256 * (t.val / 10) + i2.val
    omega

theorem blk2_5 (c : Dev nD) (t : Fin cfg2.N) (i0 : Fin 2) (i1 : Fin 1) (i2 : Fin 256) :
    iblk2 V c 5 t (ix3 i0 i1 i2) = V c main_v22 (ix3 i0 i1 ⟨256 * (t.val / 10) + i2.val, by have := lt2 t; omega⟩) := by
  show V c main_v22 (((cfg2.win 5).blk t).view.emb (ix3 i0 i1 i2)) = _
  congr 1
  have h : win2_5.index t = _ := idx2_5 t
  funext a
  fin_cases a <;> apply Fin.ext
  · show win2_5.index t 0 * 2 + 1 * i0.val = i0.val
    rw [h]
    show (0) * 2 + 1 * i0.val = i0.val
    omega
  · show win2_5.index t 1 * 1 + 1 * i1.val = i1.val
    rw [h]
    show (0) * 1 + 1 * i1.val = i1.val
    omega
  · show win2_5.index t 2 * 256 + 1 * i2.val = 256 * (t.val / 10) + i2.val
    rw [h]
    show (t.val / 10) * 256 + 1 * i2.val = 256 * (t.val / 10) + i2.val
    omega

theorem blk2_6 (c : Dev nD) (t : Fin cfg2.N) (i0 : Fin 2) (i1 : Fin 1) (i2 : Fin 256) :
    iblk2 V c 6 t (ix3 i0 i1 i2) = V c main_v25 (ix3 i0 i1 ⟨256 * (t.val / 10) + i2.val, by have := lt2 t; omega⟩) := by
  show V c main_v25 (((cfg2.win 6).blk t).view.emb (ix3 i0 i1 i2)) = _
  congr 1
  have h : win2_6.index t = _ := idx2_6 t
  funext a
  fin_cases a <;> apply Fin.ext
  · show win2_6.index t 0 * 2 + 1 * i0.val = i0.val
    rw [h]
    show (0) * 2 + 1 * i0.val = i0.val
    omega
  · show win2_6.index t 1 * 1 + 1 * i1.val = i1.val
    rw [h]
    show (0) * 1 + 1 * i1.val = i1.val
    omega
  · show win2_6.index t 2 * 256 + 1 * i2.val = 256 * (t.val / 10) + i2.val
    rw [h]
    show (t.val / 10) * 256 + 1 * i2.val = 256 * (t.val / 10) + i2.val
    omega

theorem blk2_7 (c : Dev nD) (t : Fin cfg2.N) (i0 : Fin 1) (i1 : Fin 256) :
    iblk2 V c 7 t (ix2 i0 i1) = V c main_v26 (ix2 i0 ⟨256 * (t.val / 10) + i1.val, by have := lt2 t; omega⟩) := by
  show V c main_v26 (((cfg2.win 7).blk t).view.emb (ix2 i0 i1)) = _
  congr 1
  have h : win2_7.index t = _ := idx2_7 t
  funext a
  fin_cases a <;> apply Fin.ext
  · show win2_7.index t 0 * 1 + 1 * i0.val = i0.val
    rw [h]
    show (0) * 1 + 1 * i0.val = i0.val
    omega
  · show win2_7.index t 1 * 256 + 1 * i1.val = 256 * (t.val / 10) + i1.val
    rw [h]
    show (t.val / 10) * 256 + 1 * i1.val = 256 * (t.val / 10) + i1.val
    omega

theorem blk2_8 (c : Dev nD) (t : Fin cfg2.N) (i0 : Fin 1) (i1 : Fin 256) :
    iblk2 V c 8 t (ix2 i0 i1) = V c main_v27 (ix2 i0 ⟨256 * (t.val / 10) + i1.val, by have := lt2 t; omega⟩) := by
  show V c main_v27 (((cfg2.win 8).blk t).view.emb (ix2 i0 i1)) = _
  congr 1
  have h : win2_8.index t = _ := idx2_8 t
  funext a
  fin_cases a <;> apply Fin.ext
  · show win2_8.index t 0 * 1 + 1 * i0.val = i0.val
    rw [h]
    show (0) * 1 + 1 * i0.val = i0.val
    omega
  · show win2_8.index t 1 * 256 + 1 * i1.val = 256 * (t.val / 10) + i1.val
    rw [h]
    show (t.val / 10) * 256 + 1 * i1.val = 256 * (t.val / 10) + i1.val
    omega

theorem disjoint2_9 (t t' : Fin cfg2.N) (h : (cfg2.win 9).flush t = true) (h' : (cfg2.win 9).flush t' = true) (hne : t ≠ t') :
    Disjoint ((cfg2.win 9).blk t).view.set ((cfg2.win 9).blk t').view.set :=
  (cfg2.win 9).disjoint_blk fun e => hne (by
    have e' : win2_9.index t = win2_9.index t' := e
    rw [idx2_9 t, idx2_9 t'] at e'
    have e1 : t.val / 10 = t'.val / 10 := congrFun e' 1
    have a := (flush2_9 t).1 h
    have b := (flush2_9 t').1 h'
    exact Fin.ext (by omega))

end Cert.Spec
-- ==== Proof.Value.Backs2.lean ====
module
public import proofs.«01_k».proof.Proof.Value.Blocks2
@[expose] public section
set_option maxRecDepth 65536

/-!
Pipeline 2: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back2_9 (c : Dev nD) (t : Fin cfg2.N) (hf : (cfg2.win 9).flush t = true) (i0 : Fin 768) (i1 : Fin 256) :
    (dat2 V c).arrAt 9 cfg2.N (ix2 i0 ⟨256 * (t.val / 10) + i1.val, by have := lt2 t; omega⟩) = (dat2 V c).after 9 t (ix2 i0 i1) := by
  have e : ((cfg2.win 9).blk t).view.emb (ix2 i0 i1) = ix2 i0 ⟨256 * (t.val / 10) + i1.val, by have := lt2 t; omega⟩ := by
    have h : win2_9.index t = _ := idx2_9 t
    funext a
    fin_cases a <;> apply Fin.ext
    · show win2_9.index t 0 * 768 + 1 * i0.val = i0.val
      rw [h]
      show (0) * 768 + 1 * i0.val = i0.val
      omega
    · show win2_9.index t 1 * 256 + 1 * i1.val = 256 * (t.val / 10) + i1.val
      rw [h]
      show (t.val / 10) * 256 + 1 * i1.val = 256 * (t.val / 10) + i1.val
      omega
  have h := congrFun ((dat2 V c).read_blk_arrAt_eq_flushed 9 disjoint2_9 cfg2.N t t.isLt hf) (ix2 i0 i1)
  rw [View.read_apply, e] at h
  exact h

end Cert.Spec
-- ==== Proof.Value.ConvFinal.lean ====
module
public import proofs.«01_k».proof.Proof.Value.ConvOut
public import proofs.«01_k».proof.Proof.Value.Backs2
@[expose] public section
set_option maxRecDepth 65536

/-!
The convolution's result array at an index: the ten sweeps' sums and the epilogue.
-/
noncomputable section
namespace Cert.Spec
open Idealize.ShloMosaic Idealize.ShloMosaic.TcCoe Cert.KernelIdeal Cert.KernelIdeal.Gen Cert.KernelIdeal.Run
open Idealize.ShloMosaic.Pipeline (Dat)

variable (V : (c : Dev nD) → (b : Ref sig .tc) → Buf (Elt Ideal) ((c : Thread nD τ).loc b))

theorem conv_scratch (c : Dev nD) (t : Fin cfg2.N) (hr : t.val % 10 = 9) (y : SAcc.Idx) :
    (outsAt2 V c t.val t.isLt).2 y = 0 + ∑ s : Fin 10, ∑ k : Fin 9,
      convTap (iblk2 V c 0 ⟨10 * (t.val / 10) + s.val, Pipeline.run_point_lt_of_flush t hr s⟩)
        (iblk2 V c 1 ⟨10 * (t.val / 10) + s.val, Pipeline.run_point_lt_of_flush t hr s⟩) k y :=
  Pipeline.eq_sum_fin_of_reset_step_apply_of_flush (fun n h => (outsAt2 V c n h).2) 10 (fun _ => 0)
    (fun t y => ∑ k : Fin 9, convTap (iblk2 V c 0 t) (iblk2 V c 1 t) k y)
    (fun t h y => by
      rw [outsAt2_A V c t h (by omega)]
      dsimp only
      rw [sout2_A_at])
    (fun t h y => by
      by_cases h1 : t.val % 10 = 9
      · rw [outsAt2_C V c t h h1]
        dsimp only
        rw [sout2_C_at]
      · rw [outsAt2_B V c t h h1]
        dsimp only
        rw [sout2_B_at]) t hr y

theorem conv_out (c : Dev nD) (t : Fin cfg2.N) (hr : t.val % 10 = 9) (b : Fin 2) (s : Fin 384) (n : Fin 256) :
    (outsAt2 V c t.val t.isLt).1 (ix2 ⟨b.val * 384 + s.val, by omega⟩ n)
      = epi ((outsAt2 V c t.val t.isLt).2 (ix2 ⟨b.val * 384 + s.val, by omega⟩ n))
          (iblk2 V c 2 t (ix2 0 n)) (iblk2 V c 3 t (ix2 0 n)) (iblk2 V c 4 t (ix3 b 0 n)) (iblk2 V c 5 t (ix3 b 0 n))
          (iblk2 V c 6 t (ix3 b 0 n)) (iblk2 V c 7 t (ix2 0 n)) (iblk2 V c 8 t (ix2 0 n)) := by
  rw [outsAt2_C V c t (by omega) hr]
  dsimp only
  rw [out2_C_at]

theorem conv_final (c : Dev nD) (A10 : Fin 3 → ℕ → Fin 2560 → EReal) (A16 : Fin 9 → Fin 2560 → Fin 1280 → EReal)
    (A17 A18 A26 A27 : Fin 1280 → EReal) (A19 A22 A25 : Fin 2 → Fin 1280 → EReal)
    (h10 : ∀ k (q : Fin 768) d, V c main_v10_2 (ix3 k q d) = A10 k q.val d) (h16 : ∀ k d n, V c main_v16 (ix3 k d n) = A16 k d n)
    (h17 : ∀ n, V c main_v17 (ix2 0 n) = A17 n) (h18 : ∀ n, V c main_v18 (ix2 0 n) = A18 n)
    (h19 : ∀ b n, V c main_v19 (ix3 b 0 n) = A19 b n) (h22 : ∀ b n, V c main_v22 (ix3 b 0 n) = A22 b n)
    (h25 : ∀ b n, V c main_v25 (ix3 b 0 n) = A25 b n)
    (h26 : ∀ n, V c main_v26 (ix2 0 n) = A26 n) (h27 : ∀ n, V c main_v27 (ix2 0 n) = A27 n)
    (b : Fin 2) (s : Fin 384) (j : Fin 5) (n : Fin 256) :
    (dat2 V c).arrAt 9 cfg2.N (ix2 ⟨b.val * 384 + s.val, by omega⟩ ⟨256 * j.val + n.val, by omega⟩)
      = epi (0 + ∑ u : Fin 10, ∑ k : Fin 9,
          if 16 ≤ (b.val * 384 + s.val) % 384 + 16 * (k.val / 3) ∧ (b.val * 384 + s.val) % 384 + 16 * (k.val / 3) < 400 then
            ∑ d : Fin 256, A10 ⟨k.val % 3, Nat.mod_lt _ (by decide)⟩ (b.val * 384 + s.val + 16 * (k.val / 3) - 16) ⟨256 * u.val + d.val, by omega⟩
              * A16 k ⟨256 * u.val + d.val, by omega⟩ ⟨256 * j.val + n.val, by omega⟩
          else 0) (A17 ⟨256 * j.val + n.val, by omega⟩) (A18 ⟨256 * j.val + n.val, by omega⟩)
          (A19 b ⟨256 * j.val + n.val, by omega⟩) (A22 b ⟨256 * j.val + n.val, by omega⟩) (A25 b ⟨256 * j.val + n.val, by omega⟩)
          (A26 ⟨256 * j.val + n.val, by omega⟩) (A27 ⟨256 * j.val + n.val, by omega⟩) := by
  have hN : 10 * j.val + 9 < cfg2.N := by rw [show cfg2.N = 50 from N_2]; omega
  have hr : (⟨10 * j.val + 9, hN⟩ : Fin cfg2.N).val % 10 = 9 := by show (10 * j.val + 9) % 10 = 9; omega
  have h := back2_9 V c ⟨10 * j.val + 9, hN⟩ ((flush2_9 _).2 hr) ⟨b.val * 384 + s.val, by omega⟩ n
  have hj : ∀ i, (⟨256 * ((10 * j.val + 9) / 10) + n.val, i⟩ : Fin 1280) = ⟨256 * j.val + n.val, by omega⟩ := fun i => Fin.ext (by
    show 256 * ((10 * j.val + 9) / 10) + n.val = 256 * j.val + n.val; omega)
  rw [after2_9, conv_out V c _ hr, conv_scratch V c _ hr, blk2_2, blk2_3, blk2_4, blk2_5, blk2_6, blk2_7, blk2_8,
    h17, h18, h19, h22, h25, h26, h27] at h
  dsimp only at h
  simp only [hj] at h
  refine h.trans ?_
  congr 2
  refine Finset.sum_congr rfl fun u _ => Finset.sum_congr rfl fun k _ => ?_
  have hlt := Pipeline.run_point_lt_of_flush ⟨10 * j.val + 9, hN⟩ hr u
  unfold convTap
  by_cases hc : 16 ≤ (b.val * 384 + s.val) % 384 + 16 * (k.val / 3) ∧ (b.val * 384 + s.val) % 384 + 16 * (k.val / 3) < 400
  swap
  · exact (if_neg hc).trans (if_neg hc).symm
  refine (if_pos hc).trans (Eq.trans ?_ (if_pos hc).symm)
  unfold prodRow
  refine Finset.sum_congr rfl fun d _ => ?_
  have e0 : ∀ (a0 : Fin 3) (a1 : Fin 768) (a2 : Fin 256), iblk2 V c 0 ⟨10 * ((10 * j.val + 9) / 10) + u.val, hlt⟩ (ix3 a0 a1 a2)
      = A10 a0 a1.val ⟨256 * u.val + a2.val, by omega⟩ := fun a0 a1 a2 => by
    rw [blk2_0, h10]
    congr 1
    apply Fin.ext
    show 256 * ((10 * ((10 * j.val + 9) / 10) + u.val) % 10) + a2.val = 256 * u.val + a2.val
    omega
  have e1 : iblk2 V c 1 ⟨10 * ((10 * j.val + 9) / 10) + u.val, hlt⟩ (ix3 k d n)
      = A16 k ⟨256 * u.val + d.val, by omega⟩ ⟨256 * j.val + n.val, by omega⟩ := by
    rw [blk2_1, h16]
    refine congrArg₂ (A16 k) (Fin.ext ?_) (Fin.ext ?_)
    · show 256 * ((10 * ((10 * j.val + 9) / 10) + u.val) % 10) + d.val = 256 * u.val + d.val
      omega
    · show 256 * ((10 * ((10 * j.val + 9) / 10) + u.val) / 10) + n.val = 256 * j.val + n.val
      omega
  refine congrArg₂ (· * ·) ?_ e1
  unfold rowOf
  have hq : b.val * 384 + s.val + 16 * (k.val / 3) - 16 < 768 := by
    have hb : b.val ≤ 1 := by omega
    have hm : (b.val * 384 + s.val) % 384 = s.val := by omega
    rw [hm] at hc
    omega
  exact (dif_pos hq).trans (e0 _ ⟨_, hq⟩ d)

end Cert.Spec
-- ==== Proof.Value.Args.lean ====
module
public import proofs.«01_k».proof.Proof.Value.Spec
public import proofs.«01_k».proof.Proof.Value.ConvFinal
@[expose] public section
set_option maxRecDepth 65536

/-!
The arguments as functions of their indices, and the results that the mathematics prescribes.
-/
noncomputable section
namespace Cert.Spec
open Idealize.ShloMosaic Idealize.ShloMosaic.TcCoe Cert.KernelIdeal Cert.KernelIdeal.Gen Cert.KernelIdeal.Run

/-- The eighteen arguments. -/
structure Args where
  xc : Fin 2 → Fin 384 → Fin 2560 → Elt Ideal .i8
  xs : Fin 2 → Fin 384 → EReal
  mean1 : Fin 2 → Fin 32 → EReal
  rstd1 : Fin 2 → Fin 32 → EReal
  gamma1 : Fin 2560 → EReal
  beta1 : Fin 2560 → EReal
  w1 : Fin 3 → Fin 3 → Fin 2560 → Fin 1280 → EReal
  ws1 : Fin 1280 → EReal
  b1 : Fin 1280 → EReal
  temb : Fin 2 → Fin 1280 → EReal
  mean2 : Fin 2 → Fin 32 → EReal
  rstd2 : Fin 2 → Fin 32 → EReal
  gamma2 : Fin 1280 → EReal
  beta2 : Fin 1280 → EReal
  w2 : Fin 3 → Fin 3 → Fin 1280 → Fin 1280 → EReal
  ws2 : Fin 1280 → EReal
  dy : Fin 2 → Fin 384 → Fin 1280 → EReal
  ds : Fin 2 → Fin 384 → EReal

/-- The image of row `p`, -/
def bat (p : ℕ) : Fin 2 := ⟨p / 384 % 2, by omega⟩
/-- and its pixel there. -/
def pos (p : ℕ) : Fin 384 := ⟨p % 384, by omega⟩

theorem bat_eq (b : Fin 2) (s : Fin 384) : bat (b.val * 384 + s.val) = b := Fin.ext (by show (b.val * 384 + s.val) / 384 % 2 = b.val; omega)
theorem pos_eq (b : Fin 2) (s : Fin 384) : pos (b.val * 384 + s.val) = s := Fin.ext (by show (b.val * 384 + s.val) % 384 = s.val; omega)

/-- The row and the column of a tap. -/
def tapY (k : Fin 9) : Fin 3 := ⟨k.val / 3, by omega⟩
def tapX (k : Fin 9) : Fin 3 := ⟨k.val % 3, by omega⟩

namespace Args

variable (a : Args)

/-- The first normalised activation. -/
def act (p : ℕ) (d : Fin 2560) : EReal :=
  normAct (a.xc (bat p) (pos p) d) (a.xs (bat p) (pos p)) (a.mean1 (bat p) ⟨d.val / 80, by omega⟩) (a.rstd1 (bat p) ⟨d.val / 80, by omega⟩)
    (a.gamma1 d) (a.beta1 d)

/-- The first convolution. -/
def conv (p : ℕ) (n : Fin 1280) : EReal :=
  ∑ k : Fin 9, ∑ d : Fin 2560, tapRow (fun q => deq a.act q d) (tapY k).val (tapX k).val p * a.w1 (tapY k) (tapX k) d n

/-- The second normalised activation. -/
def hid (p : ℕ) (n : Fin 1280) : EReal :=
  epi (a.conv p n) (a.ws1 n) (a.b1 n) (a.temb (bat p) n) (a.mean2 (bat p) ⟨n.val / 40, by omega⟩) (a.rstd2 (bat p) ⟨n.val / 40, by omega⟩)
    (a.gamma2 n) (a.beta2 n)

/-- The output's gradient. -/
def grad (p : ℕ) (n : Fin 1280) : EReal := a.dy (bat p) (pos p) n * a.ds (bat p) (pos p)

/-- The input's gradient. -/
def da (p : ℕ) (n : Fin 1280) : EReal :=
  ∑ k : Fin 9, ∑ e : Fin 1280, tapRow (fun q => a.grad q e) (2 - (tapY k).val) (2 - (tapX k).val) p * (a.w2 (tapY k) (tapX k) n e * a.ws2 e)

/-- The weights' gradient. -/
def dw (k : Fin 9) (r n : Fin 1280) : EReal :=
  ∑ p : Fin 768, tapRow (fun q => deq a.hid q r) (tapY k).val (tapX k).val p.val * a.grad p.val n

end Args

/-- The blocks of the first convolution put together. -/
theorem conv_sum (R : ℕ → Fin 2560 → EReal) (Wt : Fin 9 → Fin 2560 → EReal) (p : ℕ) :
    (0 + ∑ u : Fin 10, ∑ k : Fin 9,
      if 16 ≤ p % 384 + 16 * (k.val / 3) ∧ p % 384 + 16 * (k.val / 3) < 400 then
        ∑ d : Fin 256, planeRow (fun q => R q ⟨256 * u.val + d.val, by omega⟩) (k.val % 3) (p + 16 * (k.val / 3) - 16) * Wt k ⟨256 * u.val + d.val, by omega⟩
      else 0)
      = ∑ k : Fin 9, ∑ d : Fin 2560, tapRow (fun q => R q d) (tapY k).val (tapX k).val p * Wt k d := by
  rw [zero_add, Finset.sum_comm]
  refine Finset.sum_congr rfl fun k _ => ?_
  have h := sum_blocks (show 10 * 256 = 2560 from rfl) fun d => tapRow (fun q => R q d) (tapY k).val (tapX k).val p * Wt k d
  refine Eq.trans (Finset.sum_congr rfl fun u _ => ?_) h
  unfold tapY tapX
  dsimp only
  simp only [← tapRow_eq]
  by_cases hc : 16 ≤ p % 384 + 16 * (k.val / 3) ∧ p % 384 + 16 * (k.val / 3) < 400
  · simp only [if_pos hc]
  · simp only [if_neg hc, zero_mul, Finset.sum_const_zero]

/-- A tap of the padded gradient. -/
theorem pad_tap (G : ℕ → EReal) (k : Fin 9) (p : ℕ) :
    (if 16 ≤ p % 384 + (32 - 16 * (k.val / 3)) ∧ p % 384 + (32 - 16 * (k.val / 3)) - 16 < 384 then
      planeRow G (2 - k.val % 3) (p / 384 * 384 + (p % 384 + (32 - 16 * (k.val / 3)) - 16)) else 0)
      = tapRow G (2 - (tapY k).val) (2 - (tapX k).val) p := by
  rw [← tapRow_eq]
  unfold tapY tapX
  dsimp only
  refine if_ctx_congr ?_ (fun _ => ?_) fun _ => rfl
  · omega
  · congr 1
    omega

end Cert.Spec
-- ==== Proof.Value.RefConv.lean ====
module
public import proofs.«01_k».proof.Proof.Gen.ReferenceIdeal.Value
public import Idealize.ShloMosaic.Lib.Pointwise
public import proofs.«01_k».proof.Proof.Value.Spec
@[expose] public section
set_option maxRecDepth 65536

/-!
The taps of the first convolution as the reference computes them.
-/
noncomputable section
namespace Cert.Spec
open Idealize.ShloMosaic Idealize.ShloMosaic.TcCoe Cert.ReferenceIdeal Cert.ReferenceIdeal.Gen

theorem rp9 (v25 : FVec Ideal S2x384x2560 .f32) (v41 v42 : FVec Ideal S2x384x1 .f32) (w : Vec Ideal S1x1x2560x1280 .fp8e4m3) (p : Fin 768) (n : Fin 1280) :
    k0_pay9 v25 v41 v42 w (ix2 p n) = 0 + ∑ d : Fin 2560, k0_pay8 v25 v41 v42 (ix4 ⟨p.val / 384, by omega⟩ ⟨p.val / 16 % 24, by omega⟩ ⟨p.val % 16, by omega⟩ d) * w (ix4 0 0 d n) := by
  unfold k0_pay9
  generalize k0_pay8 v25 v41 v42 = I
  pointwise []

theorem rp10 (v25 : FVec Ideal S2x384x2560 .f32) (v41 v42 : FVec Ideal S2x384x1 .f32) (p : Fin 768) (d : Fin 2560) :
    k0_pay10 v25 v41 v42 (ix2 p d) = k0_pay8 v25 v41 v42 (ix4 ⟨p.val / 384, by omega⟩ ⟨p.val / 16 % 24, by omega⟩ ⟨1 + p.val % 16, by omega⟩ d) := by
  unfold k0_pay10
  generalize k0_pay8 v25 v41 v42 = I
  pointwise []

theorem rp12 (I : FVec Ideal S2x26x18x2560 .bf16) (p : Fin 768) (d : Fin 2560) :
    k0_pay12 I (ix2 p d) = I (ix4 ⟨p.val / 384, by omega⟩ ⟨2 + p.val / 16 % 24, by omega⟩ ⟨p.val % 16, by omega⟩ d) := by
  unfold k0_pay12
  pointwise []

theorem rp11 (I : FVec Ideal S2x26x18x2560 .bf16) (a : FVec Ideal S768x1280 .f32) (v : FVec Ideal S768x2560 .bf16) (w1 w2 w3 w4 w5 : Vec Ideal S1x1x2560x1280 .fp8e4m3) (p : Fin 768) (n : Fin 1280) :
    k0_pay11 I a v w1 w2 w3 w4 w5 (ix2 p n) = a (ix2 p n) + ∑ d : Fin 2560, v (ix2 p d) * w1 (ix4 0 0 d n) + ∑ d : Fin 2560, I (ix4 ⟨p.val / 384, by omega⟩ ⟨p.val / 16 % 24, by omega⟩ ⟨2 + p.val % 16, by omega⟩ d) * w2 (ix4 0 0 d n) + ∑ d : Fin 2560, I (ix4 ⟨p.val / 384, by omega⟩ ⟨1 + p.val / 16 % 24, by omega⟩ ⟨p.val % 16, by omega⟩ d) * w3 (ix4 0 0 d n) + ∑ d : Fin 2560, I (ix4 ⟨p.val / 384, by omega⟩ ⟨1 + p.val / 16 % 24, by omega⟩ ⟨1 + p.val % 16, by omega⟩ d) * w4 (ix4 0 0 d n) + ∑ d : Fin 2560, I (ix4 ⟨p.val / 384, by omega⟩ ⟨1 + p.val / 16 % 24, by omega⟩ ⟨2 + p.val % 16, by omega⟩ d) * w5 (ix4 0 0 d n) := by
  unfold k0_pay11
  pointwise []

theorem rp13 (I : FVec Ideal S2x26x18x2560 .bf16) (a : FVec Ideal S768x1280 .f32) (v : FVec Ideal S768x2560 .bf16) (w1 w2 w3 : Vec Ideal S1x1x2560x1280 .fp8e4m3)
    (x7 x8 : Vec Ideal S1280 .f32) (x9 : Vec Ideal S2x1280 .f32) (b : Fin 2) (s : Fin 384) (u : Fin 32) (r : Fin 40) (p : Fin 768) (n : Fin 1280)
    (hp : p.val = b.val * 384 + s.val) (hn : n.val = u.val * 40 + r.val) :
    k0_pay13 I a v w1 w2 w3 x7 x8 x9 (ix4 b s u r) = (a (ix2 p n) + ∑ d : Fin 2560, v (ix2 p d) * w1 (ix4 0 0 d n) + ∑ d : Fin 2560, I (ix4 ⟨p.val / 384, by omega⟩ ⟨2 + p.val / 16 % 24, by omega⟩ ⟨1 + p.val % 16, by omega⟩ d) * w2 (ix4 0 0 d n) + ∑ d : Fin 2560, I (ix4 ⟨p.val / 384, by omega⟩ ⟨2 + p.val / 16 % 24, by omega⟩ ⟨2 + p.val % 16, by omega⟩ d) * w3 (ix4 0 0 d n)) * x7 (ix1 n) + x8 (ix1 n) + x9 (ix2 b n) := by
  have hpl : b.val * 384 + s.val < 768 := by omega
  obtain rfl : p = ⟨b.val * 384 + s.val, hpl⟩ := Fin.ext hp
  have hnl : u.val * 40 + r.val < 1280 := by omega
  obtain rfl : n = ⟨u.val * 40 + r.val, hnl⟩ := Fin.ext hn
  unfold k0_pay13
  have hb : (⟨(b.val * 384 + s.val) / 384, by omega⟩ : Fin 2) = b := Fin.ext (by show (b.val * 384 + s.val) / 384 = b.val; omega)
  pointwise []
  simp only [hb]

end Cert.Spec
-- ==== Proof.Value.RefDa.lean ====
module
public import proofs.«01_k».proof.Proof.Gen.ReferenceIdeal.Value
public import Idealize.ShloMosaic.Lib.Pointwise
public import proofs.«01_k».proof.Proof.Value.Spec
@[expose] public section
set_option maxRecDepth 65536

/-!
The taps of the input's gradient as the reference computes them.
-/
noncomputable section
namespace Cert.Spec
open Idealize.ShloMosaic Idealize.ShloMosaic.TcCoe Cert.ReferenceIdeal Cert.ReferenceIdeal.Gen

theorem rp33 (g : FVec Ideal S2x384x1280 .bf16) (w : Vec Ideal S1x1x1280x1280 .fp8e4m3) (x : Vec Ideal S1280 .f32) (p : Fin 768) (n : Fin 1280) :
    k0_pay33 g w x (ix2 p n) = 0 + ∑ e : Fin 1280, k0_pay32 g (ix4 ⟨p.val / 384, by omega⟩ ⟨2 + p.val / 16 % 24, by omega⟩ ⟨2 + p.val % 16, by omega⟩ e) * (w (ix4 0 0 n e) * x (ix1 e)) := by
  unfold k0_pay33
  generalize k0_pay32 g = I
  pointwise []

theorem rp34 (g : FVec Ideal S2x384x1280 .bf16) (p : Fin 768) (e : Fin 1280) : k0_pay34 g (ix2 p e) = k0_pay32 g (ix4 ⟨p.val / 384, by omega⟩ ⟨2 + p.val / 16 % 24, by omega⟩ ⟨1 + p.val % 16, by omega⟩ e) := by
  unfold k0_pay34
  generalize k0_pay32 g = I
  pointwise []

theorem rp35 (I : FVec Ideal S2x26x18x1280 .bf16) (a : FVec Ideal S768x1280 .f32) (v : FVec Ideal S768x1280 .bf16) (w1 w2 w3 : Vec Ideal S1x1x1280x1280 .fp8e4m3) (x1 x2 x3 : Vec Ideal S1280 .f32) (p : Fin 768) (n : Fin 1280) :
    k0_pay35 I a v w1 x1 w2 x2 w3 x3 (ix2 p n) = a (ix2 p n) + ∑ e : Fin 1280, v (ix2 p e) * (w1 (ix4 0 0 n e) * x1 (ix1 e)) + ∑ e : Fin 1280, I (ix4 ⟨p.val / 384, by omega⟩ ⟨2 + p.val / 16 % 24, by omega⟩ ⟨p.val % 16, by omega⟩ e) * (w2 (ix4 0 0 n e) * x2 (ix1 e)) + ∑ e : Fin 1280, I (ix4 ⟨p.val / 384, by omega⟩ ⟨1 + p.val / 16 % 24, by omega⟩ ⟨2 + p.val % 16, by omega⟩ e) * (w3 (ix4 0 0 n e) * x3 (ix1 e)) := by
  unfold k0_pay35
  pointwise []

theorem rp36 (I : FVec Ideal S2x26x18x1280 .bf16) (p : Fin 768) (e : Fin 1280) : k0_pay36 I (ix2 p e) = I (ix4 ⟨p.val / 384, by omega⟩ ⟨1 + p.val / 16 % 24, by omega⟩ ⟨1 + p.val % 16, by omega⟩ e) := by
  unfold k0_pay36
  pointwise []

theorem rp38 (I : FVec Ideal S2x26x18x1280 .bf16) (a : FVec Ideal S768x1280 .f32) (v : FVec Ideal S768x1280 .bf16) (w1 w2 w3 : Vec Ideal S1x1x1280x1280 .fp8e4m3) (x1 x2 x3 : Vec Ideal S1280 .f32) (p : Fin 768) (n : Fin 1280) :
    k0_pay38 I a v (k0_pay37 w1) x1 w2 x2 w3 x3 (ix2 p n) = a (ix2 p n) + ∑ e : Fin 1280, v (ix2 p e) * (w1 (ix4 0 0 n e) * x1 (ix1 e)) + ∑ e : Fin 1280, I (ix4 ⟨p.val / 384, by omega⟩ ⟨1 + p.val / 16 % 24, by omega⟩ ⟨p.val % 16, by omega⟩ e) * (w2 (ix4 0 0 n e) * x2 (ix1 e)) + ∑ e : Fin 1280, I (ix4 ⟨p.val / 384, by omega⟩ ⟨p.val / 16 % 24, by omega⟩ ⟨2 + p.val % 16, by omega⟩ e) * (w3 (ix4 0 0 n e) * x3 (ix1 e)) := by
  unfold k0_pay38 k0_pay37
  pointwise []

theorem rp39 (I : FVec Ideal S2x26x18x1280 .bf16) (p : Fin 768) (e : Fin 1280) : k0_pay39 I (ix2 p e) = I (ix4 ⟨p.val / 384, by omega⟩ ⟨p.val / 16 % 24, by omega⟩ ⟨1 + p.val % 16, by omega⟩ e) := by
  unfold k0_pay39
  pointwise []

theorem rp1 (I : FVec Ideal S2x26x18x1280 .bf16) (a : FVec Ideal S768x1280 .f32) (v : FVec Ideal S768x1280 .bf16) (w1 w2 : Vec Ideal S1x1x1280x1280 .fp8e4m3) (x1 x2 : Vec Ideal S1280 .f32)
    (b : Fin 2) (s : Fin 384) (p : Fin 768) (n : Fin 1280) (hp : p.val = b.val * 384 + s.val) :
    k0_pay1 I a v (k0_pay40 w1) (k0_pay41 x1) w2 x2 (ix3 b s n) = a (ix2 p n) + ∑ e : Fin 1280, v (ix2 p e) * (w1 (ix4 0 0 n e) * x1 (ix1 e)) + ∑ e : Fin 1280, I (ix4 ⟨p.val / 384, by omega⟩ ⟨p.val / 16 % 24, by omega⟩ ⟨p.val % 16, by omega⟩ e) * (w2 (ix4 0 0 n e) * x2 (ix1 e)) := by
  have hpl : b.val * 384 + s.val < 768 := by omega
  obtain rfl : p = ⟨b.val * 384 + s.val, hpl⟩ := Fin.ext hp
  unfold k0_pay1 k0_pay40 k0_pay41
  have hb : (⟨(b.val * 384 + s.val) / 384, by omega⟩ : Fin 2) = b := Fin.ext (by show (b.val * 384 + s.val) / 384 = b.val; omega)
  pointwise []
  simp only [hb]

end Cert.Spec
-- ==== Proof.Value.RefDw.lean ====
module
public import proofs.«01_k».proof.Proof.Gen.ReferenceIdeal.Value
public import Idealize.ShloMosaic.Lib.Pointwise
public import proofs.«01_k».proof.Proof.Value.Spec
@[expose] public section
set_option maxRecDepth 65536

/-!
The taps of the weights' gradient as the reference computes them.
-/
noncomputable section
namespace Cert.Spec
open Idealize.ShloMosaic Idealize.ShloMosaic.TcCoe Cert.ReferenceIdeal Cert.ReferenceIdeal.Gen

theorem rp26 (I : FVec Ideal S2x26x18x1280 .bf16) (G : FVec Ideal S2x384x1280 .bf16) (r n : Fin 1280) : k0_pay26 I G (ix4 0 0 r n) = ∑ p : Fin 768, I (ix4 ⟨p.val / 384, by omega⟩ ⟨1 + p.val / 16 % 24, by omega⟩ ⟨p.val % 16, by omega⟩ r) * G (ix3 ⟨p.val / 384, by omega⟩ ⟨p.val % 384, by omega⟩ n) := by
  unfold k0_pay26
  pointwise []

theorem rp27 (I : FVec Ideal S2x26x18x1280 .bf16) (G : FVec Ideal S2x384x1280 .bf16) (r n : Fin 1280) : k0_pay27 I G (ix4 0 0 r n) = ∑ p : Fin 768, I (ix4 ⟨p.val / 384, by omega⟩ ⟨1 + p.val / 16 % 24, by omega⟩ ⟨1 + p.val % 16, by omega⟩ r) * G (ix3 ⟨p.val / 384, by omega⟩ ⟨p.val % 384, by omega⟩ n) := by
  unfold k0_pay27
  pointwise []

theorem rp28 (I : FVec Ideal S2x26x18x1280 .bf16) (G : FVec Ideal S2x384x1280 .bf16) (r n : Fin 1280) : k0_pay28 I G (ix4 0 0 r n) = ∑ p : Fin 768, I (ix4 ⟨p.val / 384, by omega⟩ ⟨1 + p.val / 16 % 24, by omega⟩ ⟨2 + p.val % 16, by omega⟩ r) * G (ix3 ⟨p.val / 384, by omega⟩ ⟨p.val % 384, by omega⟩ n) := by
  unfold k0_pay28
  pointwise []

theorem rp29 (I : FVec Ideal S2x26x18x1280 .bf16) (G : FVec Ideal S2x384x1280 .bf16) (r n : Fin 1280) : k0_pay29 I G (ix4 0 0 r n) = ∑ p : Fin 768, I (ix4 ⟨p.val / 384, by omega⟩ ⟨2 + p.val / 16 % 24, by omega⟩ ⟨p.val % 16, by omega⟩ r) * G (ix3 ⟨p.val / 384, by omega⟩ ⟨p.val % 384, by omega⟩ n) := by
  unfold k0_pay29
  pointwise []

theorem rp30 (I : FVec Ideal S2x26x18x1280 .bf16) (G : FVec Ideal S2x384x1280 .bf16) (r n : Fin 1280) : k0_pay30 I G (ix4 0 0 r n) = ∑ p : Fin 768, I (ix4 ⟨p.val / 384, by omega⟩ ⟨2 + p.val / 16 % 24, by omega⟩ ⟨1 + p.val % 16, by omega⟩ r) * G (ix3 ⟨p.val / 384, by omega⟩ ⟨p.val % 384, by omega⟩ n) := by
  unfold k0_pay30
  pointwise []

theorem rp31 (I : FVec Ideal S2x26x18x1280 .bf16) (G : FVec Ideal S2x384x1280 .bf16) (r n : Fin 1280) : k0_pay31 I G (ix4 0 0 r n) = ∑ p : Fin 768, I (ix4 ⟨p.val / 384, by omega⟩ ⟨2 + p.val / 16 % 24, by omega⟩ ⟨2 + p.val % 16, by omega⟩ r) * G (ix3 ⟨p.val / 384, by omega⟩ ⟨p.val % 384, by omega⟩ n) := by
  unfold k0_pay31
  pointwise []

theorem rp21 (v190 : FVec Ideal S2x384x1 .f32) (v197 : FVec Ideal S2x384x1280 .fp8e4m3) (x16 : Vec Ideal S2x384x1280 .fp8e5m2) (x17 : Vec Ideal S2x384 .f32) (r n : Fin 1280) : k0_pay21 v190 v197 x16 x17 (ix4 0 0 r n) = ∑ p : Fin 768, k0_pay19 v190 v197 (ix4 ⟨p.val / 384, by omega⟩ ⟨p.val / 16 % 24, by omega⟩ ⟨p.val % 16, by omega⟩ r) * k0_pay20 x16 x17 (ix3 ⟨p.val / 384, by omega⟩ ⟨p.val % 384, by omega⟩ n) := by
  unfold k0_pay21
  generalize k0_pay19 v190 v197 = I
  generalize k0_pay20 x16 x17 = G
  pointwise []

theorem rp22 (v190 : FVec Ideal S2x384x1 .f32) (v197 : FVec Ideal S2x384x1280 .fp8e4m3) (x16 : Vec Ideal S2x384x1280 .fp8e5m2) (x17 : Vec Ideal S2x384 .f32) (r n : Fin 1280) : k0_pay22 v190 v197 x16 x17 (ix4 0 0 r n) = ∑ p : Fin 768, k0_pay19 v190 v197 (ix4 ⟨p.val / 384, by omega⟩ ⟨p.val / 16 % 24, by omega⟩ ⟨1 + p.val % 16, by omega⟩ r) * k0_pay20 x16 x17 (ix3 ⟨p.val / 384, by omega⟩ ⟨p.val % 384, by omega⟩ n) := by
  unfold k0_pay22
  generalize k0_pay19 v190 v197 = I
  generalize k0_pay20 x16 x17 = G
  pointwise []

theorem rp25 (v190 : FVec Ideal S2x384x1 .f32) (v197 : FVec Ideal S2x384x1280 .fp8e4m3) (x16 : Vec Ideal S2x384x1280 .fp8e5m2) (x17 : Vec Ideal S2x384 .f32) (r n : Fin 1280) : k0_pay25 (k0_pay23 v190 v197) (k0_pay24 x16 x17) (constant S1280x1280 .f32 0x00000000#32) (ix4 0 0 r n) = ∑ p : Fin 768, k0_pay19 v190 v197 (ix4 ⟨p.val / 384, by omega⟩ ⟨p.val / 16 % 24, by omega⟩ ⟨2 + p.val % 16, by omega⟩ r) * k0_pay20 x16 x17 (ix3 ⟨p.val / 384, by omega⟩ ⟨p.val % 384, by omega⟩ n) := by
  unfold k0_pay25 k0_pay23 k0_pay24
  generalize k0_pay19 v190 v197 = I
  generalize k0_pay20 x16 x17 = G
  pointwise []

end Cert.Spec
-- ==== Proof.Value.RefPad.lean ====
module
public import proofs.«01_k».proof.Proof.Gen.ReferenceIdeal.Value
public import Idealize.ShloMosaic.Lib.Pointwise
public import proofs.«01_k».proof.Proof.Value.Spec
@[expose] public section
set_option maxRecDepth 65536

/-!
The bordered images as the reference makes them.
-/
noncomputable section
namespace Cert.Spec
open Idealize.ShloMosaic Idealize.ShloMosaic.TcCoe Cert.ReferenceIdeal Cert.ReferenceIdeal.Gen

/-- The zero of the border. -/
theorem zero_i : (((((0#32 : BitVec 32).toInt : ℤ) : ℝ) : EReal)) = 0 := by simp

theorem rp8 (v25 : FVec Ideal S2x384x2560 .f32) (v41 v42 : FVec Ideal S2x384x1 .f32) (b : Fin 2) (s : Fin 26) (t : Fin 18) (d : Fin 2560) :
    k0_pay8 v25 v41 v42 (ix4 b s t d) = if h1 : t.val < 17 then if h2 : t.val < 1 then (0 : EReal) else if h3 : s.val < 25 then if h4 : s.val < 1 then 0 else k0_pay6 v25 v41 v42 (ix3 b ⟨(s.val - 1) * 16 + (t.val - 1), by omega⟩ d) * k0_pay5 v41 v42 (ix3 b ⟨(s.val - 1) * 16 + (t.val - 1), by omega⟩ 0) else 0 else 0 := by
  unfold k0_pay8
  generalize k0_pay6 v25 v41 v42 = X
  generalize k0_pay5 v41 v42 = Y
  pointwise []
  simp only [zero_i]

theorem rp19 (v190 : FVec Ideal S2x384x1 .f32) (v197 : FVec Ideal S2x384x1280 .fp8e4m3) (b : Fin 2) (s : Fin 26) (t : Fin 18) (d : Fin 1280) :
    k0_pay19 v190 v197 (ix4 b s t d) = if h1 : t.val < 17 then if h2 : t.val < 1 then (0 : EReal) else if h3 : s.val < 25 then if h4 : s.val < 1 then 0 else v197 (ix3 b ⟨(s.val - 1) * 16 + (t.val - 1), by omega⟩ d) * v190 (ix3 b ⟨(s.val - 1) * 16 + (t.val - 1), by omega⟩ 0) else 0 else 0 := by
  unfold k0_pay19
  pointwise []
  simp only [zero_i]

theorem rp32 (g : FVec Ideal S2x384x1280 .bf16) (b : Fin 2) (s : Fin 26) (t : Fin 18) (d : Fin 1280) :
    k0_pay32 g (ix4 b s t d) = if h1 : t.val < 17 then if h2 : t.val < 1 then (0 : EReal) else if h3 : s.val < 25 then if h4 : s.val < 1 then 0 else g (ix3 b ⟨(s.val - 1) * 16 + (t.val - 1), by omega⟩ d) else 0 else 0 := by
  unfold k0_pay32
  pointwise []
  simp only [zero_i]

theorem rp20 (x16 : Vec Ideal S2x384x1280 .fp8e5m2) (x17 : Vec Ideal S2x384 .f32) (b : Fin 2) (s : Fin 384) (d : Fin 1280) :
    k0_pay20 x16 x17 (ix3 b s d) = x16 (ix3 b s d) * x17 (ix2 b s) := by
  unfold k0_pay20
  pointwise []

end Cert.Spec
-- ==== Proof.Value.RefQuant.lean ====
module
public import proofs.«01_k».proof.Proof.Gen.ReferenceIdeal.Value
public import Idealize.ShloMosaic.Lib.Pointwise
public import proofs.«01_k».proof.Proof.Value.Spec
@[expose] public section
set_option maxRecDepth 65536

/-!
The normalised rows, their codes and their scales as the reference computes them.
-/
noncomputable section
namespace Cert.Spec
open Idealize.ShloMosaic Idealize.ShloMosaic.TcCoe Cert.ReferenceIdeal Cert.ReferenceIdeal.Gen

theorem rp2 (v0 : Vec Ideal S2x384x2560 .i8) (v2 : Vec Ideal S2x384 .f32) (v6 v7 : Vec Ideal S2x32 .f32) (v8 v9 : Vec Ideal S2560 .f32) (b : Fin 2) (s : Fin 384) (d : Fin 2560) :
    k0_pay2 v0 v2 v6 v7 v8 v9 (ix3 b s d) = normAct (v0 (ix3 b s d)) (v2 (ix2 b s)) (v6 (ix2 b ⟨d.val / 80, by omega⟩)) (v7 (ix2 b ⟨d.val / 80, by omega⟩)) (v8 (ix1 d)) (v9 (ix1 d)) := by
  unfold k0_pay2 normAct gnSilu
  pointwise []

theorem rp3 (v0 : Vec Ideal S2x384x2560 .i8) (v2 : Vec Ideal S2x384 .f32) (v6 v7 : Vec Ideal S2x32 .f32) (v8 v9 : Vec Ideal S2560 .f32) (b : Fin 2) (s : Fin 384) :
    k0_pay3 v0 v2 v6 v7 v8 v9 (ix3 b s 0) = largest (rowLevel fun d => k0_pay2 v0 v2 v6 v7 v8 v9 (ix3 b s d)) := by
  unfold k0_pay3 largest rowLevel candidate
  generalize k0_pay2 v0 v2 v6 v7 v8 v9 = X
  pointwise []

theorem rp5 (v : FVec Ideal S2x384x1 .f32) (x : EReal) (b : Fin 2) (s : Fin 384) (h : v (ix3 b s 0) = largest x) :
    k0_pay5 v (k0_pay4 (F := Ideal)) (ix3 b s 0) = scaleOf x := by
  unfold scaleOf
  rw [← h]
  unfold k0_pay5 k0_pay4
  pointwise []

theorem rp6 (u : FVec Ideal S2x384x2560 .f32) (v : FVec Ideal S2x384x1 .f32) (x : EReal) (b : Fin 2) (s : Fin 384) (d : Fin 2560) (h : v (ix3 b s 0) = largest x) :
    k0_pay6 u v (k0_pay4 (F := Ideal)) (ix3 b s d) = codeOf (u (ix3 b s d)) x := by
  unfold codeOf
  rw [← rp5 v x b s h]
  unfold k0_pay6
  generalize k0_pay5 v (k0_pay4 (F := Ideal)) = Y
  pointwise []

theorem rp7 (v : FVec Ideal S2x384x1 .f32) (x : EReal) (b : Fin 2) (s : Fin 384) (h : v (ix3 b s 0) = largest x) :
    k0_pay7 v (k0_pay4 (F := Ideal)) (ix2 b s) = scaleOf x := by
  rw [← rp5 v x b s h]
  unfold k0_pay7
  generalize k0_pay5 v (k0_pay4 (F := Ideal)) = Y
  pointwise []

theorem rp15 (x10 v150 : Vec Ideal S2x32 .f32) (v151 v152 : Vec Ideal S1280 .f32) (v153 : FVec Ideal S2x384x32x40 .f32) (b : Fin 2) (s : Fin 384) (n : Fin 1280) :
    k0_pay15 v150 v151 v152 v153 (k0_pay14 x10) (ix3 b s n) = gnSilu (v153 (ix4 b s ⟨n.val / 40, by omega⟩ ⟨n.val % 40, by omega⟩)) (x10 (ix2 b ⟨n.val / 40, by omega⟩)) (v150 (ix2 b ⟨n.val / 40, by omega⟩)) (v151 (ix1 n)) (v152 (ix1 n)) := by
  unfold k0_pay15 k0_pay14 gnSilu
  pointwise []

theorem rp16 (v150 : Vec Ideal S2x32 .f32) (v151 v152 : Vec Ideal S1280 .f32) (v153 : FVec Ideal S2x384x32x40 .f32) (v154 : FVec Ideal S2x1x32x1 .f32) (b : Fin 2) (s : Fin 384) :
    k0_pay16 v150 v151 v152 v153 v154 (ix3 b s 0) = scaleOf (rowLevel fun n => k0_pay15 v150 v151 v152 v153 v154 (ix3 b s n)) := by
  unfold k0_pay16 scaleOf largest rowLevel candidate
  generalize k0_pay15 v150 v151 v152 v153 v154 = X
  pointwise []

theorem rp17 (v150 : Vec Ideal S2x32 .f32) (v151 v152 : Vec Ideal S1280 .f32) (v153 : FVec Ideal S2x384x32x40 .f32) (v154 : FVec Ideal S2x1x32x1 .f32) (b : Fin 2) (s : Fin 384) (n : Fin 1280) :
    k0_pay17 v150 v151 v152 v153 v154 (ix3 b s n) = codeOf (k0_pay15 v150 v151 v152 v153 v154 (ix3 b s n)) (rowLevel fun n => k0_pay15 v150 v151 v152 v153 v154 (ix3 b s n)) := by
  unfold codeOf
  rw [← rp16]
  unfold k0_pay17
  generalize k0_pay15 v150 v151 v152 v153 v154 = X
  generalize k0_pay16 v150 v151 v152 v153 v154 = Y
  pointwise []

theorem rp18 (v150 : Vec Ideal S2x32 .f32) (v151 v152 : Vec Ideal S1280 .f32) (v153 : FVec Ideal S2x384x32x40 .f32) (v154 : FVec Ideal S2x1x32x1 .f32) (b : Fin 2) (s : Fin 384) :
    k0_pay18 v150 v151 v152 v153 v154 (ix2 b s) = scaleOf (rowLevel fun n => k0_pay15 v150 v151 v152 v153 v154 (ix3 b s n)) := by
  rw [← rp16]
  unfold k0_pay18
  generalize k0_pay16 v150 v151 v152 v153 v154 = Y
  pointwise []

end Cert.Spec
-- ==== Proof.Value.RefTaps.lean ====
module
public import proofs.«01_k».proof.Proof.Gen.ReferenceIdeal.Value
public import Idealize.ShloMosaic.Lib.Pointwise
public import proofs.«01_k».proof.Proof.Value.Spec
@[expose] public section
set_option maxRecDepth 65536

/-!
Windows of a bordered image.
-/
noncomputable section
namespace Cert.Spec
open Idealize.ShloMosaic Idealize.ShloMosaic.TcCoe Cert.ReferenceIdeal Cert.ReferenceIdeal.Gen

/-- A bordered image at line `s` and place `t`, from its rows. -/
def padImg (R : ℕ → EReal) (b s t : ℕ) : EReal :=
  if t < 17 then if t < 1 then 0 else if s < 25 then if s < 1 then 0 else R (b * 384 + ((s - 1) * 16 + (t - 1))) else 0 else 0

/-- Its windows are the taps. -/
theorem padImg_tap (R : ℕ → EReal) (p s t ky kx : ℕ) (hp : p < 768) (hy : ky < 3) (hx : kx < 3) (hs : s = p / 16 % 24 + ky) (ht : t = p % 16 + kx) :
    padImg R (p / 384) s t = tapRow R ky kx p := by
  subst hs ht
  unfold padImg tapRow
  by_cases h : 1 ≤ p % 384 / 16 + ky ∧ p % 384 / 16 + ky < 25 ∧ 1 ≤ p % 16 + kx ∧ p % 16 + kx < 17
  · rw [if_pos h, if_pos (by omega), if_neg (by omega), if_pos (by omega), if_neg (by omega)]
    congr 1
    omega
  · rw [if_neg h]
    split_ifs <;> first | rfl | (exfalso; omega)

/-- A bordered image's entries from its rows. -/
theorem pad_rows {N : ℕ} (I : Fin 2 → Fin 26 → Fin 18 → Fin N → EReal) (V : Fin 2 → Fin 384 → Fin N → EReal) (R : ℕ → Fin N → EReal)
    (hV : ∀ b s d, V b s d = R (b.val * 384 + s.val) d)
    (hI : ∀ b s t d, I b s t d = if h1 : t.val < 17 then if h2 : t.val < 1 then (0 : EReal) else if h3 : s.val < 25 then if h4 : s.val < 1 then 0 else V b ⟨(s.val - 1) * 16 + (t.val - 1), by omega⟩ d else 0 else 0)
    (b : Fin 2) (s : Fin 26) (t : Fin 18) (d : Fin N) : I b s t d = padImg (fun q => R q d) b.val s.val t.val := by
  rw [hI]
  unfold padImg
  simp only [hV, dite_eq_ite]

theorem sum_nine (f : Fin 9 → EReal) : 0 + f 0 + f 1 + f 2 + f 3 + f 4 + f 5 + f 6 + f 7 + f 8 = ∑ k, f k := by
  rw [Fin.sum_univ_castSucc, Fin.sum_univ_eight, zero_add]
  rfl

end Cert.Spec
-- ==== Proof.Value.RefReads.lean ====
module
public import proofs.«01_k».proof.Proof.Gen.ReferenceIdeal.Value
public import Idealize.ShloMosaic.Lib.Pointwise
public import proofs.«01_k».proof.Proof.Value.Spec
public import Idealize.ShloMosaic.Lib.Pipeline.ValueKit
@[expose] public section
set_option maxRecDepth 65536

/-!
What the reference reads of its arguments.
-/
noncomputable section
namespace Cert.Spec
open Idealize.ShloMosaic Idealize.ShloMosaic.TcCoe Cert.ReferenceIdeal Cert.ReferenceIdeal.Gen

/-! ### The reads -/

theorem ld0 {e : EltTy} (x : Vec Ideal S2x384x2560 e) : View.ld x r0_0 = x := View.ld_unit_lit inb_S2x384x2560_S2x384x2560_0_0_0 x (by decide)

theorem ld1 {e : EltTy} (x : Vec Ideal S2x384 e) : View.ld x r0_1 = x := View.ld_unit_lit inb_S2x384_S2x384_0_0 x (by decide)

theorem ld2 {e : EltTy} (x : Vec Ideal S2x32 e) : View.ld x r0_2 = x := View.ld_unit_lit inb_S2x32_S2x32_0_0 x (by decide)

theorem ld3 {e : EltTy} (x : Vec Ideal S2560 e) : View.ld x r0_3 = x := View.ld_unit_lit inb_S2560_S2560_0 x (by decide)

theorem ld13 {e : EltTy} (x : Vec Ideal S1280 e) : View.ld x r0_13 = x := View.ld_unit_lit inb_S1280_S1280_0 x (by decide)

theorem ld14 {e : EltTy} (x : Vec Ideal S2x1280 e) : View.ld x r0_14 = x := View.ld_unit_lit inb_S2x1280_S2x1280_0_0 x (by decide)

theorem ld15 {e : EltTy} (x : Vec Ideal S2x384x1280 e) : View.ld x r0_15 = x := View.ld_unit_lit inb_S2x384x1280_S2x384x1280_0_0_0 x (by decide)

theorem ld4 (x : Vec Ideal S3x3x2560x1280 .fp8e4m3) (d : Fin 2560) (n : Fin 1280) : View.ld x r0_4 (ix4 0 0 d n) = x (ix4 0 0 d n) := by
  show x ((r0_4).emb (ix4 0 0 d n)) = _
  congr 1
  funext a
  fin_cases a <;> apply Fin.ext
  · rfl
  · rfl
  · show 0 + 1 * d.val = d.val; omega
  · show 0 + 1 * n.val = n.val; omega

theorem ld5 (x : Vec Ideal S3x3x2560x1280 .fp8e4m3) (d : Fin 2560) (n : Fin 1280) : View.ld x r0_5 (ix4 0 0 d n) = x (ix4 0 1 d n) := by
  show x ((r0_5).emb (ix4 0 0 d n)) = _
  congr 1
  funext a
  fin_cases a <;> apply Fin.ext
  · rfl
  · rfl
  · show 0 + 1 * d.val = d.val; omega
  · show 0 + 1 * n.val = n.val; omega

theorem ld6 (x : Vec Ideal S3x3x2560x1280 .fp8e4m3) (d : Fin 2560) (n : Fin 1280) : View.ld x r0_6 (ix4 0 0 d n) = x (ix4 0 2 d n) := by
  show x ((r0_6).emb (ix4 0 0 d n)) = _
  congr 1
  funext a
  fin_cases a <;> apply Fin.ext
  · rfl
  · rfl
  · show 0 + 1 * d.val = d.val; omega
  · show 0 + 1 * n.val = n.val; omega

theorem ld7 (x : Vec Ideal S3x3x2560x1280 .fp8e4m3) (d : Fin 2560) (n : Fin 1280) : View.ld x r0_7 (ix4 0 0 d n) = x (ix4 1 0 d n) := by
  show x ((r0_7).emb (ix4 0 0 d n)) = _
  congr 1
  funext a
  fin_cases a <;> apply Fin.ext
  · rfl
  · rfl
  · show 0 + 1 * d.val = d.val; omega
  · show 0 + 1 * n.val = n.val; omega

theorem ld8 (x : Vec Ideal S3x3x2560x1280 .fp8e4m3) (d : Fin 2560) (n : Fin 1280) : View.ld x r0_8 (ix4 0 0 d n) = x (ix4 1 1 d n) := by
  show x ((r0_8).emb (ix4 0 0 d n)) = _
  congr 1
  funext a
  fin_cases a <;> apply Fin.ext
  · rfl
  · rfl
  · show 0 + 1 * d.val = d.val; omega
  · show 0 + 1 * n.val = n.val; omega

theorem ld9 (x : Vec Ideal S3x3x2560x1280 .fp8e4m3) (d : Fin 2560) (n : Fin 1280) : View.ld x r0_9 (ix4 0 0 d n) = x (ix4 1 2 d n) := by
  show x ((r0_9).emb (ix4 0 0 d n)) = _
  congr 1
  funext a
  fin_cases a <;> apply Fin.ext
  · rfl
  · rfl
  · show 0 + 1 * d.val = d.val; omega
  · show 0 + 1 * n.val = n.val; omega

theorem ld10 (x : Vec Ideal S3x3x2560x1280 .fp8e4m3) (d : Fin 2560) (n : Fin 1280) : View.ld x r0_10 (ix4 0 0 d n) = x (ix4 2 0 d n) := by
  show x ((r0_10).emb (ix4 0 0 d n)) = _
  congr 1
  funext a
  fin_cases a <;> apply Fin.ext
  · rfl
  · rfl
  · show 0 + 1 * d.val = d.val; omega
  · show 0 + 1 * n.val = n.val; omega

theorem ld11 (x : Vec Ideal S3x3x2560x1280 .fp8e4m3) (d : Fin 2560) (n : Fin 1280) : View.ld x r0_11 (ix4 0 0 d n) = x (ix4 2 1 d n) := by
  show x ((r0_11).emb (ix4 0 0 d n)) = _
  congr 1
  funext a
  fin_cases a <;> apply Fin.ext
  · rfl
  · rfl
  · show 0 + 1 * d.val = d.val; omega
  · show 0 + 1 * n.val = n.val; omega

theorem ld12 (x : Vec Ideal S3x3x2560x1280 .fp8e4m3) (d : Fin 2560) (n : Fin 1280) : View.ld x r0_12 (ix4 0 0 d n) = x (ix4 2 2 d n) := by
  show x ((r0_12).emb (ix4 0 0 d n)) = _
  congr 1
  funext a
  fin_cases a <;> apply Fin.ext
  · rfl
  · rfl
  · show 0 + 1 * d.val = d.val; omega
  · show 0 + 1 * n.val = n.val; omega

theorem ld16 (x : Vec Ideal S3x3x1280x1280 .fp8e4m3) (d : Fin 1280) (n : Fin 1280) : View.ld x r0_16 (ix4 0 0 d n) = x (ix4 0 0 d n) := by
  show x ((r0_16).emb (ix4 0 0 d n)) = _
  congr 1
  funext a
  fin_cases a <;> apply Fin.ext
  · rfl
  · rfl
  · show 0 + 1 * d.val = d.val; omega
  · show 0 + 1 * n.val = n.val; omega

theorem ld17 (x : Vec Ideal S3x3x1280x1280 .fp8e4m3) (d : Fin 1280) (n : Fin 1280) : View.ld x r0_17 (ix4 0 0 d n) = x (ix4 0 1 d n) := by
  show x ((r0_17).emb (ix4 0 0 d n)) = _
  congr 1
  funext a
  fin_cases a <;> apply Fin.ext
  · rfl
  · rfl
  · show 0 + 1 * d.val = d.val; omega
  · show 0 + 1 * n.val = n.val; omega

theorem ld18 (x : Vec Ideal S3x3x1280x1280 .fp8e4m3) (d : Fin 1280) (n : Fin 1280) : View.ld x r0_18 (ix4 0 0 d n) = x (ix4 0 2 d n) := by
  show x ((r0_18).emb (ix4 0 0 d n)) = _
  congr 1
  funext a
  fin_cases a <;> apply Fin.ext
  · rfl
  · rfl
  · show 0 + 1 * d.val = d.val; omega
  · show 0 + 1 * n.val = n.val; omega

theorem ld19 (x : Vec Ideal S3x3x1280x1280 .fp8e4m3) (d : Fin 1280) (n : Fin 1280) : View.ld x r0_19 (ix4 0 0 d n) = x (ix4 1 0 d n) := by
  show x ((r0_19).emb (ix4 0 0 d n)) = _
  congr 1
  funext a
  fin_cases a <;> apply Fin.ext
  · rfl
  · rfl
  · show 0 + 1 * d.val = d.val; omega
  · show 0 + 1 * n.val = n.val; omega

theorem ld20 (x : Vec Ideal S3x3x1280x1280 .fp8e4m3) (d : Fin 1280) (n : Fin 1280) : View.ld x r0_20 (ix4 0 0 d n) = x (ix4 1 1 d n) := by
  show x ((r0_20).emb (ix4 0 0 d n)) = _
  congr 1
  funext a
  fin_cases a <;> apply Fin.ext
  · rfl
  · rfl
  · show 0 + 1 * d.val = d.val; omega
  · show 0 + 1 * n.val = n.val; omega

theorem ld21 (x : Vec Ideal S3x3x1280x1280 .fp8e4m3) (d : Fin 1280) (n : Fin 1280) : View.ld x r0_21 (ix4 0 0 d n) = x (ix4 1 2 d n) := by
  show x ((r0_21).emb (ix4 0 0 d n)) = _
  congr 1
  funext a
  fin_cases a <;> apply Fin.ext
  · rfl
  · rfl
  · show 0 + 1 * d.val = d.val; omega
  · show 0 + 1 * n.val = n.val; omega

theorem ld22 (x : Vec Ideal S3x3x1280x1280 .fp8e4m3) (d : Fin 1280) (n : Fin 1280) : View.ld x r0_22 (ix4 0 0 d n) = x (ix4 2 0 d n) := by
  show x ((r0_22).emb (ix4 0 0 d n)) = _
  congr 1
  funext a
  fin_cases a <;> apply Fin.ext
  · rfl
  · rfl
  · show 0 + 1 * d.val = d.val; omega
  · show 0 + 1 * n.val = n.val; omega

theorem ld23 (x : Vec Ideal S3x3x1280x1280 .fp8e4m3) (d : Fin 1280) (n : Fin 1280) : View.ld x r0_23 (ix4 0 0 d n) = x (ix4 2 1 d n) := by
  show x ((r0_23).emb (ix4 0 0 d n)) = _
  congr 1
  funext a
  fin_cases a <;> apply Fin.ext
  · rfl
  · rfl
  · show 0 + 1 * d.val = d.val; omega
  · show 0 + 1 * n.val = n.val; omega

theorem ld24 (x : Vec Ideal S3x3x1280x1280 .fp8e4m3) (d : Fin 1280) (n : Fin 1280) : View.ld x r0_24 (ix4 0 0 d n) = x (ix4 2 2 d n) := by
  show x ((r0_24).emb (ix4 0 0 d n)) = _
  congr 1
  funext a
  fin_cases a <;> apply Fin.ext
  · rfl
  · rfl
  · show 0 + 1 * d.val = d.val; omega
  · show 0 + 1 * n.val = n.val; omega

end Cert.Spec
-- ==== Proof.Value.RefActs.lean ====
module
public import proofs.«01_k».proof.Proof.Gen.ReferenceIdeal.Value
public import Idealize.ShloMosaic.Lib.Pointwise
public import proofs.«01_k».proof.Proof.Value.Spec
public import proofs.«01_k».proof.Proof.Value.Args
public import proofs.«01_k».proof.Proof.Value.RefConv
public import proofs.«01_k».proof.Proof.Value.RefDa
public import proofs.«01_k».proof.Proof.Value.RefDw
public import proofs.«01_k».proof.Proof.Value.RefPad
public import proofs.«01_k».proof.Proof.Value.RefQuant
public import proofs.«01_k».proof.Proof.Value.RefTaps
public import proofs.«01_k».proof.Proof.Value.RefReads
@[expose] public section
set_option maxRecDepth 65536

/-!
The normalised rows, the first convolution and the bordered images of the reference, by the mathematics.
-/
noncomputable section
namespace Cert.Spec
open Idealize.ShloMosaic Idealize.ShloMosaic.TcCoe Cert.ReferenceIdeal Cert.ReferenceIdeal.Gen
variable (X0 : Vec Ideal S2x384x2560 .i8) (X1 : Vec Ideal S2x384 .f32) (X2 : Vec Ideal S2x32 .f32) (X3 : Vec Ideal S2x32 .f32) (X4 : Vec Ideal S2560 .f32) (X5 : Vec Ideal S2560 .f32) (X6 : Vec Ideal S3x3x2560x1280 .fp8e4m3) (X7 : Vec Ideal S1280 .f32) (X8 : Vec Ideal S1280 .f32) (X9 : Vec Ideal S2x1280 .f32) (X10 : Vec Ideal S2x32 .f32) (X11 : Vec Ideal S2x32 .f32) (X12 : Vec Ideal S1280 .f32) (X13 : Vec Ideal S1280 .f32) (X14 : Vec Ideal S3x3x1280x1280 .fp8e4m3) (X15 : Vec Ideal S1280 .f32) (X16 : Vec Ideal S2x384x1280 .fp8e5m2) (X17 : Vec Ideal S2x384 .f32)

/-- The reference's arguments as functions of their indices. -/
def argsR : Args := ⟨fun b s d => X0 (ix3 b s d), fun b s => X1 (ix2 b s), fun b g => X2 (ix2 b g), fun b g => X3 (ix2 b g), fun d => X4 (ix1 d), fun d => X5 (ix1 d), fun y x d n => X6 (ix4 y x d n), fun n => X7 (ix1 n), fun n => X8 (ix1 n), fun b n => X9 (ix2 b n), fun b g => X10 (ix2 b g), fun b g => X11 (ix2 b g), fun n => X12 (ix1 n), fun n => X13 (ix1 n), fun y x d n => X14 (ix4 y x d n), fun n => X15 (ix1 n), fun b s n => X16 (ix3 b s n), fun b s => X17 (ix2 b s)⟩

theorem p42 : (k0_pay42 X0 X1 X2 X3 X4 X5 X6 X7 X8 X9 X10 X11 X12 X13 X14 X15 X16 X17) = k0_pay2 X0 X1 X2 X3 X4 X5 := by
  unfold k0_pay42
  rw [ld0 X0, ld1 X1, ld2 X2, ld2 X3, ld3 X4, ld3 X5]

theorem p43 : (k0_pay43 X0 X1 X2 X3 X4 X5 X6 X7 X8 X9 X10 X11 X12 X13 X14 X15 X16 X17) = k0_pay3 X0 X1 X2 X3 X4 X5 := by
  unfold k0_pay43
  rw [ld0 X0, ld1 X1, ld2 X2, ld2 X3, ld3 X4, ld3 X5]

theorem act1 (b : Fin 2) (s : Fin 384) (d : Fin 2560) : k0_pay2 X0 X1 X2 X3 X4 X5 (ix3 b s d) = (argsR X0 X1 X2 X3 X4 X5 X6 X7 X8 X9 X10 X11 X12 X13 X14 X15 X16 X17).act (b.val * 384 + s.val) d := by
  rw [rp2]
  unfold Args.act
  rw [bat_eq, pos_eq]
  rfl

theorem lev1 (b : Fin 2) (s : Fin 384) : (k0_pay43 X0 X1 X2 X3 X4 X5 X6 X7 X8 X9 X10 X11 X12 X13 X14 X15 X16 X17) (ix3 b s 0) = largest (rowLevel ((argsR X0 X1 X2 X3 X4 X5 X6 X7 X8 X9 X10 X11 X12 X13 X14 X15 X16 X17).act (b.val * 384 + s.val))) := by
  rw [p43, rp3]
  congr 2
  funext d
  exact act1 X0 X1 X2 X3 X4 X5 X6 X7 X8 X9 X10 X11 X12 X13 X14 X15 X16 X17 b s d

theorem code1 (b : Fin 2) (s : Fin 384) (d : Fin 2560) : k0_pay6 (k0_pay42 X0 X1 X2 X3 X4 X5 X6 X7 X8 X9 X10 X11 X12 X13 X14 X15 X16 X17) (k0_pay43 X0 X1 X2 X3 X4 X5 X6 X7 X8 X9 X10 X11 X12 X13 X14 X15 X16 X17) (k0_pay44 X0 X1 X2 X3 X4 X5 X6 X7 X8 X9 X10 X11 X12 X13 X14 X15 X16 X17) (ix3 b s d) = codes (argsR X0 X1 X2 X3 X4 X5 X6 X7 X8 X9 X10 X11 X12 X13 X14 X15 X16 X17).act (b.val * 384 + s.val) d :=
  (rp6 (k0_pay42 X0 X1 X2 X3 X4 X5 X6 X7 X8 X9 X10 X11 X12 X13 X14 X15 X16 X17) (k0_pay43 X0 X1 X2 X3 X4 X5 X6 X7 X8 X9 X10 X11 X12 X13 X14 X15 X16 X17) _ b s d (lev1 X0 X1 X2 X3 X4 X5 X6 X7 X8 X9 X10 X11 X12 X13 X14 X15 X16 X17 b s)).trans (by rw [p42, act1 X0 X1 X2 X3 X4 X5 X6 X7 X8 X9 X10 X11 X12 X13 X14 X15 X16 X17 b s d]; rfl)

theorem scale1 (b : Fin 2) (s : Fin 384) : k0_pay5 (k0_pay43 X0 X1 X2 X3 X4 X5 X6 X7 X8 X9 X10 X11 X12 X13 X14 X15 X16 X17) (k0_pay44 X0 X1 X2 X3 X4 X5 X6 X7 X8 X9 X10 X11 X12 X13 X14 X15 X16 X17) (ix3 b s 0) = scales (argsR X0 X1 X2 X3 X4 X5 X6 X7 X8 X9 X10 X11 X12 X13 X14 X15 X16 X17).act (b.val * 384 + s.val) :=
  rp5 (k0_pay43 X0 X1 X2 X3 X4 X5 X6 X7 X8 X9 X10 X11 X12 X13 X14 X15 X16 X17) _ b s (lev1 X0 X1 X2 X3 X4 X5 X6 X7 X8 X9 X10 X11 X12 X13 X14 X15 X16 X17 b s)

theorem scale1' (b : Fin 2) (s : Fin 384) : k0_pay7 (k0_pay43 X0 X1 X2 X3 X4 X5 X6 X7 X8 X9 X10 X11 X12 X13 X14 X15 X16 X17) (k0_pay44 X0 X1 X2 X3 X4 X5 X6 X7 X8 X9 X10 X11 X12 X13 X14 X15 X16 X17) (ix2 b s) = scales (argsR X0 X1 X2 X3 X4 X5 X6 X7 X8 X9 X10 X11 X12 X13 X14 X15 X16 X17).act (b.val * 384 + s.val) :=
  rp7 (k0_pay43 X0 X1 X2 X3 X4 X5 X6 X7 X8 X9 X10 X11 X12 X13 X14 X15 X16 X17) _ b s (lev1 X0 X1 X2 X3 X4 X5 X6 X7 X8 X9 X10 X11 X12 X13 X14 X15 X16 X17 b s)

theorem img1 (b : Fin 2) (s : Fin 26) (t : Fin 18) (d : Fin 2560) : (k0_pay45 X0 X1 X2 X3 X4 X5 X6 X7 X8 X9 X10 X11 X12 X13 X14 X15 X16 X17) (ix4 b s t d) = padImg (fun q => deq (argsR X0 X1 X2 X3 X4 X5 X6 X7 X8 X9 X10 X11 X12 X13 X14 X15 X16 X17).act q d) b.val s.val t.val :=
  pad_rows (fun b s t d => (k0_pay45 X0 X1 X2 X3 X4 X5 X6 X7 X8 X9 X10 X11 X12 X13 X14 X15 X16 X17) (ix4 b s t d)) (fun b s d => k0_pay6 (k0_pay42 X0 X1 X2 X3 X4 X5 X6 X7 X8 X9 X10 X11 X12 X13 X14 X15 X16 X17) (k0_pay43 X0 X1 X2 X3 X4 X5 X6 X7 X8 X9 X10 X11 X12 X13 X14 X15 X16 X17) (k0_pay44 X0 X1 X2 X3 X4 X5 X6 X7 X8 X9 X10 X11 X12 X13 X14 X15 X16 X17) (ix3 b s d) * k0_pay5 (k0_pay43 X0 X1 X2 X3 X4 X5 X6 X7 X8 X9 X10 X11 X12 X13 X14 X15 X16 X17) (k0_pay44 X0 X1 X2 X3 X4 X5 X6 X7 X8 X9 X10 X11 X12 X13 X14 X15 X16 X17) (ix3 b s 0)) (deq (argsR X0 X1 X2 X3 X4 X5 X6 X7 X8 X9 X10 X11 X12 X13 X14 X15 X16 X17).act)
    (fun b s d => congrArg₂ (fun x y : EReal => x * y) (code1 X0 X1 X2 X3 X4 X5 X6 X7 X8 X9 X10 X11 X12 X13 X14 X15 X16 X17 b s d) (scale1 X0 X1 X2 X3 X4 X5 X6 X7 X8 X9 X10 X11 X12 X13 X14 X15 X16 X17 b s))
    (fun b s t d => rp8 (k0_pay42 X0 X1 X2 X3 X4 X5 X6 X7 X8 X9 X10 X11 X12 X13 X14 X15 X16 X17) (k0_pay43 X0 X1 X2 X3 X4 X5 X6 X7 X8 X9 X10 X11 X12 X13 X14 X15 X16 X17) (k0_pay44 X0 X1 X2 X3 X4 X5 X6 X7 X8 X9 X10 X11 X12 X13 X14 X15 X16 X17) b s t d) b s t d

theorem tap1 (p : Fin 768) (s : Fin 26) (t : Fin 18) (d : Fin 2560) (ky kx : ℕ) (hy : ky < 3) (hx : kx < 3) (hs : s.val = p.val / 16 % 24 + ky) (ht : t.val = p.val % 16 + kx) :
    (k0_pay45 X0 X1 X2 X3 X4 X5 X6 X7 X8 X9 X10 X11 X12 X13 X14 X15 X16 X17) (ix4 ⟨p.val / 384, by omega⟩ s t d) = tapRow (fun q => deq (argsR X0 X1 X2 X3 X4 X5 X6 X7 X8 X9 X10 X11 X12 X13 X14 X15 X16 X17).act q d) ky kx p.val :=
  (img1 X0 X1 X2 X3 X4 X5 X6 X7 X8 X9 X10 X11 X12 X13 X14 X15 X16 X17 _ s t d).trans (padImg_tap _ p.val s.val t.val ky kx p.isLt hy hx hs ht)

theorem nine_congr (t : Fin 9 → EReal) (a0 a1 a2 a3 a4 a5 a6 a7 a8 : EReal) (h0 : a0 = t 0) (h1 : a1 = t 1) (h2 : a2 = t 2) (h3 : a3 = t 3) (h4 : a4 = t 4) (h5 : a5 = t 5) (h6 : a6 = t 6) (h7 : a7 = t 7) (h8 : a8 = t 8) :
    0 + a0 + a1 + a2 + a3 + a4 + a5 + a6 + a7 + a8 = ∑ k, t k := by
  subst h0 h1 h2 h3 h4 h5 h6 h7 h8
  exact sum_nine t

theorem conv1 (b : Fin 2) (s : Fin 384) (u : Fin 32) (r : Fin 40) (p : Fin 768) (n : Fin 1280) (hp : p.val = b.val * 384 + s.val) (hn : n.val = u.val * 40 + r.val) :
    (k0_pay46 X0 X1 X2 X3 X4 X5 X6 X7 X8 X9 X10 X11 X12 X13 X14 X15 X16 X17) (ix4 b s u r) = (argsR X0 X1 X2 X3 X4 X5 X6 X7 X8 X9 X10 X11 X12 X13 X14 X15 X16 X17).conv p.val n * X7 (ix1 n) + X8 (ix1 n) + X9 (ix2 b n) := by
  unfold k0_pay46
  rw [ld13 X7, ld13 X8, ld14 X9]
  refine (rp13 _ _ _ _ _ _ _ _ _ b s u r p n hp hn).trans ?_
  refine congrArg (fun z : EReal => z * X7 (ix1 n) + X8 (ix1 n) + X9 (ix2 b n)) (?_ : _ = (argsR X0 X1 X2 X3 X4 X5 X6 X7 X8 X9 X10 X11 X12 X13 X14 X15 X16 X17).conv p.val n)
  rw [rp11, rp9]
  exact nine_congr (fun k => ∑ d : Fin 2560, tapRow (fun q => deq (argsR X0 X1 X2 X3 X4 X5 X6 X7 X8 X9 X10 X11 X12 X13 X14 X15 X16 X17).act q d) (tapY k).val (tapX k).val p.val * (argsR X0 X1 X2 X3 X4 X5 X6 X7 X8 X9 X10 X11 X12 X13 X14 X15 X16 X17).w1 (tapY k) (tapX k) d n) _ _ _ _ _ _ _ _ _
    (Finset.sum_congr rfl fun d _ => congrArg₂ (fun x y : EReal => x * y) (tap1 X0 X1 X2 X3 X4 X5 X6 X7 X8 X9 X10 X11 X12 X13 X14 X15 X16 X17 p _ _ d 0 0 (by decide) (by decide) (show p.val / 16 % 24 = p.val / 16 % 24 + 0 by omega) (show p.val % 16 = p.val % 16 + 0 by omega)) (ld4 X6 d n))
    (Finset.sum_congr rfl fun d _ => congrArg₂ (fun x y : EReal => x * y) ((rp10 (k0_pay42 X0 X1 X2 X3 X4 X5 X6 X7 X8 X9 X10 X11 X12 X13 X14 X15 X16 X17) (k0_pay43 X0 X1 X2 X3 X4 X5 X6 X7 X8 X9 X10 X11 X12 X13 X14 X15 X16 X17) (k0_pay44 X0 X1 X2 X3 X4 X5 X6 X7 X8 X9 X10 X11 X12 X13 X14 X15 X16 X17) p d).trans (tap1 X0 X1 X2 X3 X4 X5 X6 X7 X8 X9 X10 X11 X12 X13 X14 X15 X16 X17 p _ _ d 0 1 (by decide) (by decide) (show p.val / 16 % 24 = p.val / 16 % 24 + 0 by omega) (show 1 + p.val % 16 = p.val % 16 + 1 by omega))) (ld5 X6 d n))
    (Finset.sum_congr rfl fun d _ => congrArg₂ (fun x y : EReal => x * y) (tap1 X0 X1 X2 X3 X4 X5 X6 X7 X8 X9 X10 X11 X12 X13 X14 X15 X16 X17 p _ _ d 0 2 (by decide) (by decide) (show p.val / 16 % 24 = p.val / 16 % 24 + 0 by omega) (show 2 + p.val % 16 = p.val % 16 + 2 by omega)) (ld6 X6 d n))
    (Finset.sum_congr rfl fun d _ => congrArg₂ (fun x y : EReal => x * y) (tap1 X0 X1 X2 X3 X4 X5 X6 X7 X8 X9 X10 X11 X12 X13 X14 X15 X16 X17 p _ _ d 1 0 (by decide) (by decide) (show 1 + p.val / 16 % 24 = p.val / 16 % 24 + 1 by omega) (show p.val % 16 = p.val % 16 + 0 by omega)) (ld7 X6 d n))
    (Finset.sum_congr rfl fun d _ => congrArg₂ (fun x y : EReal => x * y) (tap1 X0 X1 X2 X3 X4 X5 X6 X7 X8 X9 X10 X11 X12 X13 X14 X15 X16 X17 p _ _ d 1 1 (by decide) (by decide) (show 1 + p.val / 16 % 24 = p.val / 16 % 24 + 1 by omega) (show 1 + p.val % 16 = p.val % 16 + 1 by omega)) (ld8 X6 d n))
    (Finset.sum_congr rfl fun d _ => congrArg₂ (fun x y : EReal => x * y) (tap1 X0 X1 X2 X3 X4 X5 X6 X7 X8 X9 X10 X11 X12 X13 X14 X15 X16 X17 p _ _ d 1 2 (by decide) (by decide) (show 1 + p.val / 16 % 24 = p.val / 16 % 24 + 1 by omega) (show 2 + p.val % 16 = p.val % 16 + 2 by omega)) (ld9 X6 d n))
    (Finset.sum_congr rfl fun d _ => congrArg₂ (fun x y : EReal => x * y) ((rp12 (k0_pay45 X0 X1 X2 X3 X4 X5 X6 X7 X8 X9 X10 X11 X12 X13 X14 X15 X16 X17) p d).trans (tap1 X0 X1 X2 X3 X4 X5 X6 X7 X8 X9 X10 X11 X12 X13 X14 X15 X16 X17 p _ _ d 2 0 (by decide) (by decide) (show 2 + p.val / 16 % 24 = p.val / 16 % 24 + 2 by omega) (show p.val % 16 = p.val % 16 + 0 by omega))) (ld10 X6 d n))
    (Finset.sum_congr rfl fun d _ => congrArg₂ (fun x y : EReal => x * y) (tap1 X0 X1 X2 X3 X4 X5 X6 X7 X8 X9 X10 X11 X12 X13 X14 X15 X16 X17 p _ _ d 2 1 (by decide) (by decide) (show 2 + p.val / 16 % 24 = p.val / 16 % 24 + 2 by omega) (show 1 + p.val % 16 = p.val % 16 + 1 by omega)) (ld11 X6 d n))
    (Finset.sum_congr rfl fun d _ => congrArg₂ (fun x y : EReal => x * y) (tap1 X0 X1 X2 X3 X4 X5 X6 X7 X8 X9 X10 X11 X12 X13 X14 X15 X16 X17 p _ _ d 2 2 (by decide) (by decide) (show 2 + p.val / 16 % 24 = p.val / 16 % 24 + 2 by omega) (show 2 + p.val % 16 = p.val % 16 + 2 by omega)) (ld12 X6 d n))

theorem act2 (b : Fin 2) (s : Fin 384) (n : Fin 1280) : k0_pay15 X11 X12 X13 (k0_pay46 X0 X1 X2 X3 X4 X5 X6 X7 X8 X9 X10 X11 X12 X13 X14 X15 X16 X17) (k0_pay14 X10) (ix3 b s n) = (argsR X0 X1 X2 X3 X4 X5 X6 X7 X8 X9 X10 X11 X12 X13 X14 X15 X16 X17).hid (b.val * 384 + s.val) n := by
  refine (rp15 X10 X11 X12 X13 _ b s n).trans ?_
  rw [conv1 X0 X1 X2 X3 X4 X5 X6 X7 X8 X9 X10 X11 X12 X13 X14 X15 X16 X17 b s ⟨n.val / 40, by omega⟩ ⟨n.val % 40, by omega⟩ ⟨b.val * 384 + s.val, by omega⟩ n rfl (by show n.val = n.val / 40 * 40 + n.val % 40; omega)]
  unfold Args.hid epi
  rw [bat_eq]
  rfl

theorem row2 (b : Fin 2) (s : Fin 384) : (fun n => k0_pay15 X11 X12 X13 (k0_pay46 X0 X1 X2 X3 X4 X5 X6 X7 X8 X9 X10 X11 X12 X13 X14 X15 X16 X17) (k0_pay14 X10) (ix3 b s n)) = (argsR X0 X1 X2 X3 X4 X5 X6 X7 X8 X9 X10 X11 X12 X13 X14 X15 X16 X17).hid (b.val * 384 + s.val) := funext fun n => act2 X0 X1 X2 X3 X4 X5 X6 X7 X8 X9 X10 X11 X12 X13 X14 X15 X16 X17 b s n

theorem scale2 (b : Fin 2) (s : Fin 384) : (k0_pay48 X0 X1 X2 X3 X4 X5 X6 X7 X8 X9 X10 X11 X12 X13 X14 X15 X16 X17) (ix3 b s 0) = scales (argsR X0 X1 X2 X3 X4 X5 X6 X7 X8 X9 X10 X11 X12 X13 X14 X15 X16 X17).hid (b.val * 384 + s.val) := by
  unfold k0_pay48 k0_pay47
  rw [ld2 X11, ld13 X12, ld13 X13, ld2 X10, rp16, row2]
  rfl

theorem code2 (b : Fin 2) (s : Fin 384) (n : Fin 1280) : (k0_pay49 X0 X1 X2 X3 X4 X5 X6 X7 X8 X9 X10 X11 X12 X13 X14 X15 X16 X17) (ix3 b s n) = codes (argsR X0 X1 X2 X3 X4 X5 X6 X7 X8 X9 X10 X11 X12 X13 X14 X15 X16 X17).hid (b.val * 384 + s.val) n := by
  unfold k0_pay49 k0_pay47
  rw [ld2 X11, ld13 X12, ld13 X13, ld2 X10, rp17, row2, act2]
  rfl

theorem scale2' (b : Fin 2) (s : Fin 384) : k0_pay18 (View.ld X11 r0_2) (View.ld X12 r0_13) (View.ld X13 r0_13) (k0_pay46 X0 X1 X2 X3 X4 X5 X6 X7 X8 X9 X10 X11 X12 X13 X14 X15 X16 X17) (k0_pay47 X0 X1 X2 X3 X4 X5 X6 X7 X8 X9 X10 X11 X12 X13 X14 X15 X16 X17) (ix2 b s) = scales (argsR X0 X1 X2 X3 X4 X5 X6 X7 X8 X9 X10 X11 X12 X13 X14 X15 X16 X17).hid (b.val * 384 + s.val) := by
  unfold k0_pay47
  rw [ld2 X11, ld13 X12, ld13 X13, ld2 X10, rp18, row2]
  rfl

theorem img2 (b : Fin 2) (s : Fin 26) (t : Fin 18) (d : Fin 1280) : (k0_pay50 X0 X1 X2 X3 X4 X5 X6 X7 X8 X9 X10 X11 X12 X13 X14 X15 X16 X17) (ix4 b s t d) = padImg (fun q => deq (argsR X0 X1 X2 X3 X4 X5 X6 X7 X8 X9 X10 X11 X12 X13 X14 X15 X16 X17).hid q d) b.val s.val t.val :=
  pad_rows (fun b s t d => (k0_pay50 X0 X1 X2 X3 X4 X5 X6 X7 X8 X9 X10 X11 X12 X13 X14 X15 X16 X17) (ix4 b s t d)) (fun b s d => (k0_pay49 X0 X1 X2 X3 X4 X5 X6 X7 X8 X9 X10 X11 X12 X13 X14 X15 X16 X17) (ix3 b s d) * (k0_pay48 X0 X1 X2 X3 X4 X5 X6 X7 X8 X9 X10 X11 X12 X13 X14 X15 X16 X17) (ix3 b s 0)) (deq (argsR X0 X1 X2 X3 X4 X5 X6 X7 X8 X9 X10 X11 X12 X13 X14 X15 X16 X17).hid)
    (fun b s d => congrArg₂ (fun x y : EReal => x * y) (code2 X0 X1 X2 X3 X4 X5 X6 X7 X8 X9 X10 X11 X12 X13 X14 X15 X16 X17 b s d) (scale2 X0 X1 X2 X3 X4 X5 X6 X7 X8 X9 X10 X11 X12 X13 X14 X15 X16 X17 b s))
    (fun b s t d => rp19 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) b s t d) b s t d

theorem tap2 (p : Fin 768) (s : Fin 26) (t : Fin 18) (d : Fin 1280) (ky kx : ℕ) (hy : ky < 3) (hx : kx < 3) (hs : s.val = p.val / 16 % 24 + ky) (ht : t.val = p.val % 16 + kx) :
    (k0_pay50 X0 X1 X2 X3 X4 X5 X6 X7 X8 X9 X10 X11 X12 X13 X14 X15 X16 X17) (ix4 ⟨p.val / 384, by omega⟩ s t d) = tapRow (fun q => deq (argsR X0 X1 X2 X3 X4 X5 X6 X7 X8 X9 X10 X11 X12 X13 X14 X15 X16 X17).hid q d) ky kx p.val :=
  (img2 X0 X1 X2 X3 X4 X5 X6 X7 X8 X9 X10 X11 X12 X13 X14 X15 X16 X17 _ s t d).trans (padImg_tap _ p.val s.val t.val ky kx p.isLt hy hx hs ht)

theorem grad3 (b : Fin 2) (s : Fin 384) (n : Fin 1280) : (k0_pay51 X0 X1 X2 X3 X4 X5 X6 X7 X8 X9 X10 X11 X12 X13 X14 X15 X16 X17) (ix3 b s n) = (argsR X0 X1 X2 X3 X4 X5 X6 X7 X8 X9 X10 X11 X12 X13 X14 X15 X16 X17).grad (b.val * 384 + s.val) n := by
  unfold k0_pay51
  rw [ld15 X16, ld1 X17, rp20]
  unfold Args.grad
  rw [bat_eq, pos_eq]
  rfl

theorem grad3' (p : Fin 768) (n : Fin 1280) : (k0_pay51 X0 X1 X2 X3 X4 X5 X6 X7 X8 X9 X10 X11 X12 X13 X14 X15 X16 X17) (ix3 ⟨p.val / 384, by omega⟩ ⟨p.val % 384, by omega⟩ n) = (argsR X0 X1 X2 X3 X4 X5 X6 X7 X8 X9 X10 X11 X12 X13 X14 X15 X16 X17).grad p.val n :=
  (grad3 X0 X1 X2 X3 X4 X5 X6 X7 X8 X9 X10 X11 X12 X13 X14 X15 X16 X17 _ _ n).trans (congrArg (fun q => (argsR X0 X1 X2 X3 X4 X5 X6 X7 X8 X9 X10 X11 X12 X13 X14 X15 X16 X17).grad q n) (show p.val / 384 * 384 + p.val % 384 = p.val by omega))

theorem img3 (b : Fin 2) (s : Fin 26) (t : Fin 18) (d : Fin 1280) : (k0_pay52 X0 X1 X2 X3 X4 X5 X6 X7 X8 X9 X10 X11 X12 X13 X14 X15 X16 X17) (ix4 b s t d) = padImg (fun q => (argsR X0 X1 X2 X3 X4 X5 X6 X7 X8 X9 X10 X11 X12 X13 X14 X15 X16 X17).grad q d) b.val s.val t.val :=
  pad_rows (fun b s t d => (k0_pay52 X0 X1 X2 X3 X4 X5 X6 X7 X8 X9 X10 X11 X12 X13 X14 X15 X16 X17) (ix4 b s t d)) (fun b s d => (k0_pay51 X0 X1 X2 X3 X4 X5 X6 X7 X8 X9 X10 X11 X12 X13 X14 X15 X16 X17) (ix3 b s d)) (argsR X0 X1 X2 X3 X4 X5 X6 X7 X8 X9 X10 X11 X12 X13 X14 X15 X16 X17).grad
    (fun b s d => grad3 X0 X1 X2 X3 X4 X5 X6 X7 X8 X9 X10 X11 X12 X13 X14 X15 X16 X17 b s d)
    (fun b s t d => rp32 (k0_pay51 X0 X1 X2 X3 X4 X5 X6 X7 X8 X9 X10 X11 X12 X13 X14 X15 X16 X17) b s t d) b s t d

theorem tap3 (p : Fin 768) (s : Fin 26) (t : Fin 18) (d : Fin 1280) (ky kx : ℕ) (hy : ky < 3) (hx : kx < 3) (hs : s.val = p.val / 16 % 24 + ky) (ht : t.val = p.val % 16 + kx) :
    (k0_pay52 X0 X1 X2 X3 X4 X5 X6 X7 X8 X9 X10 X11 X12 X13 X14 X15 X16 X17) (ix4 ⟨p.val / 384, by omega⟩ s t d) = tapRow (fun q => (argsR X0 X1 X2 X3 X4 X5 X6 X7 X8 X9 X10 X11 X12 X13 X14 X15 X16 X17).grad q d) ky kx p.val :=
  (img3 X0 X1 X2 X3 X4 X5 X6 X7 X8 X9 X10 X11 X12 X13 X14 X15 X16 X17 _ s t d).trans (padImg_tap _ p.val s.val t.val ky kx p.isLt hy hx hs ht)

end Cert.Spec
-- ==== Proof.Value.RefRows.lean ====
module
public import proofs.«01_k».proof.Proof.Gen.ReferenceIdeal.Value
public import Idealize.ShloMosaic.Lib.Pointwise
public import proofs.«01_k».proof.Proof.Value.Spec
public import proofs.«01_k».proof.Proof.Value.Args
public import proofs.«01_k».proof.Proof.Value.RefConv
public import proofs.«01_k».proof.Proof.Value.RefDa
public import proofs.«01_k».proof.Proof.Value.RefDw
public import proofs.«01_k».proof.Proof.Value.RefPad
public import proofs.«01_k».proof.Proof.Value.RefQuant
public import proofs.«01_k».proof.Proof.Value.RefTaps
public import proofs.«01_k».proof.Proof.Value.RefReads
public import proofs.«01_k».proof.Proof.Value.RefActs
public import Idealize.ShloMosaic.Lib.Pipeline.ValueKit
@[expose] public section
set_option maxRecDepth 65536

/-!
The reference's rows: the codes, the scales and the input's gradient.
-/
noncomputable section
namespace Cert.Spec
open Idealize.ShloMosaic Idealize.ShloMosaic.TcCoe Cert.ReferenceIdeal Cert.ReferenceIdeal.Gen
variable (X0 : Vec Ideal S2x384x2560 .i8) (X1 : Vec Ideal S2x384 .f32) (X2 : Vec Ideal S2x32 .f32) (X3 : Vec Ideal S2x32 .f32) (X4 : Vec Ideal S2560 .f32) (X5 : Vec Ideal S2560 .f32) (X6 : Vec Ideal S3x3x2560x1280 .fp8e4m3) (X7 : Vec Ideal S1280 .f32) (X8 : Vec Ideal S1280 .f32) (X9 : Vec Ideal S2x1280 .f32) (X10 : Vec Ideal S2x32 .f32) (X11 : Vec Ideal S2x32 .f32) (X12 : Vec Ideal S1280 .f32) (X13 : Vec Ideal S1280 .f32) (X14 : Vec Ideal S3x3x1280x1280 .fp8e4m3) (X15 : Vec Ideal S1280 .f32) (X16 : Vec Ideal S2x384x1280 .fp8e5m2) (X17 : Vec Ideal S2x384 .f32)

theorem ref_codes1 (b : Fin 2) (s : Fin 384) (d : Fin 2560) : out0_20 X0 X1 X2 X3 X4 X5 X6 X7 X8 X9 X10 X11 X12 X13 X14 X15 X16 X17 (ix3 b s d) = codes (argsR X0 X1 X2 X3 X4 X5 X6 X7 X8 X9 X10 X11 X12 X13 X14 X15 X16 X17).act (b.val * 384 + s.val) d := by
  unfold out0_20
  rw [View.canon_cons_unit_lit inb_S2x384x2560_S2x384x2560_0_0_0 _ _ (by decide)]
  exact code1 X0 X1 X2 X3 X4 X5 X6 X7 X8 X9 X10 X11 X12 X13 X14 X15 X16 X17 b s d

theorem ref_scale1 (b : Fin 2) (s : Fin 384) : out0_21 X0 X1 X2 X3 X4 X5 X6 X7 X8 X9 X10 X11 X12 X13 X14 X15 X16 X17 (ix2 b s) = scales (argsR X0 X1 X2 X3 X4 X5 X6 X7 X8 X9 X10 X11 X12 X13 X14 X15 X16 X17).act (b.val * 384 + s.val) := by
  unfold out0_21
  rw [View.canon_cons_unit_lit inb_S2x384_S2x384_0_0 _ _ (by decide)]
  exact scale1' X0 X1 X2 X3 X4 X5 X6 X7 X8 X9 X10 X11 X12 X13 X14 X15 X16 X17 b s

theorem ref_codes2 (b : Fin 2) (s : Fin 384) (n : Fin 1280) : out0_22 X0 X1 X2 X3 X4 X5 X6 X7 X8 X9 X10 X11 X12 X13 X14 X15 X16 X17 (ix3 b s n) = codes (argsR X0 X1 X2 X3 X4 X5 X6 X7 X8 X9 X10 X11 X12 X13 X14 X15 X16 X17).hid (b.val * 384 + s.val) n := by
  unfold out0_22
  rw [View.canon_cons_unit_lit inb_S2x384x1280_S2x384x1280_0_0_0 _ _ (by decide)]
  exact code2 X0 X1 X2 X3 X4 X5 X6 X7 X8 X9 X10 X11 X12 X13 X14 X15 X16 X17 b s n

theorem ref_scale2 (b : Fin 2) (s : Fin 384) : out0_23 X0 X1 X2 X3 X4 X5 X6 X7 X8 X9 X10 X11 X12 X13 X14 X15 X16 X17 (ix2 b s) = scales (argsR X0 X1 X2 X3 X4 X5 X6 X7 X8 X9 X10 X11 X12 X13 X14 X15 X16 X17).hid (b.val * 384 + s.val) := by
  unfold out0_23
  rw [View.canon_cons_unit_lit inb_S2x384_S2x384_0_0 _ _ (by decide)]
  exact scale2' X0 X1 X2 X3 X4 X5 X6 X7 X8 X9 X10 X11 X12 X13 X14 X15 X16 X17 b s

theorem ref_da (b : Fin 2) (s : Fin 384) (n : Fin 1280) : out0_19 X0 X1 X2 X3 X4 X5 X6 X7 X8 X9 X10 X11 X12 X13 X14 X15 X16 X17 (ix3 b s n) = (argsR X0 X1 X2 X3 X4 X5 X6 X7 X8 X9 X10 X11 X12 X13 X14 X15 X16 X17).da (b.val * 384 + s.val) n := by
  unfold out0_19
  rw [View.canon_cons_unit_lit inb_S2x384x1280_S2x384x1280_0_0_0 _ _ (by decide)]
  generalize hp : b.val * 384 + s.val = q
  obtain ⟨p, rfl⟩ : ∃ p : Fin 768, q = p.val := ⟨⟨q, by omega⟩, rfl⟩
  refine (rp1 _ _ _ _ _ _ _ b s p n hp.symm).trans ?_
  rw [rp38, rp35, rp33]
  exact nine_congr (fun k => ∑ e : Fin 1280, tapRow (fun q => (argsR X0 X1 X2 X3 X4 X5 X6 X7 X8 X9 X10 X11 X12 X13 X14 X15 X16 X17).grad q e) (2 - (tapY k).val) (2 - (tapX k).val) p.val * ((argsR X0 X1 X2 X3 X4 X5 X6 X7 X8 X9 X10 X11 X12 X13 X14 X15 X16 X17).w2 (tapY k) (tapX k) n e * (argsR X0 X1 X2 X3 X4 X5 X6 X7 X8 X9 X10 X11 X12 X13 X14 X15 X16 X17).ws2 e)) _ _ _ _ _ _ _ _ _
    (Finset.sum_congr rfl fun e _ => congrArg₂ (fun x y : EReal => x * y) (tap3 X0 X1 X2 X3 X4 X5 X6 X7 X8 X9 X10 X11 X12 X13 X14 X15 X16 X17 p _ _ e 2 2 (by decide) (by decide) (show 2 + p.val / 16 % 24 = p.val / 16 % 24 + 2 by omega) (show 2 + p.val % 16 = p.val % 16 + 2 by omega)) (congrArg₂ (fun x y : EReal => x * y) (ld16 X14 n e) (congrFun (ld13 X15) (ix1 e))))
    (Finset.sum_congr rfl fun e _ => congrArg₂ (fun x y : EReal => x * y) ((rp34 (k0_pay51 X0 X1 X2 X3 X4 X5 X6 X7 X8 X9 X10 X11 X12 X13 X14 X15 X16 X17) p e).trans (tap3 X0 X1 X2 X3 X4 X5 X6 X7 X8 X9 X10 X11 X12 X13 X14 X15 X16 X17 p _ _ e 2 1 (by decide) (by decide) (show 2 + p.val / 16 % 24 = p.val / 16 % 24 + 2 by omega) (show 1 + p.val % 16 = p.val % 16 + 1 by omega))) (congrArg₂ (fun x y : EReal => x * y) (ld17 X14 n e) (congrFun (ld13 X15) (ix1 e))))
    (Finset.sum_congr rfl fun e _ => congrArg₂ (fun x y : EReal => x * y) (tap3 X0 X1 X2 X3 X4 X5 X6 X7 X8 X9 X10 X11 X12 X13 X14 X15 X16 X17 p _ _ e 2 0 (by decide) (by decide) (show 2 + p.val / 16 % 24 = p.val / 16 % 24 + 2 by omega) (show p.val % 16 = p.val % 16 + 0 by omega)) (congrArg₂ (fun x y : EReal => x * y) (ld18 X14 n e) (congrFun (ld13 X15) (ix1 e))))
    (Finset.sum_congr rfl fun e _ => congrArg₂ (fun x y : EReal => x * y) (tap3 X0 X1 X2 X3 X4 X5 X6 X7 X8 X9 X10 X11 X12 X13 X14 X15 X16 X17 p _ _ e 1 2 (by decide) (by decide) (show 1 + p.val / 16 % 24 = p.val / 16 % 24 + 1 by omega) (show 2 + p.val % 16 = p.val % 16 + 2 by omega)) (congrArg₂ (fun x y : EReal => x * y) (ld19 X14 n e) (congrFun (ld13 X15) (ix1 e))))
    (Finset.sum_congr rfl fun e _ => congrArg₂ (fun x y : EReal => x * y) ((rp36 (k0_pay52 X0 X1 X2 X3 X4 X5 X6 X7 X8 X9 X10 X11 X12 X13 X14 X15 X16 X17) p e).trans (tap3 X0 X1 X2 X3 X4 X5 X6 X7 X8 X9 X10 X11 X12 X13 X14 X15 X16 X17 p _ _ e 1 1 (by decide) (by decide) (show 1 + p.val / 16 % 24 = p.val / 16 % 24 + 1 by omega) (show 1 + p.val % 16 = p.val % 16 + 1 by omega))) (congrArg₂ (fun x y : EReal => x * y) (ld20 X14 n e) (congrFun (ld13 X15) (ix1 e))))
    (Finset.sum_congr rfl fun e _ => congrArg₂ (fun x y : EReal => x * y) (tap3 X0 X1 X2 X3 X4 X5 X6 X7 X8 X9 X10 X11 X12 X13 X14 X15 X16 X17 p _ _ e 1 0 (by decide) (by decide) (show 1 + p.val / 16 % 24 = p.val / 16 % 24 + 1 by omega) (show p.val % 16 = p.val % 16 + 0 by omega)) (congrArg₂ (fun x y : EReal => x * y) (ld21 X14 n e) (congrFun (ld13 X15) (ix1 e))))
    (Finset.sum_congr rfl fun e _ => congrArg₂ (fun x y : EReal => x * y) (tap3 X0 X1 X2 X3 X4 X5 X6 X7 X8 X9 X10 X11 X12 X13 X14 X15 X16 X17 p _ _ e 0 2 (by decide) (by decide) (show p.val / 16 % 24 = p.val / 16 % 24 + 0 by omega) (show 2 + p.val % 16 = p.val % 16 + 2 by omega)) (congrArg₂ (fun x y : EReal => x * y) (ld22 X14 n e) (congrFun (ld13 X15) (ix1 e))))
    (Finset.sum_congr rfl fun e _ => congrArg₂ (fun x y : EReal => x * y) ((rp39 (k0_pay52 X0 X1 X2 X3 X4 X5 X6 X7 X8 X9 X10 X11 X12 X13 X14 X15 X16 X17) p e).trans (tap3 X0 X1 X2 X3 X4 X5 X6 X7 X8 X9 X10 X11 X12 X13 X14 X15 X16 X17 p _ _ e 0 1 (by decide) (by decide) (show p.val / 16 % 24 = p.val / 16 % 24 + 0 by omega) (show 1 + p.val % 16 = p.val % 16 + 1 by omega))) (congrArg₂ (fun x y : EReal => x * y) (ld23 X14 n e) (congrFun (ld13 X15) (ix1 e))))
    (Finset.sum_congr rfl fun e _ => congrArg₂ (fun x y : EReal => x * y) (tap3 X0 X1 X2 X3 X4 X5 X6 X7 X8 X9 X10 X11 X12 X13 X14 X15 X16 X17 p _ _ e 0 0 (by decide) (by decide) (show p.val / 16 % 24 = p.val / 16 % 24 + 0 by omega) (show p.val % 16 = p.val % 16 + 0 by omega)) (congrArg₂ (fun x y : EReal => x * y) (ld24 X14 n e) (congrFun (ld13 X15) (ix1 e))))

end Cert.Spec
-- ==== Proof.Value.RefWeights.lean ====
module
public import proofs.«01_k».proof.Proof.Gen.ReferenceIdeal.Value
public import Idealize.ShloMosaic.Lib.Pointwise
public import proofs.«01_k».proof.Proof.Value.Spec
public import proofs.«01_k».proof.Proof.Value.Args
public import proofs.«01_k».proof.Proof.Value.RefConv
public import proofs.«01_k».proof.Proof.Value.RefDa
public import proofs.«01_k».proof.Proof.Value.RefDw
public import proofs.«01_k».proof.Proof.Value.RefPad
public import proofs.«01_k».proof.Proof.Value.RefQuant
public import proofs.«01_k».proof.Proof.Value.RefTaps
public import proofs.«01_k».proof.Proof.Value.RefReads
public import proofs.«01_k».proof.Proof.Value.RefActs
public import Idealize.ShloMosaic.Lib.Pipeline.ValueKit
@[expose] public section
set_option maxRecDepth 65536

/-!
The reference's gradient of the weights.
-/
noncomputable section
namespace Cert.Spec
open Idealize.ShloMosaic Idealize.ShloMosaic.TcCoe Cert.ReferenceIdeal Cert.ReferenceIdeal.Gen
variable (X0 : Vec Ideal S2x384x2560 .i8) (X1 : Vec Ideal S2x384 .f32) (X2 : Vec Ideal S2x32 .f32) (X3 : Vec Ideal S2x32 .f32) (X4 : Vec Ideal S2560 .f32) (X5 : Vec Ideal S2560 .f32) (X6 : Vec Ideal S3x3x2560x1280 .fp8e4m3) (X7 : Vec Ideal S1280 .f32) (X8 : Vec Ideal S1280 .f32) (X9 : Vec Ideal S2x1280 .f32) (X10 : Vec Ideal S2x32 .f32) (X11 : Vec Ideal S2x32 .f32) (X12 : Vec Ideal S1280 .f32) (X13 : Vec Ideal S1280 .f32) (X14 : Vec Ideal S3x3x1280x1280 .fp8e4m3) (X15 : Vec Ideal S1280 .f32) (X16 : Vec Ideal S2x384x1280 .fp8e5m2) (X17 : Vec Ideal S2x384 .f32)

theorem dw_tap0 (r n : Fin 1280) : k0_pay21 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) (View.ld X16 r0_15) (View.ld X17 r0_1) (ix4 0 0 r n) = (argsR X0 X1 X2 X3 X4 X5 X6 X7 X8 X9 X10 X11 X12 X13 X14 X15 X16 X17).dw 0 r n :=
  (rp21 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) (View.ld X16 r0_15) (View.ld X17 r0_1) r n).trans (Finset.sum_congr rfl fun p _ => congrArg₂ (fun x y : EReal => x * y) (tap2 X0 X1 X2 X3 X4 X5 X6 X7 X8 X9 X10 X11 X12 X13 X14 X15 X16 X17 p _ _ r 0 0 (by decide) (by decide) (show p.val / 16 % 24 = p.val / 16 % 24 + 0 by omega) (show p.val % 16 = p.val % 16 + 0 by omega)) (grad3' X0 X1 X2 X3 X4 X5 X6 X7 X8 X9 X10 X11 X12 X13 X14 X15 X16 X17 p n))

theorem dw_tap1 (r n : Fin 1280) : k0_pay22 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) (View.ld X16 r0_15) (View.ld X17 r0_1) (ix4 0 0 r n) = (argsR X0 X1 X2 X3 X4 X5 X6 X7 X8 X9 X10 X11 X12 X13 X14 X15 X16 X17).dw 1 r n :=
  (rp22 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) (View.ld X16 r0_15) (View.ld X17 r0_1) r n).trans (Finset.sum_congr rfl fun p _ => congrArg₂ (fun x y : EReal => x * y) (tap2 X0 X1 X2 X3 X4 X5 X6 X7 X8 X9 X10 X11 X12 X13 X14 X15 X16 X17 p _ _ r 0 1 (by decide) (by decide) (show p.val / 16 % 24 = p.val / 16 % 24 + 0 by omega) (show 1 + p.val % 16 = p.val % 16 + 1 by omega)) (grad3' X0 X1 X2 X3 X4 X5 X6 X7 X8 X9 X10 X11 X12 X13 X14 X15 X16 X17 p n))

theorem dw_tap2 (r n : Fin 1280) : k0_pay25 (k0_pay23 (k0_pay48 X0 X1 X2 X3 X4 X5 X6 X7 X8 X9 X10 X11 X12 X13 X14 X15 X16 X17) (k0_pay49 X0 X1 X2 X3 X4 X5 X6 X7 X8 X9 X10 X11 X12 X13 X14 X15 X16 X17)) (k0_pay24 (View.ld X16 r0_15) (View.ld X17 r0_1)) (constant S1280x1280 .f32 0x00000000#32) (ix4 0 0 r n) = (argsR X0 X1 X2 X3 X4 X5 X6 X7 X8 X9 X10 X11 X12 X13 X14 X15 X16 X17).dw 2 r n :=
  (rp25 (k0_pay48 X0 X1 X2 X3 X4 X5 X6 X7 X8 X9 X10 X11 X12 X13 X14 X15 X16 X17) (k0_pay49 X0 X1 X2 X3 X4 X5 X6 X7 X8 X9 X10 X11 X12 X13 X14 X15 X16 X17) (View.ld X16 r0_15) (View.ld X17 r0_1) r n).trans (Finset.sum_congr rfl fun p _ => congrArg₂ (fun x y : EReal => x * y) (tap2 X0 X1 X2 X3 X4 X5 X6 X7 X8 X9 X10 X11 X12 X13 X14 X15 X16 X17 p _ _ r 0 2 (by decide) (by decide) (show p.val / 16 % 24 = p.val / 16 % 24 + 0 by omega) (show 2 + p.val % 16 = p.val % 16 + 2 by omega)) (grad3' X0 X1 X2 X3 X4 X5 X6 X7 X8 X9 X10 X11 X12 X13 X14 X15 X16 X17 p n))

theorem dw_tap3 (r n : Fin 1280) : k0_pay26 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 3 r n :=
  (rp26 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 1 0 (by decide) (by decide) (show 1 + p.val / 16 % 24 = p.val / 16 % 24 + 1 by omega) (show p.val % 16 = p.val % 16 + 0 by omega)) (grad3' X0 X1 X2 X3 X4 X5 X6 X7 X8 X9 X10 X11 X12 X13 X14 X15 X16 X17 p n))

theorem dw_tap4 (r n : Fin 1280) : k0_pay27 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 4 r n :=
  (rp27 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 1 1 (by decide) (by decide) (show 1 + p.val / 16 % 24 = p.val / 16 % 24 + 1 by omega) (show 1 + p.val % 16 = p.val % 16 + 1 by omega)) (grad3' X0 X1 X2 X3 X4 X5 X6 X7 X8 X9 X10 X11 X12 X13 X14 X15 X16 X17 p n))

theorem dw_tap5 (r n : Fin 1280) : k0_pay28 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 5 r n :=
  (rp28 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 1 2 (by decide) (by decide) (show 1 + p.val / 16 % 24 = p.val / 16 % 24 + 1 by omega) (show 2 + p.val % 16 = p.val % 16 + 2 by omega)) (grad3' X0 X1 X2 X3 X4 X5 X6 X7 X8 X9 X10 X11 X12 X13 X14 X15 X16 X17 p n))

theorem dw_tap6 (r n : Fin 1280) : k0_pay29 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 6 r n :=
  (rp29 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 2 0 (by decide) (by decide) (show 2 + p.val / 16 % 24 = p.val / 16 % 24 + 2 by omega) (show p.val % 16 = p.val % 16 + 0 by omega)) (grad3' X0 X1 X2 X3 X4 X5 X6 X7 X8 X9 X10 X11 X12 X13 X14 X15 X16 X17 p n))

theorem dw_tap7 (r n : Fin 1280) : k0_pay30 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 7 r n :=
  (rp30 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 2 1 (by decide) (by decide) (show 2 + p.val / 16 % 24 = p.val / 16 % 24 + 2 by omega) (show 1 + p.val % 16 = p.val % 16 + 1 by omega)) (grad3' X0 X1 X2 X3 X4 X5 X6 X7 X8 X9 X10 X11 X12 X13 X14 X15 X16 X17 p n))

theorem dw_tap8 (r n : Fin 1280) : k0_pay31 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) (ix4 0 0 r n) = (argsR X0 X1 X2 X3 X4 X5 X6 X7 X8 X9 X10 X11 X12 X13 X14 X15 X16 X17).dw 8 r n :=
  (rp31 (k0_pay50 X0 X1 X2 X3 X4 X5 X6 X7 X8 X9 X10 X11 X12 X13 X14 X15 X16 X17) (k0_pay51 X0 X1 X2 X3 X4 X5 X6 X7 X8 X9 X10 X11 X12 X13 X14 X15 X16 X17) r n).trans (Finset.sum_congr rfl fun p _ => congrArg₂ (fun x y : EReal => x * y) (tap2 X0 X1 X2 X3 X4 X5 X6 X7 X8 X9 X10 X11 X12 X13 X14 X15 X16 X17 p _ _ r 2 2 (by decide) (by decide) (show 2 + p.val / 16 % 24 = p.val / 16 % 24 + 2 by omega) (show 2 + p.val % 16 = p.val % 16 + 2 by omega)) (grad3' X0 X1 X2 X3 X4 X5 X6 X7 X8 X9 X10 X11 X12 X13 X14 X15 X16 X17 p n))

theorem emb_tap (ky kx : Fin 3) (inb) (r n : Fin 1280) : (ix4 ky kx r n : S3x3x1280x1280.Idx)
    = (Rect.unit (s := S3x3x1280x1280) ![ky.val, kx.val, 0, 0] S1x1x1280x1280.size inb).emb (ix4 0 0 r n) := by
  funext a
  fin_cases a <;> apply Fin.ext
  · rfl
  · rfl
  · show r.val = 0 + 1 * r.val; omega
  · show n.val = 0 + 1 * n.val; omega

theorem not_tap (ky kx jy jx : Fin 3) (inb) (r n : Fin 1280) (h : ky ≠ jy ∨ kx ≠ jx) :
    (ix4 ky kx r n : S3x3x1280x1280.Idx) ∉ (Rect.unit (s := S3x3x1280x1280) ![jy.val, jx.val, 0, 0] S1x1x1280x1280.size inb).set := by
  intro hm
  rw [Rect.mem_set_unit] at hm
  have h0 := hm 0
  have h1 := hm 1
  change jy.val ≤ ky.val ∧ ky.val < jy.val + 1 at h0
  change jx.val ≤ kx.val ∧ kx.val < jx.val + 1 at h1
  rcases h with h | h <;> exact h (Fin.ext (by omega))

theorem canon_skip (ky kx jy jx : Fin 3) (inb) (w) (L : List (View.Piece (Elt Ideal) S3x3x1280x1280 .f32)) (r n : Fin 1280) (h : ky ≠ jy ∨ kx ≠ jx) :
    View.canon ((⟨Rect.unit (s := S3x3x1280x1280) ![jy.val, jx.val, 0, 0] S1x1x1280x1280.size inb, w⟩ : View.Piece (Elt Ideal) S3x3x1280x1280 .f32) :: L) (ix4 ky kx r n)
      = View.canon L (ix4 ky kx r n) := by
  rw [View.canon_cons_of_not_mem (⟨Rect.unit (s := S3x3x1280x1280) ![jy.val, jx.val, 0, 0] S1x1x1280x1280.size inb, w⟩ : View.Piece (Elt Ideal) S3x3x1280x1280 .f32) L (not_tap ky kx jy jx inb r n h)]

theorem canon_hit (ky kx : Fin 3) (inb) (w : Vec Ideal S1x1x1280x1280 .f32) (L : List (View.Piece (Elt Ideal) S3x3x1280x1280 .f32)) (r n : Fin 1280) :
    View.canon ((⟨Rect.unit (s := S3x3x1280x1280) ![ky.val, kx.val, 0, 0] S1x1x1280x1280.size inb, w⟩ : View.Piece (Elt Ideal) S3x3x1280x1280 .f32) :: L) (ix4 ky kx r n)
      = w (ix4 0 0 r n) :=
  (congrArg (View.canon ((⟨Rect.unit (s := S3x3x1280x1280) ![ky.val, kx.val, 0, 0] S1x1x1280x1280.size inb, w⟩ : View.Piece (Elt Ideal) S3x3x1280x1280 .f32) :: L)) (emb_tap ky kx inb r n)).trans
    (View.canon_cons_emb (Val := Elt Ideal) (e := .f32) (Rect.unit (s := S3x3x1280x1280) ![ky.val, kx.val, 0, 0] S1x1x1280x1280.size inb) w L (ix4 0 0 r n))

theorem pieces0 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 0 0 r n) = w0 (ix4 0 0 r n) := by
  refine (canon_skip 0 0 2 2 inb_S3x3x1280x1280_S1x1x1280x1280_2_2_0_0 _ _ r n (by decide)).trans ?_
  refine (canon_skip 0 0 2 1 inb_S3x3x1280x1280_S1x1x1280x1280_2_1_0_0 _ _ r n (by decide)).trans ?_
  refine (canon_skip 0 0 2 0 inb_S3x3x1280x1280_S1x1x1280x1280_2_0_0_0 _ _ r n (by decide)).trans ?_
  refine (canon_skip 0 0 1 2 inb_S3x3x1280x1280_S1x1x1280x1280_1_2_0_0 _ _ r n (by decide)).trans ?_
  refine (canon_skip 0 0 1 1 inb_S3x3x1280x1280_S1x1x1280x1280_1_1_0_0 _ _ r n (by decide)).trans ?_
  refine (canon_skip 0 0 1 0 inb_S3x3x1280x1280_S1x1x1280x1280_1_0_0_0 _ _ r n (by decide)).trans ?_
  refine (canon_skip 0 0 0 2 inb_S3x3x1280x1280_S1x1x1280x1280_0_2_0_0 _ _ r n (by decide)).trans ?_
  refine (canon_skip 0 0 0 1 inb_S3x3x1280x1280_S1x1x1280x1280_0_1_0_0 _ _ r n (by decide)).trans ?_
  exact canon_hit 0 0 inb_S3x3x1280x1280_S1x1x1280x1280_0_0_0_0 _ _ r n

theorem pieces1 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 0 1 r n) = w1 (ix4 0 0 r n) := by
  refine (canon_skip 0 1 2 2 inb_S3x3x1280x1280_S1x1x1280x1280_2_2_0_0 _ _ r n (by decide)).trans ?_
  refine (canon_skip 0 1 2 1 inb_S3x3x1280x1280_S1x1x1280x1280_2_1_0_0 _ _ r n (by decide)).trans ?_
  refine (canon_skip 0 1 2 0 inb_S3x3x1280x1280_S1x1x1280x1280_2_0_0_0 _ _ r n (by decide)).trans ?_
  refine (canon_skip 0 1 1 2 inb_S3x3x1280x1280_S1x1x1280x1280_1_2_0_0 _ _ r n (by decide)).trans ?_
  refine (canon_skip 0 1 1 1 inb_S3x3x1280x1280_S1x1x1280x1280_1_1_0_0 _ _ r n (by decide)).trans ?_
  refine (canon_skip 0 1 1 0 inb_S3x3x1280x1280_S1x1x1280x1280_1_0_0_0 _ _ r n (by decide)).trans ?_
  refine (canon_skip 0 1 0 2 inb_S3x3x1280x1280_S1x1x1280x1280_0_2_0_0 _ _ r n (by decide)).trans ?_
  exact canon_hit 0 1 inb_S3x3x1280x1280_S1x1x1280x1280_0_1_0_0 _ _ r n

theorem pieces2 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 0 2 r n) = w2 (ix4 0 0 r n) := by
  refine (canon_skip 0 2 2 2 inb_S3x3x1280x1280_S1x1x1280x1280_2_2_0_0 _ _ r n (by decide)).trans ?_
  refine (canon_skip 0 2 2 1 inb_S3x3x1280x1280_S1x1x1280x1280_2_1_0_0 _ _ r n (by decide)).trans ?_
  refine (canon_skip 0 2 2 0 inb_S3x3x1280x1280_S1x1x1280x1280_2_0_0_0 _ _ r n (by decide)).trans ?_
  refine (canon_skip 0 2 1 2 inb_S3x3x1280x1280_S1x1x1280x1280_1_2_0_0 _ _ r n (by decide)).trans ?_
  refine (canon_skip 0 2 1 1 inb_S3x3x1280x1280_S1x1x1280x1280_1_1_0_0 _ _ r n (by decide)).trans ?_
  refine (canon_skip 0 2 1 0 inb_S3x3x1280x1280_S1x1x1280x1280_1_0_0_0 _ _ r n (by decide)).trans ?_
  exact canon_hit 0 2 inb_S3x3x1280x1280_S1x1x1280x1280_0_2_0_0 _ _ r n

theorem pieces3 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 1 0 r n) = w3 (ix4 0 0 r n) := by
  refine (canon_skip 1 0 2 2 inb_S3x3x1280x1280_S1x1x1280x1280_2_2_0_0 _ _ r n (by decide)).trans ?_
  refine (canon_skip 1 0 2 1 inb_S3x3x1280x1280_S1x1x1280x1280_2_1_0_0 _ _ r n (by decide)).trans ?_
  refine (canon_skip 1 0 2 0 inb_S3x3x1280x1280_S1x1x1280x1280_2_0_0_0 _ _ r n (by decide)).trans ?_
  refine (canon_skip 1 0 1 2 inb_S3x3x1280x1280_S1x1x1280x1280_1_2_0_0 _ _ r n (by decide)).trans ?_
  refine (canon_skip 1 0 1 1 inb_S3x3x1280x1280_S1x1x1280x1280_1_1_0_0 _ _ r n (by decide)).trans ?_
  exact canon_hit 1 0 inb_S3x3x1280x1280_S1x1x1280x1280_1_0_0_0 _ _ r n

theorem pieces4 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 1 1 r n) = w4 (ix4 0 0 r n) := by
  refine (canon_skip 1 1 2 2 inb_S3x3x1280x1280_S1x1x1280x1280_2_2_0_0 _ _ r n (by decide)).trans ?_
  refine (canon_skip 1 1 2 1 inb_S3x3x1280x1280_S1x1x1280x1280_2_1_0_0 _ _ r n (by decide)).trans ?_
  refine (canon_skip 1 1 2 0 inb_S3x3x1280x1280_S1x1x1280x1280_2_0_0_0 _ _ r n (by decide)).trans ?_
  refine (canon_skip 1 1 1 2 inb_S3x3x1280x1280_S1x1x1280x1280_1_2_0_0 _ _ r n (by decide)).trans ?_
  exact canon_hit 1 1 inb_S3x3x1280x1280_S1x1x1280x1280_1_1_0_0 _ _ r n

theorem pieces5 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 1 2 r n) = w5 (ix4 0 0 r n) := by
  refine (canon_skip 1 2 2 2 inb_S3x3x1280x1280_S1x1x1280x1280_2_2_0_0 _ _ r n (by decide)).trans ?_
  refine (canon_skip 1 2 2 1 inb_S3x3x1280x1280_S1x1x1280x1280_2_1_0_0 _ _ r n (by decide)).trans ?_
  refine (canon_skip 1 2 2 0 inb_S3x3x1280x1280_S1x1x1280x1280_2_0_0_0 _ _ r n (by decide)).trans ?_
  exact canon_hit 1 2 inb_S3x3x1280x1280_S1x1x1280x1280_1_2_0_0 _ _ r n

theorem pieces6 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 2 0 r n) = w6 (ix4 0 0 r n) := by
  refine (canon_skip 2 0 2 2 inb_S3x3x1280x1280_S1x1x1280x1280_2_2_0_0 _ _ r n (by decide)).trans ?_
  refine (canon_skip 2 0 2 1 inb_S3x3x1280x1280_S1x1x1280x1280_2_1_0_0 _ _ r n (by decide)).trans ?_
  exact canon_hit 2 0 inb_S3x3x1280x1280_S1x1x1280x1280_2_0_0_0 _ _ r n

theorem pieces7 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 2 1 r n) = w7 (ix4 0 0 r n) := by
  refine (canon_skip 2 1 2 2 inb_S3x3x1280x1280_S1x1x1280x1280_2_2_0_0 _ _ r n (by decide)).trans ?_
  exact canon_hit 2 1 inb_S3x3x1280x1280_S1x1x1280x1280_2_1_0_0 _ _ r n

theorem pieces8 (w0 w1 w2 w3 w4 w5 w6 w7 w8 : Vec Ideal S1x1x1280x1280 .f32) (r n : Fin 1280) :
    View.canon ([⟨r0_24, w8⟩, ⟨r0_23, w7⟩, ⟨r0_22, w6⟩, ⟨r0_21, w5⟩, ⟨r0_20, w4⟩, ⟨r0_19, w3⟩, ⟨r0_18, w2⟩, ⟨r0_17, w1⟩, ⟨r0_16, w0⟩] : List (View.Piece (Elt Ideal) S3x3x1280x1280 .f32)) (ix4 2 2 r n) = w8 (ix4 0 0 r n) := by
  exact canon_hit 2 2 inb_S3x3x1280x1280_S1x1x1280x1280_2_2_0_0 _ _ r n

theorem ref_dw (ky kx : Fin 3) (r n : Fin 1280) : out0_18 X0 X1 X2 X3 X4 X5 X6 X7 X8 X9 X10 X11 X12 X13 X14 X15 X16 X17 (ix4 ky kx r n) = (argsR X0 X1 X2 X3 X4 X5 X6 X7 X8 X9 X10 X11 X12 X13 X14 X15 X16 X17).dw ⟨ky.val * 3 + kx.val, by omega⟩ r n := by
  unfold out0_18
  obtain rfl | rfl | rfl : ky = 0 ∨ ky = 1 ∨ ky = 2 := by omega
  · obtain rfl | rfl | rfl : kx = 0 ∨ kx = 1 ∨ kx = 2 := by omega
    · exact (pieces0 _ _ _ _ _ _ _ _ _ r n).trans (dw_tap0 X0 X1 X2 X3 X4 X5 X6 X7 X8 X9 X10 X11 X12 X13 X14 X15 X16 X17 r n)
    · exact (pieces1 _ _ _ _ _ _ _ _ _ r n).trans (dw_tap1 X0 X1 X2 X3 X4 X5 X6 X7 X8 X9 X10 X11 X12 X13 X14 X15 X16 X17 r n)
    · exact (pieces2 _ _ _ _ _ _ _ _ _ r n).trans (dw_tap2 X0 X1 X2 X3 X4 X5 X6 X7 X8 X9 X10 X11 X12 X13 X14 X15 X16 X17 r n)
  · obtain rfl | rfl | rfl : kx = 0 ∨ kx = 1 ∨ kx = 2 := by omega
    · exact (pieces3 _ _ _ _ _ _ _ _ _ r n).trans (dw_tap3 X0 X1 X2 X3 X4 X5 X6 X7 X8 X9 X10 X11 X12 X13 X14 X15 X16 X17 r n)
    · exact (pieces4 _ _ _ _ _ _ _ _ _ r n).trans (dw_tap4 X0 X1 X2 X3 X4 X5 X6 X7 X8 X9 X10 X11 X12 X13 X14 X15 X16 X17 r n)
    · exact (pieces5 _ _ _ _ _ _ _ _ _ r n).trans (dw_tap5 X0 X1 X2 X3 X4 X5 X6 X7 X8 X9 X10 X11 X12 X13 X14 X15 X16 X17 r n)
  · obtain rfl | rfl | rfl : kx = 0 ∨ kx = 1 ∨ kx = 2 := by omega
    · exact (pieces6 _ _ _ _ _ _ _ _ _ r n).trans (dw_tap6 X0 X1 X2 X3 X4 X5 X6 X7 X8 X9 X10 X11 X12 X13 X14 X15 X16 X17 r n)
    · exact (pieces7 _ _ _ _ _ _ _ _ _ r n).trans (dw_tap7 X0 X1 X2 X3 X4 X5 X6 X7 X8 X9 X10 X11 X12 X13 X14 X15 X16 X17 r n)
    · exact (pieces8 _ _ _ _ _ _ _ _ _ r n).trans (dw_tap8 X0 X1 X2 X3 X4 X5 X6 X7 X8 X9 X10 X11 X12 X13 X14 X15 X16 X17 r n)

end Cert.Spec
-- ==== Proof.Value.Layouts.lean ====
module
public import Idealize.ShloMosaic.Lib.Pointwise
public import proofs.«01_k».proof.Proof.Value.Spec
public import proofs.«01_k».proof.Proof.Run.Fold0
@[expose] public section
set_option maxRecDepth 65536

/-!
Every change of layout between the calls, read at an index.
-/
noncomputable section
namespace Cert.Spec
open Idealize.ShloMosaic Idealize.ShloMosaic.TcCoe Cert.KernelIdeal Cert.KernelIdeal.Gen Cert.KernelIdeal.Run

theorem ly_x (X : Vec Ideal S2x384x2560 .i8) (p : Fin 768) (d : Fin 2560) :
    (shapeCast S768x2560 X shapeCasts_S2x384x2560_S768x2560) (ix2 p d) = X (ix3 ⟨p.val / 384, by omega⟩ ⟨p.val % 384, by omega⟩ d) := by
  pointwise []

theorem ly_dy (X : Vec Ideal S2x384x1280 .fp8e5m2) (p : Fin 768) (d : Fin 1280) :
    (shapeCast S768x1280 X shapeCasts_S2x384x1280_S768x1280) (ix2 p d) = X (ix3 ⟨p.val / 384, by omega⟩ ⟨p.val % 384, by omega⟩ d) := by
  pointwise []

theorem ly_s (X : Vec Ideal S2x384 .f32) (p : Fin 768) :
    (shapeCast S768x1 X shapeCasts_S2x384_S768x1) (ix2 p 0) = X (ix2 ⟨p.val / 384, by omega⟩ ⟨p.val % 384, by omega⟩) := by
  pointwise []

theorem ly_ga (X : Vec Ideal S2x32 .f32) (b : Fin 2) (d : Fin 2560) :
    (broadcastInDim S2x1x2560 ![0, 2] bcast_S2x2560_S2x1x2560_0_2 (shapeCast S2x2560 (broadcastInDim S2x32x80 ![0, 1] bcast_S2x32_S2x32x80_0_1 X) shapeCasts_S2x32x80_S2x2560)) (ix3 b 0 d) = X (ix2 b ⟨d.val / 80, by omega⟩) := by
  pointwise []

theorem ly_va (X : Vec Ideal S2560 .f32) (d : Fin 2560) :
    (broadcastInDim S1x2560 ![1] bcast_S2560_S1x2560_1 X) (ix2 0 d) = X (ix1 d) := by
  pointwise []

theorem ly_gb (X : Vec Ideal S2x32 .f32) (b : Fin 2) (d : Fin 1280) :
    (broadcastInDim S2x1x1280 ![0, 2] bcast_S2x1280_S2x1x1280_0_2 (shapeCast S2x1280 (broadcastInDim S2x32x40 ![0, 1] bcast_S2x32_S2x32x40_0_1 X) shapeCasts_S2x32x40_S2x1280)) (ix3 b 0 d) = X (ix2 b ⟨d.val / 40, by omega⟩) := by
  pointwise []

theorem ly_vb (X : Vec Ideal S1280 .f32) (d : Fin 1280) :
    (broadcastInDim S1x1280 ![1] bcast_S1280_S1x1280_1 X) (ix2 0 d) = X (ix1 d) := by
  pointwise []

theorem ly_t (X : Vec Ideal S2x1280 .f32) (b : Fin 2) (d : Fin 1280) :
    (broadcastInDim S2x1x1280 ![0, 2] bcast_S2x1280_S2x1x1280_0_2 X) (ix3 b 0 d) = X (ix2 b d) := by
  pointwise []

theorem ly_w1 (X : Vec Ideal S3x3x2560x1280 .fp8e4m3) (k : Fin 9) (d : Fin 2560) (n : Fin 1280) :
    (shapeCast S9x2560x1280 X shapeCasts_S3x3x2560x1280_S9x2560x1280) (ix3 k d n) = X (ix4 ⟨k.val / 3, by omega⟩ ⟨k.val % 3, by omega⟩ d n) := by
  pointwise []

theorem ly_w2 (X : Vec Ideal S3x3x1280x1280 .fp8e4m3) (k : Fin 9) (d : Fin 1280) (n : Fin 1280) :
    (shapeCast S9x1280x1280 X shapeCasts_S3x3x1280x1280_S9x1280x1280) (ix3 k d n) = X (ix4 ⟨k.val / 3, by omega⟩ ⟨k.val % 3, by omega⟩ d n) := by
  pointwise []

theorem ly_o0 (X : Vec Ideal S9x1280x1280 .f32) (ky kx : Fin 3) (d : Fin 1280) (n : Fin 1280) :
    (shapeCast S3x3x1280x1280 X shapeCasts_S9x1280x1280_S3x3x1280x1280) (ix4 ky kx d n) = X (ix3 ⟨ky.val * 3 + kx.val, by omega⟩ d n) := by
  pointwise []

theorem ly_o1 (X : Vec Ideal S768x1280 .bf16) (b : Fin 2) (s : Fin 384) (d : Fin 1280) :
    (shapeCast S2x384x1280 X shapeCasts_S768x1280_S2x384x1280) (ix3 b s d) = X (ix2 ⟨b.val * 384 + s.val, by omega⟩ d) := by
  pointwise []

theorem ly_o2 (X : Vec Ideal S768x2560 .fp8e4m3) (b : Fin 2) (s : Fin 384) (d : Fin 2560) :
    (shapeCast S2x384x2560 X shapeCasts_S768x2560_S2x384x2560) (ix3 b s d) = X (ix2 ⟨b.val * 384 + s.val, by omega⟩ d) := by
  pointwise []

theorem ly_o4 (X : Vec Ideal S768x1280 .fp8e4m3) (b : Fin 2) (s : Fin 384) (d : Fin 1280) :
    (shapeCast S2x384x1280 X shapeCasts_S768x1280_S2x384x1280) (ix3 b s d) = X (ix2 ⟨b.val * 384 + s.val, by omega⟩ d) := by
  pointwise []

theorem ly_o3 (X : Vec Ideal S768x1 .f32) (b : Fin 2) (s : Fin 384) :
    (shapeCast S2x384 X shapeCasts_S768x1_S2x384) (ix2 b s) = X (ix2 ⟨b.val * 384 + s.val, by omega⟩ 0) := by
  pointwise []

theorem ly_pad (X : Vec Ideal S3x768x1280 .bf16) (k : Fin 3) (b : Fin 2) (q : Fin 416) (d : Fin 1280) :
    (pad S3x2x416x1280 ![0, 0, 16, 0] ![0, 0, 16, 0] ![0, 0, 0, 0] (shapeCast S3x2x384x1280 X shapeCasts_S3x768x1280_S3x2x384x1280)
      (sitofp (F := Ideal) .bf16 (constantI S_ 32 0#32)) pads_S3x2x384x1280_S3x2x416x1280_000_000_16160_000) (ix4 k b q d)
      = if h : 16 ≤ q.val ∧ q.val - 16 < 384 then X (ix3 k ⟨b.val * 384 + (q.val - 16), by omega⟩ d) else (0 : EReal) := by
  have h0 : (FloatOps.sitofp FTy.bf16 0#32 : Ideal .bf16) = (0 : EReal) := by
    show ((((0#32 : BitVec 32).toInt : ℤ) : ℝ) : EReal) = 0
    simp
  pointwise []
  rw [h0]

end Cert.Spec
-- ==== Proof.Value.Hosts.lean ====
module
public import Idealize.ShloMosaic.Lib.StableHlo.RunRead
public import proofs.«01_k».proof.Proof.Value.Layouts
@[expose] public section
set_option maxRecDepth 65536

/-!
What each call finds in its argument arrays, and what the results hold.
-/
noncomputable section
namespace Cert.Spec
open Idealize.ShloMosaic Idealize.ShloMosaic.TcCoe Cert.KernelIdeal Cert.KernelIdeal.Gen Cert.KernelIdeal.Run
variable (m : (ℓ : Loc nD τ sig) → Buf (Elt Ideal) ℓ) (ρ : Dev nD → PrngReg) (c : Dev nD)

theorem w1_v0 (p : Fin 768) (d : Fin 2560) : W1 m ρ c (Proc.devRef .tc main_v0) (ix2 p d) = m ((c : Thread nD τ).loc main_arg0) (ix3 ⟨p.val / 384, by omega⟩ ⟨p.val % 384, by omega⟩ d) := by
  have h : StableHlo.after hostOps0 (W0 m ρ c) (Proc.devRef .tc main_v0) = shapeCast S768x2560 (W0 m ρ c (Proc.devRef .tc main_arg0)) shapeCasts_S2x384x2560_S768x2560 := by
    generalize W0 m ρ c = W
    after_reads_simp
    try rfl
  refine (congrFun h _).trans ((ly_x _ p d).trans ?_)
  exact congrFun (W0_args m ρ c main_arg0 (by decide)) _

theorem w1_v1 (p : Fin 768) : W1 m ρ c (Proc.devRef .tc main_v1) (ix2 p 0) = m ((c : Thread nD τ).loc main_arg1) (ix2 ⟨p.val / 384, by omega⟩ ⟨p.val % 384, by omega⟩) := by
  have h : StableHlo.after hostOps0 (W0 m ρ c) (Proc.devRef .tc main_v1) = shapeCast S768x1 (W0 m ρ c (Proc.devRef .tc main_arg1)) shapeCasts_S2x384_S768x1 := by
    generalize W0 m ρ c = W
    after_reads_simp
    try rfl
  refine (congrFun h _).trans ((ly_s _ p).trans ?_)
  exact congrFun (W0_args m ρ c main_arg1 (by decide)) _

theorem w1_v4 (b : Fin 2) (d : Fin 2560) : W1 m ρ c (Proc.devRef .tc main_v4) (ix3 b 0 d) = m ((c : Thread nD τ).loc main_arg2) (ix2 b ⟨d.val / 80, by omega⟩) := by
  have h : StableHlo.after hostOps0 (W0 m ρ c) (Proc.devRef .tc main_v4) = broadcastInDim S2x1x2560 ![0, 2] bcast_S2x2560_S2x1x2560_0_2 (shapeCast S2x2560 (broadcastInDim S2x32x80 ![0, 1] bcast_S2x32_S2x32x80_0_1 (W0 m ρ c (Proc.devRef .tc main_arg2))) shapeCasts_S2x32x80_S2x2560) := by
    generalize W0 m ρ c = W
    after_reads_simp
    try rfl
  refine (congrFun h _).trans ((ly_ga _ b d).trans ?_)
  exact congrFun (W0_args m ρ c main_arg2 (by decide)) _

theorem w1_v7 (b : Fin 2) (d : Fin 2560) : W1 m ρ c (Proc.devRef .tc main_v7) (ix3 b 0 d) = m ((c : Thread nD τ).loc main_arg3) (ix2 b ⟨d.val / 80, by omega⟩) := by
  have h : StableHlo.after hostOps0 (W0 m ρ c) (Proc.devRef .tc main_v7) = broadcastInDim S2x1x2560 ![0, 2] bcast_S2x2560_S2x1x2560_0_2 (shapeCast S2x2560 (broadcastInDim S2x32x80 ![0, 1] bcast_S2x32_S2x32x80_0_1 (W0 m ρ c (Proc.devRef .tc main_arg3))) shapeCasts_S2x32x80_S2x2560) := by
    generalize W0 m ρ c = W
    after_reads_simp
    try rfl
  refine (congrFun h _).trans ((ly_ga _ b d).trans ?_)
  exact congrFun (W0_args m ρ c main_arg3 (by decide)) _

theorem w1_v8 (d : Fin 2560) : W1 m ρ c (Proc.devRef .tc main_v8) (ix2 0 d) = m ((c : Thread nD τ).loc main_arg4) (ix1 d) := by
  have h : StableHlo.after hostOps0 (W0 m ρ c) (Proc.devRef .tc main_v8) = broadcastInDim S1x2560 ![1] bcast_S2560_S1x2560_1 (W0 m ρ c (Proc.devRef .tc main_arg4)) := by
    generalize W0 m ρ c = W
    after_reads_simp
    try rfl
  refine (congrFun h _).trans ((ly_va _ d).trans ?_)
  exact congrFun (W0_args m ρ c main_arg4 (by decide)) _

theorem w1_v9 (d : Fin 2560) : W1 m ρ c (Proc.devRef .tc main_v9) (ix2 0 d) = m ((c : Thread nD τ).loc main_arg5) (ix1 d) := by
  have h : StableHlo.after hostOps0 (W0 m ρ c) (Proc.devRef .tc main_v9) = broadcastInDim S1x2560 ![1] bcast_S2560_S1x2560_1 (W0 m ρ c (Proc.devRef .tc main_arg5)) := by
    generalize W0 m ρ c = W
    after_reads_simp
    try rfl
  refine (congrFun h _).trans ((ly_va _ d).trans ?_)
  exact congrFun (W0_args m ρ c main_arg5 (by decide)) _

theorem w3_v11 (p : Fin 768) (d : Fin 1280) : W3 m ρ c (Proc.devRef .tc main_v11) (ix2 p d) = m ((c : Thread nD τ).loc main_arg16) (ix3 ⟨p.val / 384, by omega⟩ ⟨p.val % 384, by omega⟩ d) := by
  have h : StableHlo.after hostOps1 (W2 m ρ c) (Proc.devRef .tc main_v11) = shapeCast S768x1280 (W2 m ρ c (Proc.devRef .tc main_arg16)) shapeCasts_S2x384x1280_S768x1280 := by
    generalize W2 m ρ c = W
    after_reads_simp
    try rfl
  refine (congrFun h _).trans ((ly_dy _ p d).trans ?_)
  exact congrFun (W2_args m ρ c main_arg16 (by decide)) _

theorem w3_v12 (p : Fin 768) : W3 m ρ c (Proc.devRef .tc main_v12) (ix2 p 0) = m ((c : Thread nD τ).loc main_arg17) (ix2 ⟨p.val / 384, by omega⟩ ⟨p.val % 384, by omega⟩) := by
  have h : StableHlo.after hostOps1 (W2 m ρ c) (Proc.devRef .tc main_v12) = shapeCast S768x1 (W2 m ρ c (Proc.devRef .tc main_arg17)) shapeCasts_S2x384_S768x1 := by
    generalize W2 m ρ c = W
    after_reads_simp
    try rfl
  refine (congrFun h _).trans ((ly_s _ p).trans ?_)
  exact congrFun (W2_args m ρ c main_arg17 (by decide)) _

theorem w7_v16 (k : Fin 9) (d : Fin 2560) (n : Fin 1280) : W7 m ρ c (Proc.devRef .tc main_v16) (ix3 k d n) = m ((c : Thread nD τ).loc main_arg6) (ix4 ⟨k.val / 3, by omega⟩ ⟨k.val % 3, by omega⟩ d n) := by
  have h : StableHlo.after hostOps2_2 (W6 m ρ c) (Proc.devRef .tc main_v16) = shapeCast S9x2560x1280 (W6 m ρ c (Proc.devRef .tc main_arg6)) shapeCasts_S3x3x2560x1280_S9x2560x1280 := by
    generalize W6 m ρ c = W
    after_reads_simp
    try rfl
  refine (congrFun h _).trans ((ly_w1 _ k d n).trans ?_)
  exact congrFun (W6_args m ρ c main_arg6 (by decide)) _

theorem w7_v17 (d : Fin 1280) : W7 m ρ c (Proc.devRef .tc main_v17) (ix2 0 d) = m ((c : Thread nD τ).loc main_arg7) (ix1 d) := by
  have h : StableHlo.after hostOps2_2 (W6 m ρ c) (Proc.devRef .tc main_v17) = broadcastInDim S1x1280 ![1] bcast_S1280_S1x1280_1 (W6 m ρ c (Proc.devRef .tc main_arg7)) := by
    generalize W6 m ρ c = W
    after_reads_simp
    try rfl
  refine (congrFun h _).trans ((ly_vb _ d).trans ?_)
  exact congrFun (W6_args m ρ c main_arg7 (by decide)) _

theorem w7_v18 (d : Fin 1280) : W7 m ρ c (Proc.devRef .tc main_v18) (ix2 0 d) = m ((c : Thread nD τ).loc main_arg8) (ix1 d) := by
  have h : StableHlo.after hostOps2_2 (W6 m ρ c) (Proc.devRef .tc main_v18) = broadcastInDim S1x1280 ![1] bcast_S1280_S1x1280_1 (W6 m ρ c (Proc.devRef .tc main_arg8)) := by
    generalize W6 m ρ c = W
    after_reads_simp
    try rfl
  refine (congrFun h _).trans ((ly_vb _ d).trans ?_)
  exact congrFun (W6_args m ρ c main_arg8 (by decide)) _

theorem w7_v26 (d : Fin 1280) : W7 m ρ c (Proc.devRef .tc main_v26) (ix2 0 d) = m ((c : Thread nD τ).loc main_arg12) (ix1 d) := by
  have h : StableHlo.after hostOps2_2 (W6 m ρ c) (Proc.devRef .tc main_v26) = broadcastInDim S1x1280 ![1] bcast_S1280_S1x1280_1 (W6 m ρ c (Proc.devRef .tc main_arg12)) := by
    generalize W6 m ρ c = W
    after_reads_simp
    try rfl
  refine (congrFun h _).trans ((ly_vb _ d).trans ?_)
  exact congrFun (W6_args m ρ c main_arg12 (by decide)) _

theorem w7_v27 (d : Fin 1280) : W7 m ρ c (Proc.devRef .tc main_v27) (ix2 0 d) = m ((c : Thread nD τ).loc main_arg13) (ix1 d) := by
  have h : StableHlo.after hostOps2_2 (W6 m ρ c) (Proc.devRef .tc main_v27) = broadcastInDim S1x1280 ![1] bcast_S1280_S1x1280_1 (W6 m ρ c (Proc.devRef .tc main_arg13)) := by
    generalize W6 m ρ c = W
    after_reads_simp
    try rfl
  refine (congrFun h _).trans ((ly_vb _ d).trans ?_)
  exact congrFun (W6_args m ρ c main_arg13 (by decide)) _

theorem w7_v19 (b : Fin 2) (d : Fin 1280) : W7 m ρ c (Proc.devRef .tc main_v19) (ix3 b 0 d) = m ((c : Thread nD τ).loc main_arg9) (ix2 b d) := by
  have h : StableHlo.after hostOps2_2 (W6 m ρ c) (Proc.devRef .tc main_v19) = broadcastInDim S2x1x1280 ![0, 2] bcast_S2x1280_S2x1x1280_0_2 (W6 m ρ c (Proc.devRef .tc main_arg9)) := by
    generalize W6 m ρ c = W
    after_reads_simp
    try rfl
  refine (congrFun h _).trans ((ly_t _ b d).trans ?_)
  exact congrFun (W6_args m ρ c main_arg9 (by decide)) _

theorem w7_v22 (b : Fin 2) (d : Fin 1280) : W7 m ρ c (Proc.devRef .tc main_v22) (ix3 b 0 d) = m ((c : Thread nD τ).loc main_arg10) (ix2 b ⟨d.val / 40, by omega⟩) := by
  have h : StableHlo.after hostOps2_2 (W6 m ρ c) (Proc.devRef .tc main_v22) = broadcastInDim S2x1x1280 ![0, 2] bcast_S2x1280_S2x1x1280_0_2 (shapeCast S2x1280 (broadcastInDim S2x32x40 ![0, 1] bcast_S2x32_S2x32x40_0_1 (W6 m ρ c (Proc.devRef .tc main_arg10))) shapeCasts_S2x32x40_S2x1280) := by
    generalize W6 m ρ c = W
    after_reads_simp
    try rfl
  refine (congrFun h _).trans ((ly_gb _ b d).trans ?_)
  exact congrFun (W6_args m ρ c main_arg10 (by decide)) _

theorem w7_v25 (b : Fin 2) (d : Fin 1280) : W7 m ρ c (Proc.devRef .tc main_v25) (ix3 b 0 d) = m ((c : Thread nD τ).loc main_arg11) (ix2 b ⟨d.val / 40, by omega⟩) := by
  have h : StableHlo.after hostOps2_2 (W6 m ρ c) (Proc.devRef .tc main_v25) = broadcastInDim S2x1x1280 ![0, 2] bcast_S2x1280_S2x1x1280_0_2 (shapeCast S2x1280 (broadcastInDim S2x32x40 ![0, 1] bcast_S2x32_S2x32x40_0_1 (W6 m ρ c (Proc.devRef .tc main_arg11))) shapeCasts_S2x32x40_S2x1280) := by
    generalize W6 m ρ c = W
    after_reads_simp
    try rfl
  refine (congrFun h _).trans ((ly_gb _ b d).trans ?_)
  exact congrFun (W6_args m ρ c main_arg11 (by decide)) _

theorem w10_v30 (k : Fin 9) (d : Fin 1280) (n : Fin 1280) : W10 m ρ c (Proc.devRef .tc main_v30) (ix3 k d n) = m ((c : Thread nD τ).loc main_arg14) (ix4 ⟨k.val / 3, by omega⟩ ⟨k.val % 3, by omega⟩ d n) := by
  have h : StableHlo.after hostOps4 (W9 m ρ c) (Proc.devRef .tc main_v30) = shapeCast S9x1280x1280 (W9 m ρ c (Proc.devRef .tc main_arg14)) shapeCasts_S3x3x1280x1280_S9x1280x1280 := by
    generalize W9 m ρ c = W
    after_reads_simp
    try rfl
  refine (congrFun h _).trans ((ly_w2 _ k d n).trans ?_)
  exact congrFun (W9_args m ρ c main_arg14 (by decide)) _

theorem w10_v31 (d : Fin 1280) : W10 m ρ c (Proc.devRef .tc main_v31) (ix2 0 d) = m ((c : Thread nD τ).loc main_arg15) (ix1 d) := by
  have h : StableHlo.after hostOps4 (W9 m ρ c) (Proc.devRef .tc main_v31) = broadcastInDim S1x1280 ![1] bcast_S1280_S1x1280_1 (W9 m ρ c (Proc.devRef .tc main_arg15)) := by
    generalize W9 m ρ c = W
    after_reads_simp
    try rfl
  refine (congrFun h _).trans ((ly_vb _ d).trans ?_)
  exact congrFun (W9_args m ρ c main_arg15 (by decide)) _

theorem w13_v34 (ky kx : Fin 3) (d : Fin 1280) (n : Fin 1280) : W13 m ρ c (Proc.devRef .tc main_v34) (ix4 ky kx d n) = W12 m ρ c (Proc.devRef .tc main_v33) (ix3 ⟨ky.val * 3 + kx.val, by omega⟩ d n) := by
  have h : StableHlo.after hostOps6 (W12 m ρ c) (Proc.devRef .tc main_v34) = shapeCast S3x3x1280x1280 (W12 m ρ c (Proc.devRef .tc main_v33)) shapeCasts_S9x1280x1280_S3x3x1280x1280 := by
    generalize W12 m ρ c = W
    after_reads_simp
    try rfl
  refine (congrFun h _).trans ((ly_o0 _ ky kx d n).trans ?_)
  rfl

theorem w13_v35 (b : Fin 2) (s : Fin 384) (d : Fin 1280) : W13 m ρ c (Proc.devRef .tc main_v35) (ix3 b s d) = W12 m ρ c (Proc.devRef .tc main_v32) (ix2 ⟨b.val * 384 + s.val, by omega⟩ d) := by
  have h : StableHlo.after hostOps6 (W12 m ρ c) (Proc.devRef .tc main_v35) = shapeCast S2x384x1280 (W12 m ρ c (Proc.devRef .tc main_v32)) shapeCasts_S768x1280_S2x384x1280 := by
    generalize W12 m ρ c = W
    after_reads_simp
    try rfl
  refine (congrFun h _).trans ((ly_o1 _ b s d).trans ?_)
  rfl

theorem w13_v36 (b : Fin 2) (s : Fin 384) (d : Fin 2560) : W13 m ρ c (Proc.devRef .tc main_v36) (ix3 b s d) = W12 m ρ c (Proc.devRef .tc main_v10_0) (ix2 ⟨b.val * 384 + s.val, by omega⟩ d) := by
  have h : StableHlo.after hostOps6 (W12 m ρ c) (Proc.devRef .tc main_v36) = shapeCast S2x384x2560 (W12 m ρ c (Proc.devRef .tc main_v10_0)) shapeCasts_S768x2560_S2x384x2560 := by
    generalize W12 m ρ c = W
    after_reads_simp
    try rfl
  refine (congrFun h _).trans ((ly_o2 _ b s d).trans ?_)
  rfl

theorem w13_v38 (b : Fin 2) (s : Fin 384) (d : Fin 1280) : W13 m ρ c (Proc.devRef .tc main_v38) (ix3 b s d) = W12 m ρ c (Proc.devRef .tc main_v29_0) (ix2 ⟨b.val * 384 + s.val, by omega⟩ d) := by
  have h : StableHlo.after hostOps6 (W12 m ρ c) (Proc.devRef .tc main_v38) = shapeCast S2x384x1280 (W12 m ρ c (Proc.devRef .tc main_v29_0)) shapeCasts_S768x1280_S2x384x1280 := by
    generalize W12 m ρ c = W
    after_reads_simp
    try rfl
  refine (congrFun h _).trans ((ly_o4 _ b s d).trans ?_)
  rfl

theorem w13_v37 (b : Fin 2) (s : Fin 384) : W13 m ρ c (Proc.devRef .tc main_v37) (ix2 b s) = W12 m ρ c (Proc.devRef .tc main_v10_1) (ix2 ⟨b.val * 384 + s.val, by omega⟩ 0) := by
  have h : StableHlo.after hostOps6 (W12 m ρ c) (Proc.devRef .tc main_v37) = shapeCast S2x384 (W12 m ρ c (Proc.devRef .tc main_v10_1)) shapeCasts_S768x1_S2x384 := by
    generalize W12 m ρ c = W
    after_reads_simp
    try rfl
  refine (congrFun h _).trans ((ly_o3 _ b s).trans ?_)
  rfl

theorem w13_v39 (b : Fin 2) (s : Fin 384) : W13 m ρ c (Proc.devRef .tc main_v39) (ix2 b s) = W12 m ρ c (Proc.devRef .tc main_v29_1) (ix2 ⟨b.val * 384 + s.val, by omega⟩ 0) := by
  have h : StableHlo.after hostOps6 (W12 m ρ c) (Proc.devRef .tc main_v39) = shapeCast S2x384 (W12 m ρ c (Proc.devRef .tc main_v29_1)) shapeCasts_S768x1_S2x384 := by
    generalize W12 m ρ c = W
    after_reads_simp
    try rfl
  refine (congrFun h _).trans ((ly_o3 _ b s).trans ?_)
  rfl

theorem w6_v15 (k : Fin 3) (b : Fin 2) (q : Fin 416) (d : Fin 1280) : W6 m ρ c (Proc.devRef .tc main_v15) (ix4 k b q d)
    = if h : 16 ≤ q.val ∧ q.val - 16 < 384 then W4 m ρ c (Proc.devRef .tc main_v13) (ix3 k ⟨b.val * 384 + (q.val - 16), by omega⟩ d) else (0 : EReal) := by
  have h : StableHlo.after hostOps2_1 (StableHlo.after hostOps2 (W4 m ρ c)) (Proc.devRef .tc main_v15)
      = pad S3x2x416x1280 ![0, 0, 16, 0] ![0, 0, 16, 0] ![0, 0, 0, 0] (shapeCast S3x2x384x1280 (W4 m ρ c (Proc.devRef .tc main_v13)) shapeCasts_S3x768x1280_S3x2x384x1280)
          (sitofp (F := Ideal) .bf16 (constantI S_ 32 0#32)) pads_S3x2x384x1280_S3x2x416x1280_000_000_16160_000 := by
    generalize W4 m ρ c = W
    after_reads_simp
    try rfl
  exact (congrFun h _).trans (ly_pad _ k b q d)

theorem w7_v10_2 : W7 m ρ c (Proc.devRef .tc main_v10_2) = (dat0 (V1 m ρ) c).arrAt 8 cfg0.N :=
  (W7_of m ρ c main_v10_2 (by decide)).trans ((W6_of m ρ c main_v10_2 (by decide)).trans ((W5_of m ρ c main_v10_2 (by decide)).trans ((W4_of m ρ c main_v10_2 (by decide)).trans ((W3_of m ρ c main_v10_2 (by decide)).trans (W2_arr m ρ c 8)))))

theorem w12_v10_0 : W12 m ρ c (Proc.devRef .tc main_v10_0) = (dat0 (V1 m ρ) c).arrAt 6 cfg0.N :=
  (W12_of m ρ c main_v10_0 (by decide)).trans ((W11_of m ρ c main_v10_0 (by decide)).trans ((W10_of m ρ c main_v10_0 (by decide)).trans ((W9_of m ρ c main_v10_0 (by decide)).trans ((W8_of m ρ c main_v10_0 (by decide)).trans ((W7_of m ρ c main_v10_0 (by decide)).trans ((W6_of m ρ c main_v10_0 (by decide)).trans ((W5_of m ρ c main_v10_0 (by decide)).trans ((W4_of m ρ c main_v10_0 (by decide)).trans ((W3_of m ρ c main_v10_0 (by decide)).trans (W2_arr m ρ c 6))))))))))

theorem w12_v10_1 : W12 m ρ c (Proc.devRef .tc main_v10_1) = (dat0 (V1 m ρ) c).arrAt 7 cfg0.N :=
  (W12_of m ρ c main_v10_1 (by decide)).trans ((W11_of m ρ c main_v10_1 (by decide)).trans ((W10_of m ρ c main_v10_1 (by decide)).trans ((W9_of m ρ c main_v10_1 (by decide)).trans ((W8_of m ρ c main_v10_1 (by decide)).trans ((W7_of m ρ c main_v10_1 (by decide)).trans ((W6_of m ρ c main_v10_1 (by decide)).trans ((W5_of m ρ c main_v10_1 (by decide)).trans ((W4_of m ρ c main_v10_1 (by decide)).trans ((W3_of m ρ c main_v10_1 (by decide)).trans (W2_arr m ρ c 7))))))))))

theorem w4_v13 : W4 m ρ c (Proc.devRef .tc main_v13) = (dat1 (V3 m ρ) c).arrAt 2 cfg1.N :=
  W4_arr m ρ c 2

theorem w10_v15 : W10 m ρ c (Proc.devRef .tc main_v15) = W6 m ρ c (Proc.devRef .tc main_v15) :=
  (W10_of m ρ c main_v15 (by decide)).trans ((W9_of m ρ c main_v15 (by decide)).trans ((W8_of m ρ c main_v15 (by decide)).trans ((W7_of m ρ c main_v15 (by decide)).trans (rfl))))

theorem w11_v15 : W11 m ρ c (Proc.devRef .tc main_v15) = W6 m ρ c (Proc.devRef .tc main_v15) :=
  (W11_of m ρ c main_v15 (by decide)).trans (w10_v15 m ρ c)

theorem w8_v28 : W8 m ρ c (Proc.devRef .tc main_v28) = (dat2 (V7 m ρ) c).arrAt 9 cfg2.N :=
  W8_arr m ρ c 9

theorem w11_v29_2 : W11 m ρ c (Proc.devRef .tc main_v29_2) = (dat3 (V8 m ρ) c).arrAt 3 cfg3.N :=
  (W11_of m ρ c main_v29_2 (by decide)).trans ((W10_of m ρ c main_v29_2 (by decide)).trans (W9_arr m ρ c 3))

theorem w12_v29_0 : W12 m ρ c (Proc.devRef .tc main_v29_0) = (dat3 (V8 m ρ) c).arrAt 1 cfg3.N :=
  (W12_of m ρ c main_v29_0 (by decide)).trans ((W11_of m ρ c main_v29_0 (by decide)).trans ((W10_of m ρ c main_v29_0 (by decide)).trans (W9_arr m ρ c 1)))

theorem w12_v29_1 : W12 m ρ c (Proc.devRef .tc main_v29_1) = (dat3 (V8 m ρ) c).arrAt 2 cfg3.N :=
  (W12_of m ρ c main_v29_1 (by decide)).trans ((W11_of m ρ c main_v29_1 (by decide)).trans ((W10_of m ρ c main_v29_1 (by decide)).trans (W9_arr m ρ c 2)))

theorem w12_v32 : W12 m ρ c (Proc.devRef .tc main_v32) = (dat4 (V10 m ρ) c).arrAt 3 cfg4.N :=
  (W12_of m ρ c main_v32 (by decide)).trans (W11_arr m ρ c 3)

theorem w12_v33 : W12 m ρ c (Proc.devRef .tc main_v33) = (dat5 (V11 m ρ) c).arrAt 2 cfg5.N :=
  W12_arr m ρ c 2

end Cert.Spec
-- ==== Proof.Value.Blocks0.lean ====
module
public import proofs.«01_k».proof.Proof.Run.Region0
public import Idealize.ShloMosaic.Lib.Pointwise
public import Idealize.ShloMosaic.Lib.Pipeline.ValueKit
@[expose] public section
set_option maxRecDepth 65536

/-!
Pipeline 0: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt0 (t : Fin cfg0.N) : t.val < 24 := lt_of_lt_of_eq t.isLt N_0

theorem idx0_0 : ∀ t : Fin cfg0.N, win0_0.index t = ![t.val, 0] := by decide +kernel

theorem idx0_1 : ∀ t : Fin cfg0.N, win0_1.index t = ![t.val, 0] := by decide +kernel

theorem idx0_2 : ∀ t : Fin cfg0.N, win0_2.index t = ![t.val / 12, 0, 0] := by decide +kernel

theorem idx0_3 : ∀ t : Fin cfg0.N, win0_3.index t = ![t.val / 12, 0, 0] := by decide +kernel

theorem idx0_4 : ∀ t : Fin cfg0.N, win0_4.index t = ![0, 0] := by decide +kernel

theorem idx0_5 : ∀ t : Fin cfg0.N, win0_5.index t = ![0, 0] := by decide +kernel

theorem idx0_6 : ∀ t : Fin cfg0.N, win0_6.index t = ![t.val, 0] := by decide +kernel

theorem idx0_7 : ∀ t : Fin cfg0.N, win0_7.index t = ![t.val, 0] := by decide +kernel

theorem idx0_8 : ∀ t : Fin cfg0.N, win0_8.index t = ![0, t.val, 0] := by decide +kernel

theorem blk0_0 (c : Dev nD) (t : Fin cfg0.N) (i0 : Fin 32) (i1 : Fin 2560) :
    iblk0 V c 0 t (ix2 i0 i1) = V c main_v0 (ix2 ⟨32 * (t.val) + i0.val, by have := lt0 t; omega⟩ i1) := by
  show V c main_v0 (((cfg0.win 0).blk t).view.emb (ix2 i0 i1)) = _
  congr 1
  have h : win0_0.index t = _ := idx0_0 t
  funext a
  fin_cases a <;> apply Fin.ext
  · show win0_0.index t 0 * 32 + 1 * i0.val = 32 * (t.val) + i0.val
    rw [h]
    show (t.val) * 32 + 1 * i0.val = 32 * (t.val) + i0.val
    omega
  · show win0_0.index t 1 * 2560 + 1 * i1.val = i1.val
    rw [h]
    show (0) * 2560 + 1 * i1.val = i1.val
    omega

theorem blk0_1 (c : Dev nD) (t : Fin cfg0.N) (i0 : Fin 32) (i1 : Fin 1) :
    iblk0 V c 1 t (ix2 i0 i1) = V c main_v1 (ix2 ⟨32 * (t.val) + i0.val, by have := lt0 t; omega⟩ i1) := by
  show V c main_v1 (((cfg0.win 1).blk t).view.emb (ix2 i0 i1)) = _
  congr 1
  have h : win0_1.index t = _ := idx0_1 t
  funext a
  fin_cases a <;> apply Fin.ext
  · show win0_1.index t 0 * 32 + 1 * i0.val = 32 * (t.val) + i0.val
    rw [h]
    show (t.val) * 32 + 1 * i0.val = 32 * (t.val) + i0.val
    omega
  · show win0_1.index t 1 * 1 + 1 * i1.val = i1.val
    rw [h]
    show (0) * 1 + 1 * i1.val = i1.val
    omega

theorem blk0_2 (c : Dev nD) (t : Fin cfg0.N) (i0 : Fin 1) (i1 : Fin 1) (i2 : Fin 2560) :
    iblk0 V c 2 t (ix3 i0 i1 i2) = V c main_v4 (ix3 ⟨1 * (t.val / 12) + i0.val, by have := lt0 t; omega⟩ i1 i2) := by
  show V c main_v4 (((cfg0.win 2).blk t).view.emb (ix3 i0 i1 i2)) = _
  congr 1
  have h : win0_2.index t = _ := idx0_2 t
  funext a
  fin_cases a <;> apply Fin.ext
  · show win0_2.index t 0 * 1 + 1 * i0.val = 1 * (t.val / 12) + i0.val
    rw [h]
    show (t.val / 12) * 1 + 1 * i0.val = 1 * (t.val / 12) + i0.val
    omega
  · show win0_2.index t 1 * 1 + 1 * i1.val = i1.val
    rw [h]
    show (0) * 1 + 1 * i1.val = i1.val
    omega
  · show win0_2.index t 2 * 2560 + 1 * i2.val = i2.val
    rw [h]
    show (0) * 2560 + 1 * i2.val = i2.val
    omega

theorem blk0_3 (c : Dev nD) (t : Fin cfg0.N) (i0 : Fin 1) (i1 : Fin 1) (i2 : Fin 2560) :
    iblk0 V c 3 t (ix3 i0 i1 i2) = V c main_v7 (ix3 ⟨1 * (t.val / 12) + i0.val, by have := lt0 t; omega⟩ i1 i2) := by
  show V c main_v7 (((cfg0.win 3).blk t).view.emb (ix3 i0 i1 i2)) = _
  congr 1
  have h : win0_3.index t = _ := idx0_3 t
  funext a
  fin_cases a <;> apply Fin.ext
  · show win0_3.index t 0 * 1 + 1 * i0.val = 1 * (t.val / 12) + i0.val
    rw [h]
    show (t.val / 12) * 1 + 1 * i0.val = 1 * (t.val / 12) + i0.val
    omega
  · show win0_3.index t 1 * 1 + 1 * i1.val = i1.val
    rw [h]
    show (0) * 1 + 1 * i1.val = i1.val
    omega
  · show win0_3.index t 2 * 2560 + 1 * i2.val = i2.val
    rw [h]
    show (0) * 2560 + 1 * i2.val = i2.val
    omega

theorem blk0_4 (c : Dev nD) (t : Fin cfg0.N) (i0 : Fin 1) (i1 : Fin 2560) :
    iblk0 V c 4 t (ix2 i0 i1) = V c main_v8 (ix2 i0 i1) := by
  show V c main_v8 (((cfg0.win 4).blk t).view.emb (ix2 i0 i1)) = _
  congr 1
  have h : win0_4.index t = _ := idx0_4 t
  funext a
  fin_cases a <;> apply Fin.ext
  · show win0_4.index t 0 * 1 + 1 * i0.val = i0.val
    rw [h]
    show (0) * 1 + 1 * i0.val = i0.val
    omega
  · show win0_4.index t 1 * 2560 + 1 * i1.val = i1.val
    rw [h]
    show (0) * 2560 + 1 * i1.val = i1.val
    omega

theorem blk0_5 (c : Dev nD) (t : Fin cfg0.N) (i0 : Fin 1) (i1 : Fin 2560) :
    iblk0 V c 5 t (ix2 i0 i1) = V c main_v9 (ix2 i0 i1) := by
  show V c main_v9 (((cfg0.win 5).blk t).view.emb (ix2 i0 i1)) = _
  congr 1
  have h : win0_5.index t = _ := idx0_5 t
  funext a
  fin_cases a <;> apply Fin.ext
  · show win0_5.index t 0 * 1 + 1 * i0.val = i0.val
    rw [h]
    show (0) * 1 + 1 * i0.val = i0.val
    omega
  · show win0_5.index t 1 * 2560 + 1 * i1.val = i1.val
    rw [h]
    show (0) * 2560 + 1 * i1.val = i1.val
    omega

theorem disjoint0_6 (t t' : Fin cfg0.N) (h : (cfg0.win 6).flush t = true) (h' : (cfg0.win 6).flush t' = true) (hne : t ≠ t') :
    Disjoint ((cfg0.win 6).blk t).view.set ((cfg0.win 6).blk t').view.set :=
  (cfg0.win 6).disjoint_blk fun e => hne (by
    have e' : win0_6.index t = win0_6.index t' := e
    rw [idx0_6 t, idx0_6 t'] at e'
    have e0 : t.val = t'.val := congrFun e' 0
    exact Fin.ext (by omega))

theorem disjoint0_7 (t t' : Fin cfg0.N) (h : (cfg0.win 7).flush t = true) (h' : (cfg0.win 7).flush t' = true) (hne : t ≠ t') :
    Disjoint ((cfg0.win 7).blk t).view.set ((cfg0.win 7).blk t').view.set :=
  (cfg0.win 7).disjoint_blk fun e => hne (by
    have e' : win0_7.index t = win0_7.index t' := e
    rw [idx0_7 t, idx0_7 t'] at e'
    have e0 : t.val = t'.val := congrFun e' 0
    exact Fin.ext (by omega))

theorem disjoint0_8 (t t' : Fin cfg0.N) (h : (cfg0.win 8).flush t = true) (h' : (cfg0.win 8).flush t' = true) (hne : t ≠ t') :
    Disjoint ((cfg0.win 8).blk t).view.set ((cfg0.win 8).blk t').view.set :=
  (cfg0.win 8).disjoint_blk fun e => hne (by
    have e' : win0_8.index t = win0_8.index t' := e
    rw [idx0_8 t, idx0_8 t'] at e'
    have e1 : t.val = t'.val := congrFun e' 1
    exact Fin.ext (by omega))

end Cert.Spec
-- ==== Proof.Value.Backs0.lean ====
module
public import proofs.«01_k».proof.Proof.Value.Blocks0
@[expose] public section
set_option maxRecDepth 65536

/-!
Pipeline 0: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back0_6 (c : Dev nD) (t : Fin cfg0.N) (hf : (cfg0.win 6).flush t = true) (i0 : Fin 32) (i1 : Fin 2560) :
    (dat0 V c).arrAt 6 cfg0.N (ix2 ⟨32 * (t.val) + i0.val, by have := lt0 t; omega⟩ i1) = (dat0 V c).after 6 t (ix2 i0 i1) := by
  have e : ((cfg0.win 6).blk t).view.emb (ix2 i0 i1) = ix2 ⟨32 * (t.val) + i0.val, by have := lt0 t; omega⟩ i1 := by
    have h : win0_6.index t = _ := idx0_6 t
    funext a
    fin_cases a <;> apply Fin.ext
    · show win0_6.index t 0 * 32 + 1 * i0.val = 32 * (t.val) + i0.val
      rw [h]
      show (t.val) * 32 + 1 * i0.val = 32 * (t.val) + i0.val
      omega
    · show win0_6.index t 1 * 2560 + 1 * i1.val = i1.val
      rw [h]
      show (0) * 2560 + 1 * i1.val = i1.val
      omega
  have h := congrFun ((dat0 V c).read_blk_arrAt_eq_flushed 6 disjoint0_6 cfg0.N t t.isLt hf) (ix2 i0 i1)
  rw [View.read_apply, e] at h
  exact h

theorem back0_7 (c : Dev nD) (t : Fin cfg0.N) (hf : (cfg0.win 7).flush t = true) (i0 : Fin 32) (i1 : Fin 1) :
    (dat0 V c).arrAt 7 cfg0.N (ix2 ⟨32 * (t.val) + i0.val, by have := lt0 t; omega⟩ i1) = (dat0 V c).after 7 t (ix2 i0 i1) := by
  have e : ((cfg0.win 7).blk t).view.emb (ix2 i0 i1) = ix2 ⟨32 * (t.val) + i0.val, by have := lt0 t; omega⟩ i1 := by
    have h : win0_7.index t = _ := idx0_7 t
    funext a
    fin_cases a <;> apply Fin.ext
    · show win0_7.index t 0 * 32 + 1 * i0.val = 32 * (t.val) + i0.val
      rw [h]
      show (t.val) * 32 + 1 * i0.val = 32 * (t.val) + i0.val
      omega
    · show win0_7.index t 1 * 1 + 1 * i1.val = i1.val
      rw [h]
      show (0) * 1 + 1 * i1.val = i1.val
      omega
  have h := congrFun ((dat0 V c).read_blk_arrAt_eq_flushed 7 disjoint0_7 cfg0.N t t.isLt hf) (ix2 i0 i1)
  rw [View.read_apply, e] at h
  exact h

theorem back0_8 (c : Dev nD) (t : Fin cfg0.N) (hf : (cfg0.win 8).flush t = true) (i0 : Fin 3) (i1 : Fin 32) (i2 : Fin 2560) :
    (dat0 V c).arrAt 8 cfg0.N (ix3 i0 ⟨32 * (t.val) + i1.val, by have := lt0 t; omega⟩ i2) = (dat0 V c).after 8 t (ix3 i0 i1 i2) := by
  have e : ((cfg0.win 8).blk t).view.emb (ix3 i0 i1 i2) = ix3 i0 ⟨32 * (t.val) + i1.val, by have := lt0 t; omega⟩ i2 := by
    have h : win0_8.index t = _ := idx0_8 t
    funext a
    fin_cases a <;> apply Fin.ext
    · show win0_8.index t 0 * 3 + 1 * i0.val = i0.val
      rw [h]
      show (0) * 3 + 1 * i0.val = i0.val
      omega
    · show win0_8.index t 1 * 32 + 1 * i1.val = 32 * (t.val) + i1.val
      rw [h]
      show (t.val) * 32 + 1 * i1.val = 32 * (t.val) + i1.val
      omega
    · show win0_8.index t 2 * 2560 + 1 * i2.val = i2.val
      rw [h]
      show (0) * 2560 + 1 * i2.val = i2.val
      omega
  have h := congrFun ((dat0 V c).read_blk_arrAt_eq_flushed 8 disjoint0_8 cfg0.N t t.isLt hf) (ix3 i0 i1 i2)
  rw [View.read_apply, e] at h
  exact h

end Cert.Spec
-- ==== Proof.Value.Pay0.lean ====
module
public import proofs.«01_k».proof.Proof.Value.Quant
public import proofs.«01_k».proof.Proof.Value.Backs0
@[expose] public section
set_option maxRecDepth 65536

/-!
What one grid point of the first normalisation leaves in its output blocks.
-/
noncomputable section
namespace Cert.Spec
open Idealize.ShloMosaic Idealize.ShloMosaic.TcCoe Cert.KernelIdeal Cert.KernelIdeal.Gen Cert.KernelIdeal.Run

/-- The normalised value of one row and channel of a block. -/
def act0 (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) (d : Fin 2560) : EReal :=
  gnSilu (FloatOps.sitofp (F := Ideal) .f32 (x0 (ix2 p d)) * x1 (ix2 p 0)) (x2 (ix3 0 0 d)) (x3 (ix3 0 0 d)) (x4 (ix2 0 d)) (x5 (ix2 0 d))

/-- A row's level. -/
def lev0 (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) : EReal := rowLevel fun d => act0 x0 x1 x2 x3 x4 x5 p d

theorem pay0_13 (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) (d : Fin 2560) : k0_pay13 x0 x1 x2 x3 x4 x5 (ix2 p d) = act0 x0 x1 x2 x3 x4 x5 p d := by
  unfold k0_pay13
  rw [View.ld_unit_lit inb_S32x2560_S32x2560_0_0 x0 (by decide), View.ld_unit_lit inb_S32x1_S32x1_0_0 x1 (by decide),
    View.ld_unit_lit inb_S1x1x2560_S1x1x2560_0_0_0 x2 (by decide), View.ld_unit_lit inb_S1x1x2560_S1x1x2560_0_0_0 x3 (by decide),
    View.ld_unit_lit inb_S1x2560_S1x2560_0_0 x4 (by decide), View.ld_unit_lit inb_S1x2560_S1x2560_0_0 x5 (by decide)]
  unfold act0 gnSilu
  pointwise [k0_pay2]

theorem pay0_14 (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) : k0_pay14 x0 x1 x2 x3 x4 x5 (ix1 p) = kCount (lev0 x0 x1 x2 x3 x4 x5 p) := by
  have h : ∀ d, k0_pay13 x0 x1 x2 x3 x4 x5 (ix2 p d) = act0 x0 x1 x2 x3 x4 x5 p d := pay0_13 x0 x1 x2 x3 x4 x5 p
  unfold lev0
  simp only [← h]
  unfold k0_pay14 k0_pay13
  unfold k0_pay3
  generalize k0_pay2 (F := Ideal) _ _ _ _ _ _ = X
  unfold kCount rowLevel
  pointwise []

theorem pay0_5 (v24 : FVec Ideal S32x2560 .f32) (v39 : IVec S32 32) (p : Fin 32) (d : Fin 2560) :
    k0_pay5 (F := Ideal) v24 v39 (ix2 p d) = min (Ideal.ofBits .f32 1138753536#32) (max (Ideal.ofBits .f32 3286237184#32) (v24 (ix2 p d) * kInv (v39 (ix1 p)))) := by
  unfold kInv
  pointwise [k0_pay5, k0_pay4]

theorem pay0_6 (v39 : IVec S32 32) (p : Fin 32) : k0_pay6 (F := Ideal) v39 (ix2 p 0) = kScale (v39 (ix1 p)) := by
  unfold kScale
  pointwise [k0_pay6, k0_pay4]

theorem pay0_7 (v24 : FVec Ideal S32x2560 .f32) (v39 : IVec S32 32) (p : Fin 32) (d : Fin 2560) :
    k0_pay7 (F := Ideal) v24 v39 (ix2 p d) = k0_pay5 (F := Ideal) v24 v39 (ix2 p d) * kScale (v39 (ix1 p)) := by
  unfold k0_pay7
  generalize k0_pay5 (F := Ideal) v24 v39 = X
  unfold kScale
  pointwise [k0_pay4]

theorem out0_6_at (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) (d : Fin 2560) : out0_6 x0 x1 x2 x3 x4 x5 (ix2 p d) = codeOf (act0 x0 x1 x2 x3 x4 x5 p d) (lev0 x0 x1 x2 x3 x4 x5 p) := by
  unfold out0_6
  rw [View.canon_cons_unit_lit inb_S32x2560_S32x2560_0_0 _ _ (by decide), pay0_5, pay0_13, pay0_14, kCode_eq]

theorem out0_7_at (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) : out0_7 x0 x1 x2 x3 x4 x5 (ix2 p 0) = scaleOf (lev0 x0 x1 x2 x3 x4 x5 p) := by
  unfold out0_7
  rw [View.canon_cons_unit_lit inb_S32x1_S32x1_0_0 _ _ (by decide), pay0_6, pay0_14, kScale_eq]

theorem pay0_15 (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (p : Fin 32) (d : Fin 2560) :
    k0_pay15 x0 x1 x2 x3 x4 x5 (ix2 p d) = codeOf (act0 x0 x1 x2 x3 x4 x5 p d) (lev0 x0 x1 x2 x3 x4 x5 p) * scaleOf (lev0 x0 x1 x2 x3 x4 x5 p) := by
  unfold k0_pay15
  rw [pay0_7, pay0_5, pay0_13, pay0_14, kCode_eq, kScale_eq]

/-- A row's place modulo 16, as the kernel computes it. -/
def mod16 (w : BitVec 32) : BitVec 32 :=
  Scalar.select (IntOp.andi (IntOp.xori (IntOp.cmpi CmpIPredicate.slt (IntOp.remsi ArithUnit.vector w (Scalar.select (Scalar.cmpi .eq 16#32 0#32) 1#32 16#32)) 0#32)
      (Scalar.cmpi .slt (Scalar.select (Scalar.cmpi .eq 16#32 0#32) 1#32 16#32) 0#32))
      (IntOp.cmpi CmpIPredicate.ne (IntOp.remsi ArithUnit.vector w (Scalar.select (Scalar.cmpi .eq 16#32 0#32) 1#32 16#32)) 0#32))
    (IntOp.addi (IntOp.remsi ArithUnit.vector w (Scalar.select (Scalar.cmpi .eq 16#32 0#32) 1#32 16#32)) (Scalar.select (Scalar.cmpi .eq 16#32 0#32) 1#32 16#32))
    (IntOp.remsi ArithUnit.vector w (Scalar.select (Scalar.cmpi .eq 16#32 0#32) 1#32 16#32))

theorem mod16_eq : ∀ p : Fin 32, mod16 (BitVec.ofNat 32 p.val) = BitVec.ofNat 32 (p.val % 16) := by decide +kernel

theorem mod16_zero (p : Fin 32) (a b : EReal) :
    Scalar.select (IntOp.cmpi CmpIPredicate.eq (mod16 (BitVec.ofNat 32 p.val)) 0#32) a b = if p.val % 16 = 0 then a else b := by
  have h : ∀ p : Fin 32, (IntOp.cmpi CmpIPredicate.eq (mod16 (BitVec.ofNat 32 p.val)) 0#32) = BitVec.ofBool (decide (p.val % 16 = 0)) := by decide +kernel
  rw [h]
  by_cases h : p.val % 16 = 0 <;> simp [h, Scalar.select]

theorem mod16_last (p : Fin 32) (a b : EReal) :
    Scalar.select (IntOp.cmpi CmpIPredicate.eq (mod16 (BitVec.ofNat 32 p.val)) 15#32) a b = if p.val % 16 = 15 then a else b := by
  have h : ∀ p : Fin 32, (IntOp.cmpi CmpIPredicate.eq (mod16 (BitVec.ofNat 32 p.val)) 15#32) = BitVec.ofBool (decide (p.val % 16 = 15)) := by decide +kernel
  rw [h]
  by_cases h : p.val % 16 = 15 <;> simp [h, Scalar.select]

theorem pay0_8 (v75 : FVec Ideal S32x2560 .f32) (p : Fin 32) (d : Fin 2560) :
    k0_pay8 (F := Ideal) v75 (iota .tc S32x2560 32 [0] iota_S32x2560_d0_w32) (Scalar.select (Scalar.cmpi .eq 16#32 0#32) 1#32 16#32) (ix3 0 p d)
      = if p.val % 16 = 0 then 0 else v75 (ix2 ⟨(p.val + 32 - 1) % 32, Nat.mod_lt _ (by decide)⟩ d) := by
  rw [← mod16_zero]
  unfold mod16
  pointwise [k0_pay8]

theorem pay0_9 (v75 : FVec Ideal S32x2560 .f32) (p : Fin 32) (d : Fin 2560) :
    k0_pay9 (F := Ideal) v75 (ix3 0 p d) = v75 (ix2 p d) := by
  pointwise [k0_pay9]

theorem pay0_1 (v75 : FVec Ideal S32x2560 .f32) (p : Fin 32) (d : Fin 2560) :
    k0_pay1 (F := Ideal) v75 (Scalar.select (Scalar.cmpi .eq 16#32 0#32) 1#32 16#32) k0_pay10 k0_pay11 k0_pay12 (ix3 0 p d)
      = if p.val % 16 = 15 then 0 else v75 (ix2 ⟨(p.val + 32 - 31) % 32, Nat.mod_lt _ (by decide)⟩ d) := by
  rw [← mod16_last]
  unfold mod16
  pointwise [k0_pay1, k0_pay10, k0_pay11, k0_pay12]

end Cert.Spec
-- ==== Proof.Value.Final0.lean ====
module
public import proofs.«01_k».proof.Proof.Value.Pay0
public import proofs.«01_k».proof.Proof.Value.Spec
@[expose] public section
set_option maxRecDepth 65536

/-!
The three arrays the first normalisation leaves.
-/
noncomputable section
namespace Cert.Spec
open Idealize.ShloMosaic Idealize.ShloMosaic.TcCoe Cert.KernelIdeal Cert.KernelIdeal.Gen Cert.KernelIdeal.Run

theorem out0_8_at (x0 : Vec Ideal S32x2560 .i8) (x1 : Vec Ideal S32x1 .f32) (x2 : Vec Ideal S1x1x2560 .f32) (x3 : Vec Ideal S1x1x2560 .f32) (x4 : Vec Ideal S1x2560 .f32) (x5 : Vec Ideal S1x2560 .f32) (cs : ℕ → EReal) (o : ℕ) (ho : o % 16 = 0) (d : Fin 2560)
    (h : ∀ p : Fin 32, k0_pay15 x0 x1 x2 x3 x4 x5 (ix2 p d) = cs (o + p.val)) (k : Fin 3) (p : Fin 32) :
    out0_8 x0 x1 x2 x3 x4 x5 (ix3 k p d) = planeRow cs k.val (o + p.val) := by
  have e16 : (o + p.val) % 16 = p.val % 16 := by omega
  unfold out0_8
  obtain rfl | rfl | rfl : k = 0 ∨ k = 1 ∨ k = 2 := by omega
  · show _ = planeRow cs 0 (o + p.val)
    unfold planeRow
    rw [e16]
    have he : (ix3 (0 : Fin 3) p d : S3x32x2560.Idx) = (Rect.unit (s := S3x32x2560) ![0, 0, 0] S1x32x2560.size inb_S3x32x2560_S1x32x2560_0_0_0).emb (ix3 (0 : Fin 1) p d) := by
      funext a
      fin_cases a <;> apply Fin.ext
      · rfl
      · show p.val = 0 + 1 * p.val; omega
      · show d.val = 0 + 1 * d.val; omega
    have hm2 : (ix3 (0 : Fin 3) p d : S3x32x2560.Idx) ∉ (Rect.unit (s := S3x32x2560) ![2, 0, 0] S1x32x2560.size inb_S3x32x2560_S1x32x2560_2_0_0).set := by
      intro hm
      rw [Rect.mem_set_unit] at hm
      have h := (hm 0).1
      change 2 ≤ 0 at h
      omega
    have hm1 : (ix3 (0 : Fin 3) p d : S3x32x2560.Idx) ∉ (Rect.unit (s := S3x32x2560) ![1, 0, 0] S1x32x2560.size inb_S3x32x2560_S1x32x2560_1_0_0).set := by
      intro hm
      rw [Rect.mem_set_unit] at hm
      have h := (hm 0).1
      change 1 ≤ 0 at h
      omega
    rw [View.canon_cons_of_not_mem (⟨Rect.unit (s := S3x32x2560) ![2, 0, 0] S1x32x2560.size inb_S3x32x2560_S1x32x2560_2_0_0, k0_pay1 (k0_pay15 x0 x1 x2 x3 x4 x5) (Scalar.select (Scalar.cmpi .eq 16#32 0#32) 1#32 16#32) k0_pay10 k0_pay11 k0_pay12⟩ : View.Piece (Elt Ideal) S3x32x2560 .bf16) _ hm2, View.canon_cons_of_not_mem (⟨Rect.unit (s := S3x32x2560) ![1, 0, 0] S1x32x2560.size inb_S3x32x2560_S1x32x2560_1_0_0, k0_pay9 (k0_pay15 x0 x1 x2 x3 x4 x5)⟩ : View.Piece (Elt Ideal) S3x32x2560 .bf16) _ hm1, he, View.canon_cons_emb, pay0_8]
    · skip
      by_cases hp : p.val % 16 = 0
      · rw [if_pos hp, if_neg (by omega)]
      · rw [if_neg hp, if_pos (by omega), h]
        congr 1
        dsimp only
        omega
  · show _ = planeRow cs 1 (o + p.val)
    unfold planeRow
    rw [e16]
    have he : (ix3 (1 : Fin 3) p d : S3x32x2560.Idx) = (Rect.unit (s := S3x32x2560) ![1, 0, 0] S1x32x2560.size inb_S3x32x2560_S1x32x2560_1_0_0).emb (ix3 (0 : Fin 1) p d) := by
      funext a
      fin_cases a <;> apply Fin.ext
      · rfl
      · show p.val = 0 + 1 * p.val; omega
      · show d.val = 0 + 1 * d.val; omega
    have hm2 : (ix3 (1 : Fin 3) p d : S3x32x2560.Idx) ∉ (Rect.unit (s := S3x32x2560) ![2, 0, 0] S1x32x2560.size inb_S3x32x2560_S1x32x2560_2_0_0).set := by
      intro hm
      rw [Rect.mem_set_unit] at hm
      have h := (hm 0).1
      change 2 ≤ 1 at h
      omega
    rw [View.canon_cons_of_not_mem (⟨Rect.unit (s := S3x32x2560) ![2, 0, 0] S1x32x2560.size inb_S3x32x2560_S1x32x2560_2_0_0, k0_pay1 (k0_pay15 x0 x1 x2 x3 x4 x5) (Scalar.select (Scalar.cmpi .eq 16#32 0#32) 1#32 16#32) k0_pay10 k0_pay11 k0_pay12⟩ : View.Piece (Elt Ideal) S3x32x2560 .bf16) _ hm2, he, View.canon_cons_emb, pay0_9]
    · skip
      rw [h, if_pos (by omega)]
      congr 1
  · show _ = planeRow cs 2 (o + p.val)
    unfold planeRow
    rw [e16]
    have he : (ix3 (2 : Fin 3) p d : S3x32x2560.Idx) = (Rect.unit (s := S3x32x2560) ![2, 0, 0] S1x32x2560.size inb_S3x32x2560_S1x32x2560_2_0_0).emb (ix3 (0 : Fin 1) p d) := by
      funext a
      fin_cases a <;> apply Fin.ext
      · rfl
      · show p.val = 0 + 1 * p.val; omega
      · show d.val = 0 + 1 * d.val; omega
    rw [he, View.canon_cons_emb, pay0_1]
    · skip
      by_cases hp : p.val % 16 = 15
      · rw [if_pos hp, if_neg (by omega)]
      · rw [if_neg hp, if_pos (by omega), h]
        congr 1
        dsimp only
        omega
variable (V : (c : Dev nD) → (b : Ref sig .tc) → Buf (Elt Ideal) ((c : Thread nD τ).loc b))

variable (c : Dev nD) (act : ℕ → Fin 2560 → EReal)

theorem act_at (hact : ∀ (p : Fin 768) d, normAct (V c main_v0 (ix2 p d)) (V c main_v1 (ix2 p 0)) (V c main_v4 (ix3 ⟨p.val / 384, by omega⟩ 0 d))
      (V c main_v7 (ix3 ⟨p.val / 384, by omega⟩ 0 d)) (V c main_v8 (ix2 0 d)) (V c main_v9 (ix2 0 d)) = act p.val d)
    (t : Fin cfg0.N) (p : Fin 32) (d : Fin 2560) :
    act0 (iblk0 V c 0 t) (iblk0 V c 1 t) (iblk0 V c 2 t) (iblk0 V c 3 t) (iblk0 V c 4 t) (iblk0 V c 5 t) p d = act (32 * t.val + p.val) d := by
  have ht := lt0 t
  have hb : ∀ A : Fin 2 → EReal, A ⟨1 * (t.val / 12) + (0 : Fin 1).val, by show 1 * (t.val / 12) + 0 < 2; omega⟩ = A ⟨(32 * t.val + p.val) / 384, by omega⟩ := fun A => by
    congr 1
    apply Fin.ext
    show 1 * (t.val / 12) + 0 = (32 * t.val + p.val) / 384
    omega
  have h := hact ⟨32 * t.val + p.val, by omega⟩ d
  rw [← h]
  unfold act0 normAct
  rw [blk0_0, blk0_1, blk0_2, blk0_3, blk0_4, blk0_5]
  rw [hb fun b => V c main_v4 (ix3 b 0 d), hb fun b => V c main_v7 (ix3 b 0 d)]

theorem lev_at (hact : ∀ (p : Fin 768) d, normAct (V c main_v0 (ix2 p d)) (V c main_v1 (ix2 p 0)) (V c main_v4 (ix3 ⟨p.val / 384, by omega⟩ 0 d))
      (V c main_v7 (ix3 ⟨p.val / 384, by omega⟩ 0 d)) (V c main_v8 (ix2 0 d)) (V c main_v9 (ix2 0 d)) = act p.val d)
    (t : Fin cfg0.N) (p : Fin 32) :
    lev0 (iblk0 V c 0 t) (iblk0 V c 1 t) (iblk0 V c 2 t) (iblk0 V c 3 t) (iblk0 V c 4 t) (iblk0 V c 5 t) p = rowLevel (act (32 * t.val + p.val)) := by
  unfold lev0
  congr 1
  funext d
  exact act_at V c act hact t p d

theorem split32 (p : Fin 768) : ∃ (t : Fin cfg0.N) (q : Fin 32), p = ⟨32 * t.val + q.val, by have := lt0 t; omega⟩ :=
  ⟨⟨p.val / 32, by rw [show cfg0.N = 24 from N_0]; omega⟩, ⟨p.val % 32, by omega⟩, Fin.ext (by show p.val = 32 * (p.val / 32) + p.val % 32; omega)⟩

theorem final0_6 (hact : ∀ (p : Fin 768) d, normAct (V c main_v0 (ix2 p d)) (V c main_v1 (ix2 p 0)) (V c main_v4 (ix3 ⟨p.val / 384, by omega⟩ 0 d))
      (V c main_v7 (ix3 ⟨p.val / 384, by omega⟩ 0 d)) (V c main_v8 (ix2 0 d)) (V c main_v9 (ix2 0 d)) = act p.val d)
    (p : Fin 768) (d : Fin 2560) : (dat0 V c).arrAt 6 cfg0.N (ix2 p d) = codes act p.val d := by
  obtain ⟨t, q, rfl⟩ := split32 p
  have h := back0_6 V c t (flush0_6 t) q d
  rw [after0_6, out0_6_at, act_at V c act hact, lev_at V c act hact] at h
  exact h

theorem final0_7 (hact : ∀ (p : Fin 768) d, normAct (V c main_v0 (ix2 p d)) (V c main_v1 (ix2 p 0)) (V c main_v4 (ix3 ⟨p.val / 384, by omega⟩ 0 d))
      (V c main_v7 (ix3 ⟨p.val / 384, by omega⟩ 0 d)) (V c main_v8 (ix2 0 d)) (V c main_v9 (ix2 0 d)) = act p.val d)
    (p : Fin 768) : (dat0 V c).arrAt 7 cfg0.N (ix2 p 0) = scales act p.val := by
  obtain ⟨t, q, rfl⟩ := split32 p
  have h := back0_7 V c t (flush0_7 t) q 0
  rw [after0_7, out0_7_at, lev_at V c act hact] at h
  exact h

theorem final0_8 (hact : ∀ (p : Fin 768) d, normAct (V c main_v0 (ix2 p d)) (V c main_v1 (ix2 p 0)) (V c main_v4 (ix3 ⟨p.val / 384, by omega⟩ 0 d))
      (V c main_v7 (ix3 ⟨p.val / 384, by omega⟩ 0 d)) (V c main_v8 (ix2 0 d)) (V c main_v9 (ix2 0 d)) = act p.val d)
    (k : Fin 3) (p : Fin 768) (d : Fin 2560) :
    (dat0 V c).arrAt 8 cfg0.N (ix3 k p d) = planeRow (fun q => deq act q d) k.val p.val := by
  obtain ⟨t, q, rfl⟩ := split32 p
  have h := back0_8 V c t (flush0_8 t) k q d
  rw [after0_8, out0_8_at _ _ _ _ _ _ (fun q => deq act q d) (32 * t.val) (by omega) d (fun q => by
    rw [pay0_15, act_at V c act hact, lev_at V c act hact]; rfl)] at h
  exact h

end Cert.Spec
-- ==== Proof.Value.Blocks1.lean ====
module
public import proofs.«01_k».proof.Proof.Run.Region1
public import Idealize.ShloMosaic.Lib.Pointwise
public import Idealize.ShloMosaic.Lib.Pipeline.ValueKit
@[expose] public section
set_option maxRecDepth 65536

/-!
Pipeline 1: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt1 (t : Fin cfg1.N) : t.val < 24 := lt_of_lt_of_eq t.isLt N_1

theorem idx1_0 : ∀ t : Fin cfg1.N, win1_0.index t = ![t.val, 0] := by decide +kernel

theorem idx1_1 : ∀ t : Fin cfg1.N, win1_1.index t = ![t.val, 0] := by decide +kernel

theorem idx1_2 : ∀ t : Fin cfg1.N, win1_2.index t = ![0, t.val, 0] := by decide +kernel

theorem blk1_0 (c : Dev nD) (t : Fin cfg1.N) (i0 : Fin 32) (i1 : Fin 1280) :
    iblk1 V c 0 t (ix2 i0 i1) = V c main_v11 (ix2 ⟨32 * (t.val) + i0.val, by have := lt1 t; omega⟩ i1) := by
  show V c main_v11 (((cfg1.win 0).blk t).view.emb (ix2 i0 i1)) = _
  congr 1
  have h : win1_0.index t = _ := idx1_0 t
  funext a
  fin_cases a <;> apply Fin.ext
  · show win1_0.index t 0 * 32 + 1 * i0.val = 32 * (t.val) + i0.val
    rw [h]
    show (t.val) * 32 + 1 * i0.val = 32 * (t.val) + i0.val
    omega
  · show win1_0.index t 1 * 1280 + 1 * i1.val = i1.val
    rw [h]
    show (0) * 1280 + 1 * i1.val = i1.val
    omega

theorem blk1_1 (c : Dev nD) (t : Fin cfg1.N) (i0 : Fin 32) (i1 : Fin 1) :
    iblk1 V c 1 t (ix2 i0 i1) = V c main_v12 (ix2 ⟨32 * (t.val) + i0.val, by have := lt1 t; omega⟩ i1) := by
  show V c main_v12 (((cfg1.win 1).blk t).view.emb (ix2 i0 i1)) = _
  congr 1
  have h : win1_1.index t = _ := idx1_1 t
  funext a
  fin_cases a <;> apply Fin.ext
  · show win1_1.index t 0 * 32 + 1 * i0.val = 32 * (t.val) + i0.val
    rw [h]
    show (t.val) * 32 + 1 * i0.val = 32 * (t.val) + i0.val
    omega
  · show win1_1.index t 1 * 1 + 1 * i1.val = i1.val
    rw [h]
    show (0) * 1 + 1 * i1.val = i1.val
    omega

theorem disjoint1_2 (t t' : Fin cfg1.N) (h : (cfg1.win 2).flush t = true) (h' : (cfg1.win 2).flush t' = true) (hne : t ≠ t') :
    Disjoint ((cfg1.win 2).blk t).view.set ((cfg1.win 2).blk t').view.set :=
  (cfg1.win 2).disjoint_blk fun e => hne (by
    have e' : win1_2.index t = win1_2.index t' := e
    rw [idx1_2 t, idx1_2 t'] at e'
    have e1 : t.val = t'.val := congrFun e' 1
    exact Fin.ext (by omega))

end Cert.Spec
-- ==== Proof.Value.Backs1.lean ====
module
public import proofs.«01_k».proof.Proof.Value.Blocks1
@[expose] public section
set_option maxRecDepth 65536

/-!
Pipeline 1: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back1_2 (c : Dev nD) (t : Fin cfg1.N) (hf : (cfg1.win 2).flush t = true) (i0 : Fin 3) (i1 : Fin 32) (i2 : Fin 1280) :
    (dat1 V c).arrAt 2 cfg1.N (ix3 i0 ⟨32 * (t.val) + i1.val, by have := lt1 t; omega⟩ i2) = (dat1 V c).after 2 t (ix3 i0 i1 i2) := by
  have e : ((cfg1.win 2).blk t).view.emb (ix3 i0 i1 i2) = ix3 i0 ⟨32 * (t.val) + i1.val, by have := lt1 t; omega⟩ i2 := by
    have h : win1_2.index t = _ := idx1_2 t
    funext a
    fin_cases a <;> apply Fin.ext
    · show win1_2.index t 0 * 3 + 1 * i0.val = i0.val
      rw [h]
      show (0) * 3 + 1 * i0.val = i0.val
      omega
    · show win1_2.index t 1 * 32 + 1 * i1.val = 32 * (t.val) + i1.val
      rw [h]
      show (t.val) * 32 + 1 * i1.val = 32 * (t.val) + i1.val
      omega
    · show win1_2.index t 2 * 1280 + 1 * i2.val = i2.val
      rw [h]
      show (0) * 1280 + 1 * i2.val = i2.val
      omega
  have h := congrFun ((dat1 V c).read_blk_arrAt_eq_flushed 2 disjoint1_2 cfg1.N t t.isLt hf) (ix3 i0 i1 i2)
  rw [View.read_apply, e] at h
  exact h

end Cert.Spec
-- ==== Proof.Value.Pay1.lean ====
module
public import proofs.«01_k».proof.Proof.Value.Pay0
public import proofs.«01_k».proof.Proof.Value.Backs1
@[expose] public section
set_option maxRecDepth 65536

/-!
What one grid point of the gradient preparation leaves in its output block.
-/
noncomputable section
namespace Cert.Spec
open Idealize.ShloMosaic Idealize.ShloMosaic.TcCoe Cert.KernelIdeal Cert.KernelIdeal.Gen Cert.KernelIdeal.Run

theorem pay1_2 (x0 : Vec Ideal S32x1280 .fp8e5m2) (x1 : Vec Ideal S32x1 .f32) (p : Fin 32) (d : Fin 1280) :
    k1_pay2 x0 x1 (ix2 p d) = x0 (ix2 p d) * x1 (ix2 p 0) := by
  pointwise [k1_pay2]

theorem pay1_1 (v75 : FVec Ideal S32x1280 .f32) (p : Fin 32) (d : Fin 1280) :
    k1_pay1 (F := Ideal) v75 (iota .tc S32x1280 32 [0] iota_S32x1280_d0_w32) (ix3 0 p d)
      = if p.val % 16 = 0 then 0 else v75 (ix2 ⟨(p.val + 32 - 1) % 32, Nat.mod_lt _ (by decide)⟩ d) := by
  rw [← mod16_zero]
  unfold mod16
  pointwise [k1_pay1]

theorem pay1_4 (x0 : Vec Ideal S32x1280 .fp8e5m2) (x1 : Vec Ideal S32x1 .f32) (p : Fin 32) (d : Fin 1280) :
    k1_pay4 x0 x1 (ix3 0 p d) = k1_pay2 x0 x1 (ix2 p d) := by
  unfold k1_pay4
  generalize k1_pay2 (F := Ideal) x0 x1 = X
  pointwise []

theorem pay1_3 (x0 : Vec Ideal S32x1280 .fp8e5m2) (x1 : Vec Ideal S32x1 .f32) (p : Fin 32) (d : Fin 1280) :
    k1_pay3 x0 x1 (ix3 0 p d)
      = if p.val % 16 = 15 then 0 else k1_pay2 x0 x1 (ix2 ⟨(p.val + 32 - 31) % 32, Nat.mod_lt _ (by decide)⟩ d) := by
  unfold k1_pay3
  generalize k1_pay2 (F := Ideal) x0 x1 = X
  rw [← mod16_last]
  unfold mod16
  pointwise []

end Cert.Spec
-- ==== Proof.Value.Final1.lean ====
module
public import proofs.«01_k».proof.Proof.Value.Pay1
public import proofs.«01_k».proof.Proof.Value.Spec
@[expose] public section
set_option maxRecDepth 65536

/-!
The array the gradient preparation leaves.
-/
noncomputable section
namespace Cert.Spec
open Idealize.ShloMosaic Idealize.ShloMosaic.TcCoe Cert.KernelIdeal Cert.KernelIdeal.Gen Cert.KernelIdeal.Run

theorem out1_2_at (x0 : Vec Ideal S32x1280 .fp8e5m2) (x1 : Vec Ideal S32x1 .f32) (cs : ℕ → EReal) (o : ℕ) (ho : o % 16 = 0) (d : Fin 1280)
    (h : ∀ p : Fin 32, k1_pay2 x0 x1 (ix2 p d) = cs (o + p.val)) (k : Fin 3) (p : Fin 32) :
    out1_2 x0 x1 (ix3 k p d) = planeRow cs (2 - k.val) (o + p.val) := by
  have e16 : (o + p.val) % 16 = p.val % 16 := by omega
  unfold out1_2
  obtain rfl | rfl | rfl : k = 0 ∨ k = 1 ∨ k = 2 := by omega
  · show _ = planeRow cs (2 - 0) (o + p.val)
    unfold planeRow
    rw [e16]
    have he : (ix3 (0 : Fin 3) p d : S3x32x1280.Idx) = (Rect.unit (s := S3x32x1280) ![0, 0, 0] S1x32x1280.size inb_S3x32x1280_S1x32x1280_0_0_0).emb (ix3 (0 : Fin 1) p d) := by
      funext a
      fin_cases a <;> apply Fin.ext
      · rfl
      · show p.val = 0 + 1 * p.val; omega
      · show d.val = 0 + 1 * d.val; omega
    have hm2 : (ix3 (0 : Fin 3) p d : S3x32x1280.Idx) ∉ (Rect.unit (s := S3x32x1280) ![2, 0, 0] S1x32x1280.size inb_S3x32x1280_S1x32x1280_2_0_0).set := by
      intro hm
      rw [Rect.mem_set_unit] at hm
      have h := (hm 0).1
      change 2 ≤ 0 at h
      omega
    have hm1 : (ix3 (0 : Fin 3) p d : S3x32x1280.Idx) ∉ (Rect.unit (s := S3x32x1280) ![1, 0, 0] S1x32x1280.size inb_S3x32x1280_S1x32x1280_1_0_0).set := by
      intro hm
      rw [Rect.mem_set_unit] at hm
      have h := (hm 0).1
      change 1 ≤ 0 at h
      omega
    rw [View.canon_cons_of_not_mem (⟨Rect.unit (s := S3x32x1280) ![2, 0, 0] S1x32x1280.size inb_S3x32x1280_S1x32x1280_2_0_0, k1_pay1 (k1_pay2 (View.ld x0 (Rect.unit (s := S32x1280) ![0, 0] S32x1280.size inb_S32x1280_S32x1280_0_0)) (View.ld x1 (Rect.unit (s := S32x1) ![0, 0] S32x1.size inb_S32x1_S32x1_0_0))) (iota .tc S32x1280 32 [0] iota_S32x1280_d0_w32)⟩ : View.Piece (Elt Ideal) S3x32x1280 .bf16) _ hm2, View.canon_cons_of_not_mem (⟨Rect.unit (s := S3x32x1280) ![1, 0, 0] S1x32x1280.size inb_S3x32x1280_S1x32x1280_1_0_0, k1_pay4 (View.ld x0 (Rect.unit (s := S32x1280) ![0, 0] S32x1280.size inb_S32x1280_S32x1280_0_0)) (View.ld x1 (Rect.unit (s := S32x1) ![0, 0] S32x1.size inb_S32x1_S32x1_0_0))⟩ : View.Piece (Elt Ideal) S3x32x1280 .bf16) _ hm1, he, View.canon_cons_emb, View.ld_unit_lit inb_S32x1280_S32x1280_0_0 x0 (by decide), View.ld_unit_lit inb_S32x1_S32x1_0_0 x1 (by decide), pay1_3]
    · skip
      by_cases hp : p.val % 16 = 15
      · rw [if_pos hp, if_neg (by omega)]
      · rw [if_neg hp, if_pos (by omega), h]
        congr 1
        dsimp only
        omega
  · show _ = planeRow cs (2 - 1) (o + p.val)
    unfold planeRow
    rw [e16]
    have he : (ix3 (1 : Fin 3) p d : S3x32x1280.Idx) = (Rect.unit (s := S3x32x1280) ![1, 0, 0] S1x32x1280.size inb_S3x32x1280_S1x32x1280_1_0_0).emb (ix3 (0 : Fin 1) p d) := by
      funext a
      fin_cases a <;> apply Fin.ext
      · rfl
      · show p.val = 0 + 1 * p.val; omega
      · show d.val = 0 + 1 * d.val; omega
    have hm2 : (ix3 (1 : Fin 3) p d : S3x32x1280.Idx) ∉ (Rect.unit (s := S3x32x1280) ![2, 0, 0] S1x32x1280.size inb_S3x32x1280_S1x32x1280_2_0_0).set := by
      intro hm
      rw [Rect.mem_set_unit] at hm
      have h := (hm 0).1
      change 2 ≤ 1 at h
      omega
    rw [View.canon_cons_of_not_mem (⟨Rect.unit (s := S3x32x1280) ![2, 0, 0] S1x32x1280.size inb_S3x32x1280_S1x32x1280_2_0_0, k1_pay1 (k1_pay2 (View.ld x0 (Rect.unit (s := S32x1280) ![0, 0] S32x1280.size inb_S32x1280_S32x1280_0_0)) (View.ld x1 (Rect.unit (s := S32x1) ![0, 0] S32x1.size inb_S32x1_S32x1_0_0))) (iota .tc S32x1280 32 [0] iota_S32x1280_d0_w32)⟩ : View.Piece (Elt Ideal) S3x32x1280 .bf16) _ hm2, he, View.canon_cons_emb, View.ld_unit_lit inb_S32x1280_S32x1280_0_0 x0 (by decide), View.ld_unit_lit inb_S32x1_S32x1_0_0 x1 (by decide), pay1_4]
    · skip
      rw [h, if_pos (by omega)]
      congr 1
  · show _ = planeRow cs (2 - 2) (o + p.val)
    unfold planeRow
    rw [e16]
    have he : (ix3 (2 : Fin 3) p d : S3x32x1280.Idx) = (Rect.unit (s := S3x32x1280) ![2, 0, 0] S1x32x1280.size inb_S3x32x1280_S1x32x1280_2_0_0).emb (ix3 (0 : Fin 1) p d) := by
      funext a
      fin_cases a <;> apply Fin.ext
      · rfl
      · show p.val = 0 + 1 * p.val; omega
      · show d.val = 0 + 1 * d.val; omega
    rw [he, View.canon_cons_emb, View.ld_unit_lit inb_S32x1280_S32x1280_0_0 x0 (by decide), View.ld_unit_lit inb_S32x1_S32x1_0_0 x1 (by decide), pay1_1]
    · skip
      by_cases hp : p.val % 16 = 0
      · rw [if_pos hp, if_neg (by omega)]
      · rw [if_neg hp, if_pos (by omega), h]
        congr 1
        dsimp only
        omega
variable (V : (c : Dev nD) → (b : Ref sig .tc) → Buf (Elt Ideal) ((c : Thread nD τ).loc b))

variable (c : Dev nD)

theorem final1_2 (A11 : ℕ → Fin 1280 → EReal) (A12 : ℕ → EReal) (h11 : ∀ (p : Fin 768) d, V c main_v11 (ix2 p d) = A11 p.val d)
    (h12 : ∀ p : Fin 768, V c main_v12 (ix2 p 0) = A12 p.val) (k : Fin 3) (p : Fin 768) (d : Fin 1280) :
    (dat1 V c).arrAt 2 cfg1.N (ix3 k p d) = planeRow (fun q => A11 q d * A12 q) (2 - k.val) p.val := by
  obtain ⟨t, q, rfl⟩ : ∃ (t : Fin cfg1.N) (q : Fin 32), p = ⟨32 * t.val + q.val, by have := lt1 t; omega⟩ :=
    ⟨⟨p.val / 32, by rw [show cfg1.N = 24 from N_1]; omega⟩, ⟨p.val % 32, by omega⟩, Fin.ext (by show p.val = 32 * (p.val / 32) + p.val % 32; omega)⟩
  have h := back1_2 V c t (flush1_2 t) k q d
  have ht := lt1 t
  rw [after1_2, out1_2_at _ _ (fun q => A11 q d * A12 q) (32 * t.val) (by omega) d (fun q => by
    rw [pay1_2, blk1_0, blk1_1]
    exact congrArg₂ (· * ·) (h11 ⟨32 * t.val + q.val, by omega⟩ d) (h12 ⟨32 * t.val + q.val, by omega⟩))] at h
  exact h

end Cert.Spec
-- ==== Proof.Value.Blocks3.lean ====
module
public import proofs.«01_k».proof.Proof.Run.Region3
public import Idealize.ShloMosaic.Lib.Pointwise
public import Idealize.ShloMosaic.Lib.Pipeline.ValueKit
@[expose] public section
set_option maxRecDepth 65536

/-!
Pipeline 3: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt3 (t : Fin cfg3.N) : t.val < 6 := lt_of_lt_of_eq t.isLt N_3

theorem idx3_0 : ∀ t : Fin cfg3.N, win3_0.index t = ![t.val, 0] := by decide +kernel

theorem idx3_1 : ∀ t : Fin cfg3.N, win3_1.index t = ![t.val, 0] := by decide +kernel

theorem idx3_2 : ∀ t : Fin cfg3.N, win3_2.index t = ![t.val, 0] := by decide +kernel

theorem idx3_3 : ∀ t : Fin cfg3.N, win3_3.index t = ![0, t.val] := by decide +kernel

theorem blk3_0 (c : Dev nD) (t : Fin cfg3.N) (i0 : Fin 128) (i1 : Fin 1280) :
    iblk3 V c 0 t (ix2 i0 i1) = V c main_v28 (ix2 ⟨128 * (t.val) + i0.val, by have := lt3 t; omega⟩ i1) := by
  show V c main_v28 (((cfg3.win 0).blk t).view.emb (ix2 i0 i1)) = _
  congr 1
  have h : win3_0.index t = _ := idx3_0 t
  funext a
  fin_cases a <;> apply Fin.ext
  · show win3_0.index t 0 * 128 + 1 * i0.val = 128 * (t.val) + i0.val
    rw [h]
    show (t.val) * 128 + 1 * i0.val = 128 * (t.val) + i0.val
    omega
  · show win3_0.index t 1 * 1280 + 1 * i1.val = i1.val
    rw [h]
    show (0) * 1280 + 1 * i1.val = i1.val
    omega

theorem disjoint3_1 (t t' : Fin cfg3.N) (h : (cfg3.win 1).flush t = true) (h' : (cfg3.win 1).flush t' = true) (hne : t ≠ t') :
    Disjoint ((cfg3.win 1).blk t).view.set ((cfg3.win 1).blk t').view.set :=
  (cfg3.win 1).disjoint_blk fun e => hne (by
    have e' : win3_1.index t = win3_1.index t' := e
    rw [idx3_1 t, idx3_1 t'] at e'
    have e0 : t.val = t'.val := congrFun e' 0
    exact Fin.ext (by omega))

theorem disjoint3_2 (t t' : Fin cfg3.N) (h : (cfg3.win 2).flush t = true) (h' : (cfg3.win 2).flush t' = true) (hne : t ≠ t') :
    Disjoint ((cfg3.win 2).blk t).view.set ((cfg3.win 2).blk t').view.set :=
  (cfg3.win 2).disjoint_blk fun e => hne (by
    have e' : win3_2.index t = win3_2.index t' := e
    rw [idx3_2 t, idx3_2 t'] at e'
    have e0 : t.val = t'.val := congrFun e' 0
    exact Fin.ext (by omega))

theorem disjoint3_3 (t t' : Fin cfg3.N) (h : (cfg3.win 3).flush t = true) (h' : (cfg3.win 3).flush t' = true) (hne : t ≠ t') :
    Disjoint ((cfg3.win 3).blk t).view.set ((cfg3.win 3).blk t').view.set :=
  (cfg3.win 3).disjoint_blk fun e => hne (by
    have e' : win3_3.index t = win3_3.index t' := e
    rw [idx3_3 t, idx3_3 t'] at e'
    have e1 : t.val = t'.val := congrFun e' 1
    exact Fin.ext (by omega))

end Cert.Spec
-- ==== Proof.Value.Backs3.lean ====
module
public import proofs.«01_k».proof.Proof.Value.Blocks3
@[expose] public section
set_option maxRecDepth 65536

/-!
Pipeline 3: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back3_1 (c : Dev nD) (t : Fin cfg3.N) (hf : (cfg3.win 1).flush t = true) (i0 : Fin 128) (i1 : Fin 1280) :
    (dat3 V c).arrAt 1 cfg3.N (ix2 ⟨128 * (t.val) + i0.val, by have := lt3 t; omega⟩ i1) = (dat3 V c).after 1 t (ix2 i0 i1) := by
  have e : ((cfg3.win 1).blk t).view.emb (ix2 i0 i1) = ix2 ⟨128 * (t.val) + i0.val, by have := lt3 t; omega⟩ i1 := by
    have h : win3_1.index t = _ := idx3_1 t
    funext a
    fin_cases a <;> apply Fin.ext
    · show win3_1.index t 0 * 128 + 1 * i0.val = 128 * (t.val) + i0.val
      rw [h]
      show (t.val) * 128 + 1 * i0.val = 128 * (t.val) + i0.val
      omega
    · show win3_1.index t 1 * 1280 + 1 * i1.val = i1.val
      rw [h]
      show (0) * 1280 + 1 * i1.val = i1.val
      omega
  have h := congrFun ((dat3 V c).read_blk_arrAt_eq_flushed 1 disjoint3_1 cfg3.N t t.isLt hf) (ix2 i0 i1)
  rw [View.read_apply, e] at h
  exact h

theorem back3_2 (c : Dev nD) (t : Fin cfg3.N) (hf : (cfg3.win 2).flush t = true) (i0 : Fin 128) (i1 : Fin 1) :
    (dat3 V c).arrAt 2 cfg3.N (ix2 ⟨128 * (t.val) + i0.val, by have := lt3 t; omega⟩ i1) = (dat3 V c).after 2 t (ix2 i0 i1) := by
  have e : ((cfg3.win 2).blk t).view.emb (ix2 i0 i1) = ix2 ⟨128 * (t.val) + i0.val, by have := lt3 t; omega⟩ i1 := by
    have h : win3_2.index t = _ := idx3_2 t
    funext a
    fin_cases a <;> apply Fin.ext
    · show win3_2.index t 0 * 128 + 1 * i0.val = 128 * (t.val) + i0.val
      rw [h]
      show (t.val) * 128 + 1 * i0.val = 128 * (t.val) + i0.val
      omega
    · show win3_2.index t 1 * 1 + 1 * i1.val = i1.val
      rw [h]
      show (0) * 1 + 1 * i1.val = i1.val
      omega
  have h := congrFun ((dat3 V c).read_blk_arrAt_eq_flushed 2 disjoint3_2 cfg3.N t t.isLt hf) (ix2 i0 i1)
  rw [View.read_apply, e] at h
  exact h

theorem back3_3 (c : Dev nD) (t : Fin cfg3.N) (hf : (cfg3.win 3).flush t = true) (i0 : Fin 1280) (i1 : Fin 128) :
    (dat3 V c).arrAt 3 cfg3.N (ix2 i0 ⟨128 * (t.val) + i1.val, by have := lt3 t; omega⟩) = (dat3 V c).after 3 t (ix2 i0 i1) := by
  have e : ((cfg3.win 3).blk t).view.emb (ix2 i0 i1) = ix2 i0 ⟨128 * (t.val) + i1.val, by have := lt3 t; omega⟩ := by
    have h : win3_3.index t = _ := idx3_3 t
    funext a
    fin_cases a <;> apply Fin.ext
    · show win3_3.index t 0 * 1280 + 1 * i0.val = i0.val
      rw [h]
      show (0) * 1280 + 1 * i0.val = i0.val
      omega
    · show win3_3.index t 1 * 128 + 1 * i1.val = 128 * (t.val) + i1.val
      rw [h]
      show (t.val) * 128 + 1 * i1.val = 128 * (t.val) + i1.val
      omega
  have h := congrFun ((dat3 V c).read_blk_arrAt_eq_flushed 3 disjoint3_3 cfg3.N t t.isLt hf) (ix2 i0 i1)
  rw [View.read_apply, e] at h
  exact h

end Cert.Spec
-- ==== Proof.Value.Pay3.lean ====
module
public import proofs.«01_k».proof.Proof.Value.Quant
public import proofs.«01_k».proof.Proof.Value.Backs3
@[expose] public section
set_option maxRecDepth 65536

/-!
What one grid point of the second quantiser leaves in its output blocks.
-/
noncomputable section
namespace Cert.Spec
open Idealize.ShloMosaic Idealize.ShloMosaic.TcCoe Cert.KernelIdeal Cert.KernelIdeal.Gen Cert.KernelIdeal.Run

/-- The kernel's exponent of a count. -/
def kExpo (c : BitVec 32) : BitVec 32 := Scalar.select (IntOp.cmpi CmpIPredicate.eq c 0#32) (0#32) (IntOp.subi c 126#32)

/-- A row's level. -/
def lev3 (x0 : Vec Ideal S128x1280 .f32) (p : Fin 128) : EReal := rowLevel fun d : Fin 1280 => x0 (ix2 p d)

theorem pay3_4 (x0 : Vec Ideal S128x1280 .f32) (p : Fin 128) : k3_pay4 x0 (ix2 p 0) = kExpo (kCount (lev3 x0 p)) := by
  unfold lev3 kExpo kCount rowLevel
  pointwise [k3_pay4, k3_pay3]

theorem pay3_5 (x0 : Vec Ideal S128x1280 .f32) (p : Fin 128) (d : Fin 1280) :
    k3_pay5 x0 (ix2 p d) = codeOf (x0 (ix2 p d)) (lev3 x0 p) := by
  rw [← kCode_eq]
  have h := pay3_4 x0 p
  unfold kInv
  unfold kExpo at h
  rw [← h]
  unfold k3_pay5
  generalize k3_pay4 (F := Ideal) x0 = Y
  pointwise [k3_pay3]

theorem pay3_1 (c : IVec S128x1 32) (p : Fin 128) :
    k3_pay1 (F := Ideal) c k3_pay6 (ix2 p 0) = Ideal.ofBits FTy.f32 (IntOp.shli ArithUnit.vector (IntOp.addi (c (ix2 p 0)) 127#32) 23#32) := by
  pointwise [k3_pay1, k3_pay6]

theorem pay3_2 (c : IVec S128x1 32) (X : FVec Ideal S128x1280 .fp8e4m3) (p : Fin 128) (d : Fin 1280) :
    k3_pay2 (F := Ideal) c X (ix2 d p) = X (ix2 p d) * Ideal.ofBits FTy.f32 (IntOp.shli ArithUnit.vector (IntOp.addi (c (ix2 p 0)) 127#32) 23#32) := by
  pointwise [k3_pay2]

theorem out3_1_at (x0 : Vec Ideal S128x1280 .f32) (p : Fin 128) (d : Fin 1280) :
    out3_1 x0 (ix2 p d) = codeOf (x0 (ix2 p d)) (lev3 x0 p) := by
  unfold out3_1
  rw [View.canon_cons_unit_lit inb_S128x1280_S128x1280_0_0 _ _ (by decide), View.ld_unit_lit inb_S128x1280_S128x1280_0_0 x0 (by decide), pay3_5]

theorem pay3_scale (x0 : Vec Ideal S128x1280 .f32) (p : Fin 128) :
    Ideal.ofBits FTy.f32 (IntOp.shli ArithUnit.vector (IntOp.addi (k3_pay7 x0 (ix2 p 0)) 127#32) 23#32) = scaleOf (lev3 x0 p) := by
  rw [← kScale_eq]
  unfold k3_pay7
  rw [View.ld_unit_lit inb_S128x1280_S128x1280_0_0 x0 (by decide), pay3_4]
  rfl

theorem out3_2_at (x0 : Vec Ideal S128x1280 .f32) (p : Fin 128) : out3_2 x0 (ix2 p 0) = scaleOf (lev3 x0 p) := by
  unfold out3_2
  rw [View.canon_cons_unit_lit inb_S128x1_S128x1_0_0 _ _ (by decide), pay3_1, pay3_scale]

theorem out3_3_at (x0 : Vec Ideal S128x1280 .f32) (p : Fin 128) (d : Fin 1280) :
    out3_3 x0 (ix2 d p) = codeOf (x0 (ix2 p d)) (lev3 x0 p) * scaleOf (lev3 x0 p) := by
  unfold out3_3
  rw [View.canon_cons_unit_lit inb_S1280x128_S1280x128_0_0 _ _ (by decide), pay3_2, View.ld_unit_lit inb_S128x1280_S128x1280_0_0 x0 (by decide), pay3_5, pay3_scale]

end Cert.Spec
-- ==== Proof.Value.Final3.lean ====
module
public import proofs.«01_k».proof.Proof.Value.Pay3
public import proofs.«01_k».proof.Proof.Value.Spec
@[expose] public section
set_option maxRecDepth 65536

/-!
The three arrays the second quantiser leaves.
-/
noncomputable section
namespace Cert.Spec
open Idealize.ShloMosaic Idealize.ShloMosaic.TcCoe Cert.KernelIdeal Cert.KernelIdeal.Gen Cert.KernelIdeal.Run
variable (V : (c : Dev nD) → (b : Ref sig .tc) → Buf (Elt Ideal) ((c : Thread nD τ).loc b))

variable (c : Dev nD) (f : ℕ → Fin 1280 → EReal)

theorem split128 (p : Fin 768) : ∃ (t : Fin cfg3.N) (q : Fin 128), p = ⟨128 * t.val + q.val, by have := lt3 t; omega⟩ :=
  ⟨⟨p.val / 128, by rw [show cfg3.N = 6 from N_3]; omega⟩, ⟨p.val % 128, by omega⟩, Fin.ext (by show p.val = 128 * (p.val / 128) + p.val % 128; omega)⟩

theorem f_at (h : ∀ (p : Fin 768) d, V c main_v28 (ix2 p d) = f p.val d) (t : Fin cfg3.N) (p : Fin 128) (d : Fin 1280) :
    iblk3 V c 0 t (ix2 p d) = f (128 * t.val + p.val) d := by
  rw [blk3_0, h]

theorem lev3_at (h : ∀ (p : Fin 768) d, V c main_v28 (ix2 p d) = f p.val d) (t : Fin cfg3.N) (p : Fin 128) :
    lev3 (iblk3 V c 0 t) p = rowLevel (f (128 * t.val + p.val)) := by
  unfold lev3
  congr 1
  funext d
  exact f_at V c f h t p d

theorem final3_1 (hf : ∀ (p : Fin 768) d, V c main_v28 (ix2 p d) = f p.val d) (p : Fin 768) (d : Fin 1280) :
    (dat3 V c).arrAt 1 cfg3.N (ix2 p d) = codes f p.val d := by
  obtain ⟨t, q, rfl⟩ := split128 p
  have h := back3_1 V c t (flush3_1 t) q d
  rw [after3_1, out3_1_at, f_at V c f hf, lev3_at V c f hf] at h
  exact h

theorem final3_2 (hf : ∀ (p : Fin 768) d, V c main_v28 (ix2 p d) = f p.val d) (p : Fin 768) :
    (dat3 V c).arrAt 2 cfg3.N (ix2 p 0) = scales f p.val := by
  obtain ⟨t, q, rfl⟩ := split128 p
  have h := back3_2 V c t (flush3_2 t) q 0
  rw [after3_2, out3_2_at, lev3_at V c f hf] at h
  exact h

theorem final3_3 (hf : ∀ (p : Fin 768) d, V c main_v28 (ix2 p d) = f p.val d) (p : Fin 768) (d : Fin 1280) :
    (dat3 V c).arrAt 3 cfg3.N (ix2 d p) = deq f p.val d := by
  obtain ⟨t, q, rfl⟩ := split128 p
  have h := back3_3 V c t (flush3_3 t) d q
  rw [after3_3, out3_3_at, f_at V c f hf, lev3_at V c f hf] at h
  exact h

end Cert.Spec
-- ==== Proof.Value.Blocks5.lean ====
module
public import proofs.«01_k».proof.Proof.Run.Region5
public import Idealize.ShloMosaic.Lib.Pointwise
public import Idealize.ShloMosaic.Lib.Pipeline.ValueKit
@[expose] public section
set_option maxRecDepth 65536

/-!
Pipeline 5: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt5 (t : Fin cfg5.N) : t.val < 45 := lt_of_lt_of_eq t.isLt N_5

theorem idx5_0 : ∀ t : Fin cfg5.N, win5_0.index t = ![0, 0] := by decide +kernel

theorem idx5_1 : ∀ t : Fin cfg5.N, win5_1.index t = ![t.val / 5 % 3, 0, 0, t.val % 5] := by decide +kernel

theorem idx5_2 : ∀ t : Fin cfg5.N, win5_2.index t = ![t.val / 5, 0, t.val % 5] := by decide +kernel

theorem blk5_0 (c : Dev nD) (t : Fin cfg5.N) (i0 : Fin 1280) (i1 : Fin 768) :
    iblk5 V c 0 t (ix2 i0 i1) = V c main_v29_2 (ix2 i0 i1) := by
  show V c main_v29_2 (((cfg5.win 0).blk t).view.emb (ix2 i0 i1)) = _
  congr 1
  have h : win5_0.index t = _ := idx5_0 t
  funext a
  fin_cases a <;> apply Fin.ext
  · show win5_0.index t 0 * 1280 + 1 * i0.val = i0.val
    rw [h]
    show (0) * 1280 + 1 * i0.val = i0.val
    omega
  · show win5_0.index t 1 * 768 + 1 * i1.val = i1.val
    rw [h]
    show (0) * 768 + 1 * i1.val = i1.val
    omega

theorem blk5_1 (c : Dev nD) (t : Fin cfg5.N) (i0 : Fin 1) (i1 : Fin 2) (i2 : Fin 416) (i3 : Fin 256) :
    iblk5 V c 1 t (ix4 i0 i1 i2 i3) = V c main_v15 (ix4 ⟨1 * (t.val / 5 % 3) + i0.val, by have := lt5 t; omega⟩ i1 i2 ⟨256 * (t.val % 5) + i3.val, by have := lt5 t; omega⟩) := by
  show V c main_v15 (((cfg5.win 1).blk t).view.emb (ix4 i0 i1 i2 i3)) = _
  congr 1
  have h : win5_1.index t = _ := idx5_1 t
  funext a
  fin_cases a <;> apply Fin.ext
  · show win5_1.index t 0 * 1 + 1 * i0.val = 1 * (t.val / 5 % 3) + i0.val
    rw [h]
    show (t.val / 5 % 3) * 1 + 1 * i0.val = 1 * (t.val / 5 % 3) + i0.val
    omega
  · show win5_1.index t 1 * 2 + 1 * i1.val = i1.val
    rw [h]
    show (0) * 2 + 1 * i1.val = i1.val
    omega
  · show win5_1.index t 2 * 416 + 1 * i2.val = i2.val
    rw [h]
    show (0) * 416 + 1 * i2.val = i2.val
    omega
  · show win5_1.index t 3 * 256 + 1 * i3.val = 256 * (t.val % 5) + i3.val
    rw [h]
    show (t.val % 5) * 256 + 1 * i3.val = 256 * (t.val % 5) + i3.val
    omega

theorem disjoint5_2 (t t' : Fin cfg5.N) (h : (cfg5.win 2).flush t = true) (h' : (cfg5.win 2).flush t' = true) (hne : t ≠ t') :
    Disjoint ((cfg5.win 2).blk t).view.set ((cfg5.win 2).blk t').view.set :=
  (cfg5.win 2).disjoint_blk fun e => hne (by
    have e' : win5_2.index t = win5_2.index t' := e
    rw [idx5_2 t, idx5_2 t'] at e'
    have e0 : t.val / 5 = t'.val / 5 := congrFun e' 0
    have e2 : t.val % 5 = t'.val % 5 := congrFun e' 2
    exact Fin.ext (by omega))

end Cert.Spec
-- ==== Proof.Value.Backs5.lean ====
module
public import proofs.«01_k».proof.Proof.Value.Blocks5
@[expose] public section
set_option maxRecDepth 65536

/-!
Pipeline 5: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back5_2 (c : Dev nD) (t : Fin cfg5.N) (hf : (cfg5.win 2).flush t = true) (i0 : Fin 1) (i1 : Fin 1280) (i2 : Fin 256) :
    (dat5 V c).arrAt 2 cfg5.N (ix3 ⟨1 * (t.val / 5) + i0.val, by have := lt5 t; omega⟩ i1 ⟨256 * (t.val % 5) + i2.val, by have := lt5 t; omega⟩) = (dat5 V c).after 2 t (ix3 i0 i1 i2) := by
  have e : ((cfg5.win 2).blk t).view.emb (ix3 i0 i1 i2) = ix3 ⟨1 * (t.val / 5) + i0.val, by have := lt5 t; omega⟩ i1 ⟨256 * (t.val % 5) + i2.val, by have := lt5 t; omega⟩ := by
    have h : win5_2.index t = _ := idx5_2 t
    funext a
    fin_cases a <;> apply Fin.ext
    · show win5_2.index t 0 * 1 + 1 * i0.val = 1 * (t.val / 5) + i0.val
      rw [h]
      show (t.val / 5) * 1 + 1 * i0.val = 1 * (t.val / 5) + i0.val
      omega
    · show win5_2.index t 1 * 1280 + 1 * i1.val = i1.val
      rw [h]
      show (0) * 1280 + 1 * i1.val = i1.val
      omega
    · show win5_2.index t 2 * 256 + 1 * i2.val = 256 * (t.val % 5) + i2.val
      rw [h]
      show (t.val % 5) * 256 + 1 * i2.val = 256 * (t.val % 5) + i2.val
      omega
  have h := congrFun ((dat5 V c).read_blk_arrAt_eq_flushed 2 disjoint5_2 cfg5.N t t.isLt hf) (ix3 i0 i1 i2)
  rw [View.read_apply, e] at h
  exact h

end Cert.Spec
-- ==== Proof.Value.Pay5.lean ====
module
public import proofs.«01_k».proof.Proof.Value.Quant
public import proofs.«01_k».proof.Proof.Value.Backs5
@[expose] public section
set_option maxRecDepth 65536

/-!
What one grid point of the weight gradient leaves in its output block.
-/
noncomputable section
namespace Cert.Spec
open Idealize.ShloMosaic Idealize.ShloMosaic.TcCoe Cert.KernelIdeal Cert.KernelIdeal.Gen Cert.KernelIdeal.Run

theorem pay5_1 (v22 v25 : Vec Ideal S1x1x384x256 .bf16) (v28 : Vec Ideal S1280x768 .bf16) (r : Fin 1280) (n : Fin 256) :
    k5_pay1 v22 v25 v28 (ix3 0 r n) = ∑ p : Fin 768, v28 (ix2 r p) * if h : p.val < 384 then v22 (ix4 0 0 ⟨p.val, h⟩ n) else v25 (ix4 0 0 ⟨p.val - 384, by omega⟩ n) := by
  pointwise [k5_pay1]

theorem off5_1 : ∀ t : Fin cfg5.N, k5_off1 (grid5.coords t) = ![0, 0, 32 - 16 * (t.val / 15), 0] := by decide +kernel

theorem off5_2 : ∀ t : Fin cfg5.N, k5_off2 (grid5.coords t) = ![0, 1, 32 - 16 * (t.val / 15), 0] := by decide +kernel

end Cert.Spec
-- ==== Proof.Value.Final5.lean ====
module
public import proofs.«01_k».proof.Proof.Value.Pay5
public import proofs.«01_k».proof.Proof.Value.Spec
@[expose] public section
set_option maxRecDepth 65536

/-!
The array the weight gradient leaves.
-/
noncomputable section
namespace Cert.Spec
open Idealize.ShloMosaic Idealize.ShloMosaic.TcCoe Cert.KernelIdeal Cert.KernelIdeal.Gen Cert.KernelIdeal.Run
variable (V : (c : Dev nD) → (b : Ref sig .tc) → Buf (Elt Ideal) ((c : Thread nD τ).loc b))

theorem cat5 (x0 : Vec Ideal S1x2x416x256 .bf16) (x1 : Vec Ideal S1280x768 .bf16) (t : Fin cfg5.N) (ht : t.val < 45) (r : Fin 1280) (n : Fin 256) :
    k5_pay1 (View.ld x0 (Rect.unit (s := S1x2x416x256) (k5_off1 (grid5.coords t)) S1x1x384x256.size (k5_off1_inb (grid5.coords t))))
      (View.ld x0 (Rect.unit (s := S1x2x416x256) (k5_off2 (grid5.coords t)) S1x1x384x256.size (k5_off2_inb (grid5.coords t)))) x1 (ix3 0 r n)
      = ∑ p : Fin 768, x1 (ix2 r p) * x0 (ix4 0 ⟨p.val / 384, by omega⟩ ⟨p.val % 384 + (32 - 16 * (t.val / 15)), by omega⟩ n) := by
  rw [pay5_1]
  refine Finset.sum_congr rfl fun p _ => congrArg (_ * ·) ?_
  split
  · refine congrArg x0 (funext fun a => Fin.ext ?_)
    fin_cases a
    · show k5_off1 (grid5.coords t) 0 + 1 * 0 = 0
      rw [off5_1]; rfl
    · show k5_off1 (grid5.coords t) 1 + 1 * 0 = p.val / 384
      rw [off5_1]; show 0 = _; omega
    · show k5_off1 (grid5.coords t) 2 + 1 * p.val = p.val % 384 + (32 - 16 * (t.val / 15))
      rw [off5_1]; show 32 - 16 * (t.val / 15) + 1 * p.val = _; omega
    · show k5_off1 (grid5.coords t) 3 + 1 * n.val = n.val
      rw [off5_1]; show 0 + 1 * n.val = _; omega
  · refine congrArg x0 (funext fun a => Fin.ext ?_)
    fin_cases a
    · show k5_off2 (grid5.coords t) 0 + 1 * 0 = 0
      rw [off5_2]; rfl
    · show k5_off2 (grid5.coords t) 1 + 1 * 0 = p.val / 384
      rw [off5_2]; show 1 + 1 * 0 = _; omega
    · show k5_off2 (grid5.coords t) 2 + 1 * (p.val - 384) = p.val % 384 + (32 - 16 * (t.val / 15))
      rw [off5_2]; show 32 - 16 * (t.val / 15) + 1 * (p.val - 384) = _; omega
    · show k5_off2 (grid5.coords t) 3 + 1 * n.val = n.val
      rw [off5_2]; show 0 + 1 * n.val = _; omega

-- run
theorem whole5_emb (inb : ∀ a, (![0, 0, 0] : Fin 3 → ℕ) a + S1x1280x256.size a ≤ S1x1280x256.size a) (y : S1x1280x256.Idx) :
    (Rect.unit (s := S1x1280x256) ![0, 0, 0] S1x1280x256.size inb).emb y = y := by
  funext a
  apply Fin.ext
  fin_cases a
  · show 0 + 1 * (y 0).val = (y 0).val; omega
  · show 0 + 1 * (y 1).val = (y 1).val; omega
  · show 0 + 1 * (y 2).val = (y 2).val; omega

theorem out5_A_eq (c : Dev nD) (i : grid5.Coords) (arg2 : Memref sig .tc .vmem S1280x768 .bf16) (harg2 : arg2.IsWhole) (arg3 : Memref sig .tc .vmem S1x2x416x256 .bf16) (harg3 : arg3.IsWhole) (arg4 : Memref sig .tc .vmem S1x1280x256 .f32) (harg4 : arg4.IsWhole)
    (x0 : Vec Ideal S1280x768 .bf16) (x1 : Vec Ideal S1x2x416x256 .bf16) (y : S1x1280x256.Idx) :
    out5_A_2 c i arg2 harg2 arg3 harg3 arg4 harg4 x0 x1 y
      = k5_pay1 (View.ld x1 (Rect.unit (s := S1x2x416x256) (k5_off1 i) S1x1x384x256.size (k5_off1_inb i)))
          (View.ld x1 (Rect.unit (s := S1x2x416x256) (k5_off2 i) S1x1x384x256.size (k5_off2_inb i)))
          (View.ld x0 (Rect.unit (s := S1280x768) ![0, 0] S1280x768.size inb_S1280x768_S1280x768_0_0)) y := by
  have hL : (kernelRun5_A c i arg2 harg2 arg3 harg3 arg4 harg4 x0 x1).1 = [⟨Rect.unit (s := S1x1280x256) ![0, 0, 0] S1x1280x256.size inb_S1x1280x256_S1x1280x256_0_0_0,
      k5_pay1 (arg3.view.readAt (Elt Ideal) (Rect.unit (s := S1x2x416x256) (k5_off1 i) S1x1x384x256.size (k5_off1_inb i)).toLoadRect (harg3.unread x1))
        (arg3.view.readAt (Elt Ideal) (Rect.unit (s := S1x2x416x256) (k5_off2 i) S1x1x384x256.size (k5_off2_inb i)).toLoadRect (harg3.unread x1))
        (arg2.view.readAt (Elt Ideal) (Rect.unit (s := S1280x768) ![0, 0] S1280x768.size inb_S1280x768_S1280x768_0_0).toLoadRect (harg2.unread x0))⟩] := rfl
  unfold out5_A_2
  rw [View.read_writes_junk_eq_canon, hL]
  have hc := View.canon_cons_emb (Val := Elt Ideal) (e := .f32) (Rect.unit (s := S1x1280x256) ![0, 0, 0] S1x1280x256.size inb_S1x1280x256_S1x1280x256_0_0_0)
    (k5_pay1 (arg3.view.readAt (Elt Ideal) (Rect.unit (s := S1x2x416x256) (k5_off1 i) S1x1x384x256.size (k5_off1_inb i)).toLoadRect (harg3.unread x1))
        (arg3.view.readAt (Elt Ideal) (Rect.unit (s := S1x2x416x256) (k5_off2 i) S1x1x384x256.size (k5_off2_inb i)).toLoadRect (harg3.unread x1))
        (arg2.view.readAt (Elt Ideal) (Rect.unit (s := S1280x768) ![0, 0] S1280x768.size inb_S1280x768_S1280x768_0_0).toLoadRect (harg2.unread x0))) [] y
  rw [whole5_emb] at hc
  have e2 : ∀ rect : Rect S1280x768, arg2.view.readAt (Elt Ideal) rect.toLoadRect (harg2.unread x0) = View.ld x0 rect := fun rect => by
    funext z
    exact congrFun (harg2.read_unread x0) (rect.emb z)
  have e3 : ∀ rect : Rect S1x2x416x256, arg3.view.readAt (Elt Ideal) rect.toLoadRect (harg3.unread x1) = View.ld x1 rect := fun rect => by
    funext z
    exact congrFun (harg3.read_unread x1) (rect.emb z)
  rw [hc, e3, e3, e2]

variable (V : (c : Dev nD) → (b : Ref sig .tc) → Buf (Elt Ideal) ((c : Thread nD τ).loc b))

theorem outs5_at (c : Dev nD) (A29 : Fin 1280 → ℕ → EReal) (A15 : Fin 3 → Fin 2 → ℕ → Fin 1280 → EReal)
    (h29 : ∀ r (p : Fin 768), V c main_v29_2 (ix2 r p) = A29 r p.val)
    (h15 : ∀ k b (q : Fin 416) e, V c main_v15 (ix4 k b q e) = A15 k b q.val e) (t : Fin cfg5.N) (r : Fin 1280) (n : Fin 256) :
    outsAt5 V c t (ix3 0 r n) = ∑ p : Fin 768, A29 r p.val * A15 ⟨1 * (t.val / 5 % 3) + 0, by omega⟩ ⟨p.val / 384, by omega⟩
          (p.val % 384 + (32 - 16 * (t.val / 15))) ⟨256 * (t.val % 5) + n.val, by omega⟩ := by
  unfold outsAt5
  rw [out5_A_eq, View.ld_unit_lit inb_S1280x768_S1280x768_0_0 _ (by decide), cat5 _ _ _ (lt5 _)]
  refine Finset.sum_congr rfl fun p _ => ?_
  rw [blk5_0, h29, blk5_1, h15]
  rfl

theorem final5_2 (c : Dev nD) (A29 : Fin 1280 → ℕ → EReal) (A15 : Fin 3 → Fin 2 → ℕ → Fin 1280 → EReal)
    (h29 : ∀ r (p : Fin 768), V c main_v29_2 (ix2 r p) = A29 r p.val)
    (h15 : ∀ k b (q : Fin 416) e, V c main_v15 (ix4 k b q e) = A15 k b q.val e) (k : Fin 9) (r : Fin 1280) (j : Fin 5) (n : Fin 256) :
    (dat5 V c).arrAt 2 cfg5.N (ix3 k r ⟨256 * j.val + n.val, by omega⟩)
      = ∑ p : Fin 768, A29 r p.val * A15 ⟨k.val % 3, Nat.mod_lt _ (by decide)⟩ ⟨p.val / 384, by omega⟩
          (p.val % 384 + (32 - 16 * (k.val / 3))) ⟨256 * j.val + n.val, by omega⟩ := by
  have hN : 5 * k.val + j.val < cfg5.N := by rw [show cfg5.N = 45 from N_5]; omega
  have h := back5_2 V c ⟨5 * k.val + j.val, hN⟩ (flush5_2 _) 0 r n
  rw [after5_2] at h
  refine Eq.trans ?_ (h.trans ((outs5_at V c A29 A15 h29 h15 ⟨5 * k.val + j.val, hN⟩ r n).trans ?_))
  · refine congrArg _ (congrArg₂ (fun a b => ix3 a r b) (Fin.ext ?_) (Fin.ext ?_))
    · show k.val = 1 * ((5 * k.val + j.val) / 5) + 0; omega
    · show 256 * j.val + n.val = 256 * ((5 * k.val + j.val) % 5) + n.val; omega
  · refine Finset.sum_congr rfl fun p _ => ?_
    refine congrArg₂ (· * ·) rfl ?_
    · have e1 : (⟨k.val % 3, Nat.mod_lt _ (by decide)⟩ : Fin 3) = ⟨1 * ((5 * k.val + j.val) / 5 % 3) + 0, by omega⟩ := Fin.ext (by
        show k.val % 3 = 1 * ((5 * k.val + j.val) / 5 % 3) + 0; omega)
      have e2 : p.val % 384 + (32 - 16 * (k.val / 3)) = p.val % 384 + (32 - 16 * ((5 * k.val + j.val) / 15)) := by omega
      have e3 : (⟨256 * j.val + n.val, by omega⟩ : Fin 1280) = ⟨256 * ((5 * k.val + j.val) % 5) + n.val, by omega⟩ := Fin.ext (by
        show 256 * j.val + n.val = 256 * ((5 * k.val + j.val) % 5) + n.val; omega)
      rw [e1, e2, e3]

end Cert.Spec
-- ==== Proof.Value.DaPiece.lean ====
module
public import proofs.«01_k».proof.Proof.Value.Stage
@[expose] public section
set_option maxRecDepth 65536

/-!
One addition of the input gradient's accumulation: 384 accumulator rows plus the product of a window of
the gradient image with one scaled, transposed tap, read at an index.
-/
noncomputable section
namespace Cert.Spec
open Idealize.ShloMosaic Idealize.ShloMosaic.TcCoe Cert.KernelIdeal Cert.KernelIdeal.Gen
variable [Cert.KernelIdeal.Facts]

/-- Row `q` of plane `kx` of batch `b`, zero past the last row. -/
def gRow (x0 : Vec Ideal S3x2x416x256 .bf16) (kx : Fin 3) (b : Fin 2) (q : ℕ) (e : Fin 256) : EReal :=
  if h : q < 416 then x0 (ix4 kx b ⟨q, h⟩ e) else 0

/-- What one addition adds: rows from `src` of the image against tap `t`, scaled. -/
def daAt (x0 : Vec Ideal S3x2x416x256 .bf16) (x1 : Vec Ideal S9x256x256 .fp8e4m3) (x2 : Vec Ideal S1x256 .f32)
    (kx : Fin 3) (t : Fin 9) (b : Fin 2) (o src : ℕ) : SAcc.Idx → EReal := fun y =>
  ∑ e : Fin 256, gRow x0 kx b ((y 0).val - o + src) e * (x1 (ix3 t (y 1) e) * x2 (ix2 0 e))

theorem read_rows (arg2 : Memref sig .tc .vmem S3x2x416x256 .bf16) (harg2 : arg2.IsWhole)
    (x0 : Vec Ideal S3x2x416x256 .bf16) (kx : Fin 3) (b : Fin 2) (src : ℕ) (hs : src ≤ 32)
    (inb : ∀ a, (![kx.val, b.val, src, 0] : Fin 4 → ℕ) a + S1x1x384x256.size a ≤ S3x2x416x256.size a)
    (q : Fin 384) (d : Fin 256) :
    View.readAt (Elt Ideal) arg2.view (Rect.unit (s := S3x2x416x256) ![kx.val, b.val, src, 0] S1x1x384x256.size inb).toLoadRect
      (harg2.unread x0) (ix4 (0 : Fin 1) (0 : Fin 1) q d) = x0 (ix4 kx b ⟨src + q.val, by omega⟩ d) := by
  show arg2.view.read (Elt Ideal) (harg2.unread x0) _ = _
  rw [Memref.IsWhole.read_unread]
  congr 1
  funext a
  fin_cases a <;> apply Fin.ext
  · show kx.val + 1 * 0 = kx.val; omega
  · show b.val + 1 * 0 = b.val; omega
  · show src + 1 * q.val = src + q.val; omega
  · show 0 + 1 * d.val = d.val; omega

theorem read_tapT (arg3 : Memref sig .tc .vmem S9x256x256 .fp8e4m3) (harg3 : arg3.IsWhole)
    (x1 : Vec Ideal S9x256x256 .fp8e4m3) (t : Fin 9) (inb : ∀ a, (![t.val, 0, 0] : Fin 3 → ℕ) a + S1x256x256.size a ≤ S9x256x256.size a)
    (d n : Fin 256) :
    View.readAt (Elt Ideal) arg3.view (Rect.unit (s := S9x256x256) ![t.val, 0, 0] S1x256x256.size inb).toLoadRect
      (harg3.unread x1) (ix3 (0 : Fin 1) d n) = x1 (ix3 t d n) := by
  show arg3.view.read (Elt Ideal) (harg3.unread x1) _ = _
  rw [Memref.IsWhole.read_unread]
  congr 1
  funext a
  fin_cases a <;> apply Fin.ext
  · show t.val + 1 * 0 = t.val; omega
  · show 0 + 1 * d.val = d.val; omega
  · show 0 + 1 * n.val = n.val; omega

theorem read_scales (arg4 : Memref sig .tc .vmem S1x256 .f32) (harg4 : arg4.IsWhole)
    (x2 : Vec Ideal S1x256 .f32) (inb : ∀ a, (![0, 0] : Fin 2 → ℕ) a + S1x256.size a ≤ S1x256.size a) (d : Fin 256) :
    View.readAt (Elt Ideal) arg4.view (Rect.unit (s := S1x256) ![0, 0] S1x256.size inb).toLoadRect
      (harg4.unread x2) (ix2 (0 : Fin 1) d) = x2 (ix2 0 d) := by
  show arg4.view.read (Elt Ideal) (harg4.unread x2) _ = _
  rw [Memref.IsWhole.read_unread]
  congr 1
  funext a
  fin_cases a <;> apply Fin.ext
  · rfl
  · show 0 + 1 * d.val = d.val; omega

/-- The stored vector of one addition. -/
def daVec (A : Vec Ideal S1x1x384x256 .bf16) (W : Vec Ideal S1x256x256 .fp8e4m3) (s : Vec Ideal S1x256 .f32)
    (v : Vec Ideal S384x256 .f32) : FVec Ideal S384x256 .f32 :=
  shapeCast S384x256 (addf v (matmul dot_S384x256_S256x256_S384x256_1_1_0_0_n_n none
    (shapeCast S384x256 A shapeCasts_S1x1x384x256_S384x256 : FVec Ideal S384x256 .bf16)
    (mulf (extf .bf16 (shapeCast S256x256 W shapeCasts_S1x256x256_S256x256 : FVec Ideal S256x256 .fp8e4m3) bitsLt_fp8e4m3_bf16 : FVec Ideal S256x256 .bf16)
      (broadcastTo S256x256 (truncf .bf16 (shapeCast S1x256 s shapeCasts_S1x256_S1x256 : FVec Ideal S1x256 .f32) bitsLt_bf16_f32 : FVec Ideal S1x256 .bf16)
        broadcasts_S1x256_S256x256))
    (constant S384x256 .f32 0x00000000#32)) : FVec Ideal S384x256 .f32) shapeCasts_S384x256_S384x256

theorem daVec_at (A : Vec Ideal S1x1x384x256 .bf16) (W : Vec Ideal S1x256x256 .fp8e4m3) (s : Vec Ideal S1x256 .f32)
    (v : Vec Ideal S384x256 .f32) (i : Fin 384) (j : Fin 256) :
    daVec A W s v (ix2 i j) = v (ix2 i j) + ∑ e : Fin 256, A (ix4 0 0 i e) * (W (ix3 0 j e) * s (ix2 0 e)) := by
  pointwise [daVec]

theorem da384 (arg2 : Memref sig .tc .vmem S3x2x416x256 .bf16) (harg2 : arg2.IsWhole)
    (arg3 : Memref sig .tc .vmem S9x256x256 .fp8e4m3) (harg3 : arg3.IsWhole)
    (arg4 : Memref sig .tc .vmem S1x256 .f32) (harg4 : arg4.IsWhole)
    (x0 : Vec Ideal S3x2x416x256 .bf16) (x1 : Vec Ideal S9x256x256 .fp8e4m3) (x2 : Vec Ideal S1x256 .f32)
    (kx : Fin 3) (t : Fin 9) (b : Fin 2) (src : ℕ) (hs : src ≤ 32)
    (inbA : ∀ a, (![kx.val, b.val, src, 0] : Fin 4 → ℕ) a + S1x1x384x256.size a ≤ S3x2x416x256.size a)
    (inbW : ∀ a, (![t.val, 0, 0] : Fin 3 → ℕ) a + S1x256x256.size a ≤ S9x256x256.size a)
    (inbS : ∀ a, (![0, 0] : Fin 2 → ℕ) a + S1x256.size a ≤ S1x256.size a)
    (o : ℕ) (inb : ∀ a, (![o, 0] : Fin 2 → ℕ) a + S384x256.size a ≤ SAcc.size a)
    (S : SAcc.Idx → EReal) (v : Vec Ideal S384x256 .f32)
    (hv : ∀ x : S384x256.Idx, v x = S ((Rect.unit (s := SAcc) ![o, 0] S384x256.size inb).emb x)) (x : S384x256.Idx) :
    daVec
      (View.readAt (Elt Ideal) arg2.view (Rect.unit (s := S3x2x416x256) ![kx.val, b.val, src, 0] S1x1x384x256.size inbA).toLoadRect
          (harg2.unread x0))
      (View.readAt (Elt Ideal) arg3.view (Rect.unit (s := S9x256x256) ![t.val, 0, 0] S1x256x256.size inbW).toLoadRect (harg3.unread x1))
      (View.readAt (Elt Ideal) arg4.view (Rect.unit (s := S1x256) ![0, 0] S1x256.size inbS).toLoadRect (harg4.unread x2))
      v x
      = S ((Rect.unit (s := SAcc) ![o, 0] S384x256.size inb).emb x)
        + daAt x0 x1 x2 kx t b o src ((Rect.unit (s := SAcc) ![o, 0] S384x256.size inb).emb x) := by
  rw [← hv]
  obtain ⟨i, j, rfl⟩ : ∃ (i : Fin 384) (j : Fin 256), x = ix2 i j :=
    ⟨x 0, x 1, funext fun a => by fin_cases a <;> rfl⟩
  rw [daVec_at]
  congr 1
  unfold daAt
  have hj : ((Rect.unit (s := SAcc) ![o, 0] S384x256.size inb).emb (ix2 i j)) 1 = j := Fin.ext (by
    show 0 + 1 * j.val = j.val; omega)
  have hi : (((Rect.unit (s := SAcc) ![o, 0] S384x256.size inb).emb (ix2 i j)) 0).val - o + src = src + i.val := by
    show o + 1 * i.val - o + src = src + i.val; omega
  rw [hj, hi]
  refine Finset.sum_congr rfl fun d _ => ?_
  rw [read_rows _ _ _ _ _ _ hs, read_tapT, read_scales, gRow, dif_pos (by omega)]

end Cert.Spec
-- ==== Proof.Value.DaStage.lean ====
module
public import proofs.«01_k».proof.Proof.Value.DaPiece
public import proofs.«01_k».proof.Proof.Value.StageMore
public import proofs.«01_k».proof.Proof.Run.Region4
@[expose] public section
set_option maxRecDepth 65536

/-!
What the input gradient's eighteen additions of one grid point leave in the accumulator, in the first
point of a sweep (over zeros), a middle one and the last one (over what the point before left).
-/
noncomputable section
namespace Cert.Spec
open Idealize.ShloMosaic Idealize.ShloMosaic.TcCoe Cert.KernelIdeal Cert.KernelIdeal.Gen Cert.KernelIdeal.Run

/-- The accumulator after the first `k` additions. -/
def daAcc (x0 : Vec Ideal S3x2x416x256 .bf16) (x1 : Vec Ideal S9x256x256 .fp8e4m3) (x2 : Vec Ideal S1x256 .f32)
    (S : SAcc.Idx → EReal) : ℕ → SAcc.Idx → EReal
  | 0 => S
  | k + 1 => addRows (daAcc x0 x1 x2 S k) (k % 2 * 384) 384
      (daAt x0 x1 x2 ⟨k / 2 % 3, Nat.mod_lt _ (by decide)⟩ ⟨k / 2 % 9, Nat.mod_lt _ (by decide)⟩
        ⟨k % 2, Nat.mod_lt _ (by decide)⟩ (k % 2 * 384) (32 - k / 2 / 3 * 16))

/-- A further addition to 384 rows from `o`, all of them covered before. -/
theorem Stage.tapT {sig : RefSig} {κ : Kind} {sp : Space} {v : View sig κ sp SAcc .f32} {f : v.ty.Contents (Elt Ideal)}
    {L : List (View.Piece (Elt Ideal) SAcc .f32)} {S : SAcc.Idx → EReal} {U U' : ℕ → Prop} (h : Stage v f L S U)
    {arg2 : Memref Cert.KernelIdeal.sig .tc .vmem S3x2x416x256 .bf16} {harg2 : arg2.IsWhole}
    {arg3 : Memref Cert.KernelIdeal.sig .tc .vmem S9x256x256 .fp8e4m3} {harg3 : arg3.IsWhole}
    {arg4 : Memref Cert.KernelIdeal.sig .tc .vmem S1x256 .f32} {harg4 : arg4.IsWhole}
    {x0 : Vec Ideal S3x2x416x256 .bf16} {x1 : Vec Ideal S9x256x256 .fp8e4m3} {x2 : Vec Ideal S1x256 .f32}
    (kx : Fin 3) (t : Fin 9) (b : Fin 2) (src : ℕ)
    {inbA : ∀ a, (![kx.val, b.val, src, 0] : Fin 4 → ℕ) a + S1x1x384x256.size a ≤ S3x2x416x256.size a}
    {inbW : ∀ a, (![t.val, 0, 0] : Fin 3 → ℕ) a + S1x256x256.size a ≤ S9x256x256.size a}
    {inbS : ∀ a, (![0, 0] : Fin 2 → ℕ) a + S1x256.size a ≤ S1x256.size a}
    (o : ℕ) {inb : ∀ a, (![o, 0] : Fin 2 → ℕ) a + S384x256.size a ≤ SAcc.size a} (hs : src ≤ 32 := by decide)
    (hU : ∀ r, o ≤ r → r < o + 384 → U r := by intro r h1 h2; omega)
    (hm : ∀ r, r < 768 → U' r → U r ∨ (o ≤ r ∧ r < o + 384) := by intro r h1 h2; omega) :
    Stage v f (⟨Rect.unit (s := SAcc) ![o, 0] S384x256.size inb, daVec
        (View.readAt (Elt Ideal) arg2.view (Rect.unit (s := S3x2x416x256) ![kx.val, b.val, src, 0] S1x1x384x256.size inbA).toLoadRect (harg2.unread x0))
        (View.readAt (Elt Ideal) arg3.view (Rect.unit (s := S9x256x256) ![t.val, 0, 0] S1x256x256.size inbW).toLoadRect (harg3.unread x1))
        (View.readAt (Elt Ideal) arg4.view (Rect.unit (s := S1x256) ![0, 0] S1x256.size inbS).toLoadRect (harg4.unread x2))
        (v.readCov L (Rect.unit (s := SAcc) ![o, 0] S384x256.size inb).toLoadRect)⟩ :: L)
      (addRows S o 384 (daAt x0 x1 x2 kx t b o src)) U' :=
  (h.step o 384 S384x256.size rfl rfl inb _ _ (da384 arg2 harg2 arg3 harg3 arg4 harg4 x0 x1 x2 kx t b src hs inbA inbW inbS o inb _ _
    (h.cov o S384x256.size inb hU))).mono hm

set_option maxHeartbeats 1000000 in
/-- Case A. -/
theorem stage4_A {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : cond4_0 i} {hc1 : ¬cond4_1 i}
    {x0 : Vec Ideal S3x2x416x256 .bf16} {x1 : Vec Ideal S9x256x256 .fp8e4m3} {x2 : Vec Ideal S1x256 .f32} {f : arg6.view.ty.Contents (Elt Ideal)} :
    Stage arg6.view f ((kernelRun4_A c i arg2 harg2 arg3 harg3 arg4 harg4 arg5 harg5 arg6 harg6 hc0 hc1 x0 x1 x2).2.1) (daAcc x0 x1 x2 (fun _ => 0) 18) (fun r => r < 768) := by
  have s0 : Stage arg6.view f kernelRun4_A.sl.HS0_1 (daAcc x0 x1 x2 (fun _ => 0) 0) (fun r => r < 768) := by
    have hz : ∀ y : SAcc.Idx, k4_pay4 (F := Ideal) y = 0 := by
      intro y
      obtain ⟨i, j, rfl⟩ : ∃ (i : Fin 768) (j : Fin 256), y = ix2 i j := ⟨y 0, y 1, funext fun a => by fin_cases a <;> rfl⟩
      pointwise [k4_pay4]
    have h : Stage arg6.view f kernelRun4_A.sl.HS0_1 (k4_pay4 (F := Ideal)) (fun r => r < 768) :=
      (Stage.nil arg6.view f (fun y => arg6.view.read (Elt Ideal) f y) fun _ => rfl).whole
        inb_S768x256_S768x256_0_0 (k4_pay4 (F := Ideal))
    exact h.congr (S' := fun _ => 0) hz
  have s1 : Stage arg6.view f (kernelRun4_A.sl.HS0_2 c arg2 harg2 arg3 harg3 arg4 harg4 arg6 x0 x1 x2)
      (daAcc x0 x1 x2 (fun _ => 0) 1) (fun r => r < 768) :=
    s0.tapT 0 0 0 32 0
  have s2 : Stage arg6.view f (kernelRun4_A.sl.HS0_3 c arg2 harg2 arg3 harg3 arg4 harg4 arg6 x0 x1 x2)
      (daAcc x0 x1 x2 (fun _ => 0) 2) (fun r => r < 768) :=
    s1.tapT 0 0 1 32 384
  have s3 : Stage arg6.view f (kernelRun4_A.sl.HS0_4 c arg2 harg2 arg3 harg3 arg4 harg4 arg6 x0 x1 x2)
      (daAcc x0 x1 x2 (fun _ => 0) 3) (fun r => r < 768) :=
    s2.tapT 1 1 0 32 0
  have s4 : Stage arg6.view f (kernelRun4_A.sl.HS0_5 c arg2 harg2 arg3 harg3 arg4 harg4 arg6 x0 x1 x2)
      (daAcc x0 x1 x2 (fun _ => 0) 4) (fun r => r < 768) :=
    s3.tapT 1 1 1 32 384
  have s5 : Stage arg6.view f (kernelRun4_A.sl.HS0_6 c arg2 harg2 arg3 harg3 arg4 harg4 arg6 x0 x1 x2)
      (daAcc x0 x1 x2 (fun _ => 0) 5) (fun r => r < 768) :=
    s4.tapT 2 2 0 32 0
  have s6 : Stage arg6.view f (kernelRun4_A.sl.HS0_7 c arg2 harg2 arg3 harg3 arg4 harg4 arg6 x0 x1 x2)
      (daAcc x0 x1 x2 (fun _ => 0) 6) (fun r => r < 768) :=
    s5.tapT 2 2 1 32 384
  have s7 : Stage arg6.view f (kernelRun4_A.sl.HS0_8 c arg2 harg2 arg3 harg3 arg4 harg4 arg6 x0 x1 x2)
      (daAcc x0 x1 x2 (fun _ => 0) 7) (fun r => r < 768) :=
    s6.tapT 0 3 0 16 0
  have s8 : Stage arg6.view f (kernelRun4_A.sl.HS0_9 c arg2 harg2 arg3 harg3 arg4 harg4 arg6 x0 x1 x2)
      (daAcc x0 x1 x2 (fun _ => 0) 8) (fun r => r < 768) :=
    s7.tapT 0 3 1 16 384
  have s9 : Stage arg6.view f (kernelRun4_A.sl.HS0_10 c arg2 harg2 arg3 harg3 arg4 harg4 arg6 x0 x1 x2)
      (daAcc x0 x1 x2 (fun _ => 0) 9) (fun r => r < 768) :=
    s8.tapT 1 4 0 16 0
  have s10 : Stage arg6.view f (kernelRun4_A.sl.HS0_11 c arg2 harg2 arg3 harg3 arg4 harg4 arg6 x0 x1 x2)
      (daAcc x0 x1 x2 (fun _ => 0) 10) (fun r => r < 768) :=
    s9.tapT 1 4 1 16 384
  have s11 : Stage arg6.view f (kernelRun4_A.sl.HS0_12 c arg2 harg2 arg3 harg3 arg4 harg4 arg6 x0 x1 x2)
      (daAcc x0 x1 x2 (fun _ => 0) 11) (fun r => r < 768) :=
    s10.tapT 2 5 0 16 0
  have s12 : Stage arg6.view f (kernelRun4_A.sl.HS0_13 c arg2 harg2 arg3 harg3 arg4 harg4 arg6 x0 x1 x2)
      (daAcc x0 x1 x2 (fun _ => 0) 12) (fun r => r < 768) :=
    s11.tapT 2 5 1 16 384
  have s13 : Stage arg6.view f (kernelRun4_A.sl.HS0_14 c arg2 harg2 arg3 harg3 arg4 harg4 arg6 x0 x1 x2)
      (daAcc x0 x1 x2 (fun _ => 0) 13) (fun r => r < 768) :=
    s12.tapT 0 6 0 0 0
  have s14 : Stage arg6.view f (kernelRun4_A.sl.HS0_15 c arg2 harg2 arg3 harg3 arg4 harg4 arg6 x0 x1 x2)
      (daAcc x0 x1 x2 (fun _ => 0) 14) (fun r => r < 768) :=
    s13.tapT 0 6 1 0 384
  have s15 : Stage arg6.view f (kernelRun4_A.sl.HS0_16 c arg2 harg2 arg3 harg3 arg4 harg4 arg6 x0 x1 x2)
      (daAcc x0 x1 x2 (fun _ => 0) 15) (fun r => r < 768) :=
    s14.tapT 1 7 0 0 0
  have s16 : Stage arg6.view f (kernelRun4_A.sl.HS0_17 c arg2 harg2 arg3 harg3 arg4 harg4 arg6 x0 x1 x2)
      (daAcc x0 x1 x2 (fun _ => 0) 16) (fun r => r < 768) :=
    s15.tapT 1 7 1 0 384
  have s17 : Stage arg6.view f (kernelRun4_A.sl.HS0_18 c arg2 harg2 arg3 harg3 arg4 harg4 arg6 x0 x1 x2)
      (daAcc x0 x1 x2 (fun _ => 0) 17) (fun r => r < 768) :=
    s16.tapT 2 8 0 0 0
  have s18 : Stage arg6.view f ((kernelRun4_A c i arg2 harg2 arg3 harg3 arg4 harg4 arg5 harg5 arg6 harg6 hc0 hc1 x0 x1 x2).2.1)
      (daAcc x0 x1 x2 (fun _ => 0) 18) (fun r => r < 768) :=
    s17.tapT 2 8 1 0 384
  exact s18

set_option maxHeartbeats 1000000 in
/-- The first seventeen additions over what the point before left: the same in cases B and C. -/
theorem stage4_mid {c : Dev nD} {arg2 : Memref sig .tc .vmem S3x2x416x256 .bf16} {harg2 : arg2.IsWhole} {arg3 : Memref sig .tc .vmem S9x256x256 .fp8e4m3} {harg3 : arg3.IsWhole}
    {arg4 : Memref sig .tc .vmem S1x256 .f32} {harg4 : arg4.IsWhole} {arg6 : Memref sig .tc .vmem S768x256 .f32} {harg6 : arg6.IsWhole}
    {x0 : Vec Ideal S3x2x416x256 .bf16} {x1 : Vec Ideal S9x256x256 .fp8e4m3} {x2 : Vec Ideal S1x256 .f32} {xs0 : Vec Ideal S768x256 .f32} :
    Stage arg6.view (harg6.unread xs0) (kernelRun4_B.sl.HS0_17 c arg2 harg2 arg3 harg3 arg4 harg4 arg6 harg6 x0 x1 x2 xs0)
      (daAcc x0 x1 x2 xs0 17) (fun r => r < 768) := by
  have s0 : Stage arg6.view (harg6.unread xs0) [] (daAcc x0 x1 x2 xs0 0) (fun _ => False) :=
    Stage.nil _ _ _ fun y => by rw [Memref.IsWhole.read_unread]; rfl
  have s1 : Stage arg6.view (harg6.unread xs0) ([⟨Rect.unit (s := SAcc) ![0, 0] S384x256.size inb_S768x256_S384x256_0_0, k4_pay6 (View.readAt (Elt Ideal) arg3.view (Rect.unit (s := S9x256x256) ![0, 0, 0] S1x256x256.size inb_S9x256x256_S1x256x256_0_0_0).toLoadRect (harg3.unread x1)) (View.readAt (Elt Ideal) arg4.view (Rect.unit (s := S1x256) ![0, 0] S1x256.size inb_S1x256_S1x256_0_0).toLoadRect (harg4.unread x2)) (View.readAt (Elt Ideal) arg2.view (Rect.unit (s := S3x2x416x256) ![0, 0, 32, 0] S1x1x384x256.size inb_S3x2x416x256_S1x1x384x256_0_0_32_0).toLoadRect (harg2.unread x0)) (View.readAt (Elt Ideal) arg6.view (Rect.unit (s := SAcc) ![0, 0] S384x256.size inb_S768x256_S384x256_0_0).toLoadRect (harg6.unread xs0))⟩])
      (daAcc x0 x1 x2 xs0 1) (fun r => r < 384) :=
    (s0.step 0 384 S384x256.size rfl rfl inb_S768x256_S384x256_0_0 (daAt x0 x1 x2 0 0 0 0 32) _
      (da384 arg2 harg2 arg3 harg3 arg4 harg4 x0 x1 x2 0 0 0 32 (by decide) inb_S3x2x416x256_S1x1x384x256_0_0_32_0
        inb_S9x256x256_S1x256x256_0_0_0 inb_S1x256_S1x256_0_0 0 inb_S768x256_S384x256_0_0 _ _ (s0.all 0 S384x256.size inb_S768x256_S384x256_0_0))).mono
      (by intro r hr h; unfold addCov; omega)
  have s2 : Stage arg6.view (harg6.unread xs0) (kernelRun4_B.sl.HS0_2 c arg2 harg2 arg3 harg3 arg4 harg4 arg6 harg6 x0 x1 x2 xs0)
      (daAcc x0 x1 x2 xs0 2) (fun r => r < 768) :=
    (s1.step 384 384 S384x256.size rfl rfl inb_S768x256_S384x256_384_0 (daAt x0 x1 x2 0 0 1 384 32) _
      (da384 arg2 harg2 arg3 harg3 arg4 harg4 x0 x1 x2 0 0 1 32 (by decide) inb_S3x2x416x256_S1x1x384x256_0_1_32_0
        inb_S9x256x256_S1x256x256_0_0_0 inb_S1x256_S1x256_0_0 384 inb_S768x256_S384x256_384_0 _ _ (fun x => (s0.all 384 S384x256.size inb_S768x256_S384x256_384_0 x).trans (by
        show _ = addRows _ _ _ _ _
        rw [addRows, if_neg (by show ¬(0 * 384 ≤ 384 + 1 * (x 0).val ∧ 384 + 1 * (x 0).val < 0 * 384 + 384); omega), add_zero])))).mono
      (by intro r hr h; unfold addCov; omega)
  have s3 : Stage arg6.view (harg6.unread xs0) (kernelRun4_B.sl.HS0_3 c arg2 harg2 arg3 harg3 arg4 harg4 arg6 harg6 x0 x1 x2 xs0)
      (daAcc x0 x1 x2 xs0 3) (fun r => r < 768) :=
    s2.tapT 1 1 0 32 0
  have s4 : Stage arg6.view (harg6.unread xs0) (kernelRun4_B.sl.HS0_4 c arg2 harg2 arg3 harg3 arg4 harg4 arg6 harg6 x0 x1 x2 xs0)
      (daAcc x0 x1 x2 xs0 4) (fun r => r < 768) :=
    s3.tapT 1 1 1 32 384
  have s5 : Stage arg6.view (harg6.unread xs0) (kernelRun4_B.sl.HS0_5 c arg2 harg2 arg3 harg3 arg4 harg4 arg6 harg6 x0 x1 x2 xs0)
      (daAcc x0 x1 x2 xs0 5) (fun r => r < 768) :=
    s4.tapT 2 2 0 32 0
  have s6 : Stage arg6.view (harg6.unread xs0) (kernelRun4_B.sl.HS0_6 c arg2 harg2 arg3 harg3 arg4 harg4 arg6 harg6 x0 x1 x2 xs0)
      (daAcc x0 x1 x2 xs0 6) (fun r => r < 768) :=
    s5.tapT 2 2 1 32 384
  have s7 : Stage arg6.view (harg6.unread xs0) (kernelRun4_B.sl.HS0_7 c arg2 harg2 arg3 harg3 arg4 harg4 arg6 harg6 x0 x1 x2 xs0)
      (daAcc x0 x1 x2 xs0 7) (fun r => r < 768) :=
    s6.tapT 0 3 0 16 0
  have s8 : Stage arg6.view (harg6.unread xs0) (kernelRun4_B.sl.HS0_8 c arg2 harg2 arg3 harg3 arg4 harg4 arg6 harg6 x0 x1 x2 xs0)
      (daAcc x0 x1 x2 xs0 8) (fun r => r < 768) :=
    s7.tapT 0 3 1 16 384
  have s9 : Stage arg6.view (harg6.unread xs0) (kernelRun4_B.sl.HS0_9 c arg2 harg2 arg3 harg3 arg4 harg4 arg6 harg6 x0 x1 x2 xs0)
      (daAcc x0 x1 x2 xs0 9) (fun r => r < 768) :=
    s8.tapT 1 4 0 16 0
  have s10 : Stage arg6.view (harg6.unread xs0) (kernelRun4_B.sl.HS0_10 c arg2 harg2 arg3 harg3 arg4 harg4 arg6 harg6 x0 x1 x2 xs0)
      (daAcc x0 x1 x2 xs0 10) (fun r => r < 768) :=
    s9.tapT 1 4 1 16 384
  have s11 : Stage arg6.view (harg6.unread xs0) (kernelRun4_B.sl.HS0_11 c arg2 harg2 arg3 harg3 arg4 harg4 arg6 harg6 x0 x1 x2 xs0)
      (daAcc x0 x1 x2 xs0 11) (fun r => r < 768) :=
    s10.tapT 2 5 0 16 0
  have s12 : Stage arg6.view (harg6.unread xs0) (kernelRun4_B.sl.HS0_12 c arg2 harg2 arg3 harg3 arg4 harg4 arg6 harg6 x0 x1 x2 xs0)
      (daAcc x0 x1 x2 xs0 12) (fun r => r < 768) :=
    s11.tapT 2 5 1 16 384
  have s13 : Stage arg6.view (harg6.unread xs0) (kernelRun4_B.sl.HS0_13 c arg2 harg2 arg3 harg3 arg4 harg4 arg6 harg6 x0 x1 x2 xs0)
      (daAcc x0 x1 x2 xs0 13) (fun r => r < 768) :=
    s12.tapT 0 6 0 0 0
  have s14 : Stage arg6.view (harg6.unread xs0) (kernelRun4_B.sl.HS0_14 c arg2 harg2 arg3 harg3 arg4 harg4 arg6 harg6 x0 x1 x2 xs0)
      (daAcc x0 x1 x2 xs0 14) (fun r => r < 768) :=
    s13.tapT 0 6 1 0 384
  have s15 : Stage arg6.view (harg6.unread xs0) (kernelRun4_B.sl.HS0_15 c arg2 harg2 arg3 harg3 arg4 harg4 arg6 harg6 x0 x1 x2 xs0)
      (daAcc x0 x1 x2 xs0 15) (fun r => r < 768) :=
    s14.tapT 1 7 0 0 0
  have s16 : Stage arg6.view (harg6.unread xs0) (kernelRun4_B.sl.HS0_16 c arg2 harg2 arg3 harg3 arg4 harg4 arg6 harg6 x0 x1 x2 xs0)
      (daAcc x0 x1 x2 xs0 16) (fun r => r < 768) :=
    s15.tapT 1 7 1 0 384
  have s17 : Stage arg6.view (harg6.unread xs0) (kernelRun4_B.sl.HS0_17 c arg2 harg2 arg3 harg3 arg4 harg4 arg6 harg6 x0 x1 x2 xs0)
      (daAcc x0 x1 x2 xs0 17) (fun r => r < 768) :=
    s16.tapT 2 8 0 0 0
  exact s17

set_option maxHeartbeats 1000000 in
/-- Case B. -/
theorem stage4_B {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : ¬cond4_0 i} {hc1 : ¬cond4_1 i}
    {x0 : Vec Ideal S3x2x416x256 .bf16} {x1 : Vec Ideal S9x256x256 .fp8e4m3} {x2 : Vec Ideal S1x256 .f32} {xs0 : Vec Ideal S768x256 .f32} :
    Stage arg6.view (harg6.unread xs0) ((kernelRun4_B c i arg2 harg2 arg3 harg3 arg4 harg4 arg5 harg5 arg6 harg6 hc0 hc1 x0 x1 x2 xs0).2.1) (daAcc x0 x1 x2 xs0 18) (fun r => r < 768) := by
  have s17 : Stage arg6.view (harg6.unread xs0) (kernelRun4_B.sl.HS0_17 c arg2 harg2 arg3 harg3 arg4 harg4 arg6 harg6 x0 x1 x2 xs0)
      (daAcc x0 x1 x2 xs0 17) (fun r => r < 768) := stage4_mid
  have s18 : Stage arg6.view (harg6.unread xs0) ((kernelRun4_B c i arg2 harg2 arg3 harg3 arg4 harg4 arg5 harg5 arg6 harg6 hc0 hc1 x0 x1 x2 xs0).2.1)
      (daAcc x0 x1 x2 xs0 18) (fun r => r < 768) :=
    s17.tapT 2 8 1 0 384
  exact s18

set_option maxHeartbeats 1000000 in
/-- Case C. -/
theorem stage4_C {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : ¬cond4_0 i} {hc1 : cond4_1 i}
    {x0 : Vec Ideal S3x2x416x256 .bf16} {x1 : Vec Ideal S9x256x256 .fp8e4m3} {x2 : Vec Ideal S1x256 .f32} {xs0 : Vec Ideal S768x256 .f32} :
    Stage arg6.view (harg6.unread xs0) ((kernelRun4_C c i arg2 harg2 arg3 harg3 arg4 harg4 arg5 harg5 arg6 harg6 hc0 hc1 x0 x1 x2 xs0).2.1) (daAcc x0 x1 x2 xs0 18) (fun r => r < 768) := by
  have s17 : Stage arg6.view (harg6.unread xs0) (kernelRun4_C.sl.HS0_17 c arg2 harg2 arg3 harg3 arg4 harg4 arg6 harg6 x0 x1 x2 xs0)
      (daAcc x0 x1 x2 xs0 17) (fun r => r < 768) := stage4_mid
  have s18 : Stage arg6.view (harg6.unread xs0) ((kernelRun4_C c i arg2 harg2 arg3 harg3 arg4 harg4 arg5 harg5 arg6 harg6 hc0 hc1 x0 x1 x2 xs0).2.1)
      (daAcc x0 x1 x2 xs0 18) (fun r => r < 768) :=
    s17.tapT 2 8 1 0 384
  exact s18

end Cert.Spec
-- ==== Proof.Value.DaSum.lean ====
module
public import proofs.«01_k».proof.Proof.Value.DaStage
@[expose] public section
set_option maxRecDepth 65536

/-!
The eighteen additions of one grid point of the input gradient as one sum over the nine taps.
-/
noncomputable section
namespace Cert.Spec
open Idealize.ShloMosaic Idealize.ShloMosaic.TcCoe Cert.KernelIdeal Cert.KernelIdeal.Gen Cert.KernelIdeal.Run

/-- What tap `t` adds to accumulator row `p`, column `n`. -/
def daTap (x0 : Vec Ideal S3x2x416x256 .bf16) (x1 : Vec Ideal S9x256x256 .fp8e4m3) (x2 : Vec Ideal S1x256 .f32)
    (t : Fin 9) (y : SAcc.Idx) : EReal :=
  ∑ e : Fin 256, gRow x0 ⟨t.val % 3, Nat.mod_lt _ (by decide)⟩ ⟨(y 0).val / 384, by have := (y 0).isLt; show (y 0).val / 384 < 2; change (y 0).val < 768 at this; omega⟩
      ((y 0).val % 384 + (32 - t.val / 3 * 16)) e * (x1 (ix3 t (y 1) e) * x2 (ix2 0 e))

theorem daAt_congr {x0 : Vec Ideal S3x2x416x256 .bf16} {x1 : Vec Ideal S9x256x256 .fp8e4m3} {x2 : Vec Ideal S1x256 .f32}
    {kx kx' : Fin 3} {t t' : Fin 9} {b b' : Fin 2} {q q' : ℕ} {n : Fin 256} (h1 : kx.val = kx'.val) (h2 : t.val = t'.val)
    (h4 : b.val = b'.val) (h3 : q = q') :
    (∑ e : Fin 256, gRow x0 kx b q e * (x1 (ix3 t n e) * x2 (ix2 0 e)))
      = ∑ e : Fin 256, gRow x0 kx' b' q' e * (x1 (ix3 t' n e) * x2 (ix2 0 e)) := by
  obtain rfl := Fin.ext h1
  obtain rfl := Fin.ext h2
  obtain rfl := Fin.ext h4
  rw [h3]

theorem daAcc_pair (x0 : Vec Ideal S3x2x416x256 .bf16) (x1 : Vec Ideal S9x256x256 .fp8e4m3) (x2 : Vec Ideal S1x256 .f32)
    (S : SAcc.Idx → EReal) (t : ℕ) (ht : t < 9) (y : SAcc.Idx) :
    daAcc x0 x1 x2 S (2 * t + 2) y = daAcc x0 x1 x2 S (2 * t) y + daTap x0 x1 x2 ⟨t, ht⟩ y := by
  have hy : (y 0).val < 768 := (y 0).isLt
  show addRows (addRows (daAcc x0 x1 x2 S (2 * t)) _ _ _) _ _ _ y = _
  unfold addRows
  rw [add_assoc]
  congr 1
  unfold daTap daAt
  dsimp only
  have e1 : 2 * t / 2 = t := by omega
  have e2 : (2 * t + 1) / 2 = t := by omega
  have e3 : 2 * t % 2 = 0 := by omega
  have e4 : (2 * t + 1) % 2 = 1 := by omega
  simp only [e1, e2, e3, e4]
  by_cases h : (y 0).val < 384
  · rw [if_pos (by omega), if_neg (by omega), add_zero]
    exact daAt_congr rfl (by show t % 9 = t; omega) (by show 0 = (y 0).val / 384; omega) (by omega)
  · rw [if_neg (by omega), if_pos (by omega), zero_add]
    exact daAt_congr rfl (by show t % 9 = t; omega) (by show 1 = (y 0).val / 384; omega) (by omega)

theorem daAcc_eq (x0 : Vec Ideal S3x2x416x256 .bf16) (x1 : Vec Ideal S9x256x256 .fp8e4m3) (x2 : Vec Ideal S1x256 .f32)
    (S : SAcc.Idx → EReal) (y : SAcc.Idx) :
    daAcc x0 x1 x2 S 18 y = S y + ∑ t : Fin 9, daTap x0 x1 x2 t y := by
  have h := fun t ht => daAcc_pair x0 x1 x2 S t ht y
  rw [h 8 (by decide), h 7 (by decide), h 6 (by decide), h 5 (by decide), h 4 (by decide), h 3 (by decide),
    h 2 (by decide), h 1 (by decide), h 0 (by decide)]
  rw [Fin.sum_univ_succ, Fin.sum_univ_eight]
  simp only [add_assoc]
  rfl

end Cert.Spec
-- ==== Proof.Value.Blocks4.lean ====
module
public import proofs.«01_k».proof.Proof.Run.Region4
public import Idealize.ShloMosaic.Lib.Pointwise
public import Idealize.ShloMosaic.Lib.Pipeline.ValueKit
@[expose] public section
set_option maxRecDepth 65536

/-!
Pipeline 4: which block each window holds at a grid point, an input block's element as an element of its
array, and the disjointness of the output blocks that are written back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem lt4 (t : Fin cfg4.N) : t.val < 25 := lt_of_lt_of_eq t.isLt N_4

theorem idx4_0 : ∀ t : Fin cfg4.N, win4_0.index t = ![0, 0, 0, t.val % 5] := by decide +kernel

theorem idx4_1 : ∀ t : Fin cfg4.N, win4_1.index t = ![0, t.val / 5, t.val % 5] := by decide +kernel

theorem idx4_2 : ∀ t : Fin cfg4.N, win4_2.index t = ![0, t.val % 5] := by decide +kernel

theorem idx4_3 : ∀ t : Fin cfg4.N, win4_3.index t = ![0, t.val / 5] := by decide +kernel

theorem blk4_0 (c : Dev nD) (t : Fin cfg4.N) (i0 : Fin 3) (i1 : Fin 2) (i2 : Fin 416) (i3 : Fin 256) :
    iblk4 V c 0 t (ix4 i0 i1 i2 i3) = V c main_v15 (ix4 i0 i1 i2 ⟨256 * (t.val % 5) + i3.val, by have := lt4 t; omega⟩) := by
  show V c main_v15 (((cfg4.win 0).blk t).view.emb (ix4 i0 i1 i2 i3)) = _
  congr 1
  have h : win4_0.index t = _ := idx4_0 t
  funext a
  fin_cases a <;> apply Fin.ext
  · show win4_0.index t 0 * 3 + 1 * i0.val = i0.val
    rw [h]
    show (0) * 3 + 1 * i0.val = i0.val
    omega
  · show win4_0.index t 1 * 2 + 1 * i1.val = i1.val
    rw [h]
    show (0) * 2 + 1 * i1.val = i1.val
    omega
  · show win4_0.index t 2 * 416 + 1 * i2.val = i2.val
    rw [h]
    show (0) * 416 + 1 * i2.val = i2.val
    omega
  · show win4_0.index t 3 * 256 + 1 * i3.val = 256 * (t.val % 5) + i3.val
    rw [h]
    show (t.val % 5) * 256 + 1 * i3.val = 256 * (t.val % 5) + i3.val
    omega

theorem blk4_1 (c : Dev nD) (t : Fin cfg4.N) (i0 : Fin 9) (i1 : Fin 256) (i2 : Fin 256) :
    iblk4 V c 1 t (ix3 i0 i1 i2) = V c main_v30 (ix3 i0 ⟨256 * (t.val / 5) + i1.val, by have := lt4 t; omega⟩ ⟨256 * (t.val % 5) + i2.val, by have := lt4 t; omega⟩) := by
  show V c main_v30 (((cfg4.win 1).blk t).view.emb (ix3 i0 i1 i2)) = _
  congr 1
  have h : win4_1.index t = _ := idx4_1 t
  funext a
  fin_cases a <;> apply Fin.ext
  · show win4_1.index t 0 * 9 + 1 * i0.val = i0.val
    rw [h]
    show (0) * 9 + 1 * i0.val = i0.val
    omega
  · show win4_1.index t 1 * 256 + 1 * i1.val = 256 * (t.val / 5) + i1.val
    rw [h]
    show (t.val / 5) * 256 + 1 * i1.val = 256 * (t.val / 5) + i1.val
    omega
  · show win4_1.index t 2 * 256 + 1 * i2.val = 256 * (t.val % 5) + i2.val
    rw [h]
    show (t.val % 5) * 256 + 1 * i2.val = 256 * (t.val % 5) + i2.val
    omega

theorem blk4_2 (c : Dev nD) (t : Fin cfg4.N) (i0 : Fin 1) (i1 : Fin 256) :
    iblk4 V c 2 t (ix2 i0 i1) = V c main_v31 (ix2 i0 ⟨256 * (t.val % 5) + i1.val, by have := lt4 t; omega⟩) := by
  show V c main_v31 (((cfg4.win 2).blk t).view.emb (ix2 i0 i1)) = _
  congr 1
  have h : win4_2.index t = _ := idx4_2 t
  funext a
  fin_cases a <;> apply Fin.ext
  · show win4_2.index t 0 * 1 + 1 * i0.val = i0.val
    rw [h]
    show (0) * 1 + 1 * i0.val = i0.val
    omega
  · show win4_2.index t 1 * 256 + 1 * i1.val = 256 * (t.val % 5) + i1.val
    rw [h]
    show (t.val % 5) * 256 + 1 * i1.val = 256 * (t.val % 5) + i1.val
    omega

theorem disjoint4_3 (t t' : Fin cfg4.N) (h : (cfg4.win 3).flush t = true) (h' : (cfg4.win 3).flush t' = true) (hne : t ≠ t') :
    Disjoint ((cfg4.win 3).blk t).view.set ((cfg4.win 3).blk t').view.set :=
  (cfg4.win 3).disjoint_blk fun e => hne (by
    have e' : win4_3.index t = win4_3.index t' := e
    rw [idx4_3 t, idx4_3 t'] at e'
    have e1 : t.val / 5 = t'.val / 5 := congrFun e' 1
    have a := (flush4_3 t).1 h
    have b := (flush4_3 t').1 h'
    exact Fin.ext (by omega))

end Cert.Spec
-- ==== Proof.Value.Backs4.lean ====
module
public import proofs.«01_k».proof.Proof.Value.Blocks4
@[expose] public section
set_option maxRecDepth 65536

/-!
Pipeline 4: an element of an output array is the element its grid point wrote back.
-/
noncomputable section
namespace Cert.Spec
open Idealize.ShloMosaic Idealize.ShloMosaic.TcCoe Cert.KernelIdeal Cert.KernelIdeal.Gen Cert.KernelIdeal.Run

variable (V : (c : Dev nD) → (b : Ref sig .tc) → Buf (Elt Ideal) ((c : Thread nD τ).loc b))

theorem back4_3 (c : Dev nD) (t : Fin cfg4.N) (hf : (cfg4.win 3).flush t = true) (i0 : Fin 768) (i1 : Fin 256) :
    (dat4 V c).arrAt 3 cfg4.N (ix2 i0 ⟨256 * (t.val / 5) + i1.val, by have := lt4 t; omega⟩) = (dat4 V c).after 3 t (ix2 i0 i1) := by
  have e : ((cfg4.win 3).blk t).view.emb (ix2 i0 i1) = ix2 i0 ⟨256 * (t.val / 5) + i1.val, by have := lt4 t; omega⟩ := by
    have h : win4_3.index t = _ := idx4_3 t
    funext a
    fin_cases a <;> apply Fin.ext
    · show win4_3.index t 0 * 768 + 1 * i0.val = i0.val
      rw [h]
      show (0) * 768 + 1 * i0.val = i0.val
      omega
    · show win4_3.index t 1 * 256 + 1 * i1.val = 256 * (t.val / 5) + i1.val
      rw [h]
      show (t.val / 5) * 256 + 1 * i1.val = 256 * (t.val / 5) + i1.val
      omega
  have h := congrFun ((dat4 V c).read_blk_arrAt_eq_flushed 3 disjoint4_3 cfg4.N t t.isLt hf) (ix2 i0 i1)
  rw [View.read_apply, e] at h
  exact h

end Cert.Spec
-- ==== Proof.Value.DaFinal.lean ====
module
public import proofs.«01_k».proof.Proof.Value.DaSum
public import proofs.«01_k».proof.Proof.Value.Backs4
@[expose] public section
set_option maxRecDepth 65536

/-!
What one grid point of the input gradient leaves in the accumulator and, at the end of a sweep, in its
output block; and the sum a whole sweep leaves.
-/
noncomputable section
namespace Cert.Spec
open Idealize.ShloMosaic Idealize.ShloMosaic.TcCoe Cert.KernelIdeal Cert.KernelIdeal.Gen Cert.KernelIdeal.Run

theorem sout4_A_at {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : cond4_0 i} {hc1 : ¬cond4_1 i}
    {x0 : Vec Ideal S3x2x416x256 .bf16} {x1 : Vec Ideal S9x256x256 .fp8e4m3} {x2 : Vec Ideal S1x256 .f32} (y : SAcc.Idx) :
    sout4_A_0 c i arg2 harg2 arg3 harg3 arg4 harg4 arg5 harg5 arg6 harg6 hc0 hc1 x0 x1 x2 y = 0 + ∑ t : Fin 9, daTap x0 x1 x2 t y := by
  have h := (stage4_A (f := arg6.view.junk) (c := c) (i := i) (arg2 := arg2) (harg2 := harg2) (arg3 := arg3) (harg3 := harg3) (arg4 := arg4) (harg4 := harg4) (arg5 := arg5) (harg5 := harg5) (arg6 := arg6) (harg6 := harg6) (hc0 := hc0) (hc1 := hc1) (x0 := x0) (x1 := x1) (x2 := x2)).1 y (y 0).isLt
  unfold sout4_A_0
  rw [View.read_writes_junk_eq_canon, h, daAcc_eq]

theorem sout4_B_at {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : ¬cond4_0 i} {hc1 : ¬cond4_1 i}
    {x0 : Vec Ideal S3x2x416x256 .bf16} {x1 : Vec Ideal S9x256x256 .fp8e4m3} {x2 : Vec Ideal S1x256 .f32} {xs0 : Vec Ideal S768x256 .f32} (y : SAcc.Idx) :
    sout4_B_0 c i arg2 harg2 arg3 harg3 arg4 harg4 arg5 harg5 arg6 harg6 hc0 hc1 x0 x1 x2 xs0 y = xs0 y + ∑ t : Fin 9, daTap x0 x1 x2 t y := by
  have h := (stage4_B (c := c) (i := i) (arg2 := arg2) (harg2 := harg2) (arg3 := arg3) (harg3 := harg3) (arg4 := arg4) (harg4 := harg4) (arg5 := arg5) (harg5 := harg5) (arg6 := arg6) (harg6 := harg6) (hc0 := hc0) (hc1 := hc1) (x0 := x0) (x1 := x1) (x2 := x2) (xs0 := xs0)).1 y (y 0).isLt
  unfold sout4_B_0
  rw [View.read_writes_junk_eq_canon, h, daAcc_eq]

theorem sout4_C_at {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : ¬cond4_0 i} {hc1 : cond4_1 i}
    {x0 : Vec Ideal S3x2x416x256 .bf16} {x1 : Vec Ideal S9x256x256 .fp8e4m3} {x2 : Vec Ideal S1x256 .f32} {xs0 : Vec Ideal S768x256 .f32} (y : SAcc.Idx) :
    sout4_C_0 c i arg2 harg2 arg3 harg3 arg4 harg4 arg5 harg5 arg6 harg6 hc0 hc1 x0 x1 x2 xs0 y = xs0 y + ∑ t : Fin 9, daTap x0 x1 x2 t y := by
  have h := (stage4_C (c := c) (i := i) (arg2 := arg2) (harg2 := harg2) (arg3 := arg3) (harg3 := harg3) (arg4 := arg4) (harg4 := harg4) (arg5 := arg5) (harg5 := harg5) (arg6 := arg6) (harg6 := harg6) (hc0 := hc0) (hc1 := hc1) (x0 := x0) (x1 := x1) (x2 := x2) (xs0 := xs0)).1 y (y 0).isLt
  unfold sout4_C_0
  rw [View.read_writes_junk_eq_canon, h, daAcc_eq]

theorem whole256_emb (inb : ∀ a, (![0, 0] : Fin 2 → ℕ) a + SAcc.size a ≤ SAcc.size a) (y : SAcc.Idx) :
    (Rect.unit (s := SAcc) ![0, 0] SAcc.size inb).emb y = y := by
  funext a
  apply Fin.ext
  fin_cases a
  · show 0 + 1 * (y 0).val = (y 0).val; omega
  · show 0 + 1 * (y 1).val = (y 1).val; omega

set_option maxHeartbeats 1000000 in
theorem out4_C_at {c : Dev nD} {i : grid4.Coords} {arg2 : Memref sig .tc .vmem S3x2x416x256 .bf16} {harg2 : arg2.IsWhole} {arg3 : Memref sig .tc .vmem S9x256x256 .fp8e4m3} {harg3 : arg3.IsWhole} {arg4 : Memref sig .tc .vmem S1x256 .f32} {harg4 : arg4.IsWhole} {arg5 : Memref sig .tc .vmem S768x256 .bf16} {harg5 : arg5.IsWhole} {arg6 : Memref sig .tc .vmem S768x256 .f32} {harg6 : arg6.IsWhole} {hc0 : ¬cond4_0 i} {hc1 : cond4_1 i}
    {x0 : Vec Ideal S3x2x416x256 .bf16} {x1 : Vec Ideal S9x256x256 .fp8e4m3} {x2 : Vec Ideal S1x256 .f32} {xs0 : Vec Ideal S768x256 .f32} (y : SAcc.Idx) :
    out4_C_3 c i arg2 harg2 arg3 harg3 arg4 harg4 arg5 harg5 arg6 harg6 hc0 hc1 x0 x1 x2 xs0 y = sout4_C_0 c i arg2 harg2 arg3 harg3 arg4 harg4 arg5 harg5 arg6 harg6 hc0 hc1 x0 x1 x2 xs0 y := by
  have hst := stage4_C (c := c) (i := i) (arg2 := arg2) (harg2 := harg2) (arg3 := arg3) (harg3 := harg3) (arg4 := arg4) (harg4 := harg4) (arg5 := arg5) (harg5 := harg5) (arg6 := arg6) (harg6 := harg6) (hc0 := hc0) (hc1 := hc1) (x0 := x0) (x1 := x1) (x2 := x2) (xs0 := xs0)
  have hL : (kernelRun4_C c i arg2 harg2 arg3 harg3 arg4 harg4 arg5 harg5 arg6 harg6 hc0 hc1 x0 x1 x2 xs0).1 = [⟨Rect.unit (s := SAcc) ![0, 0] SAcc.size inb_S768x256_S768x256_0_0,
      k4_pay3 (arg6.view.readCov ((kernelRun4_C c i arg2 harg2 arg3 harg3 arg4 harg4 arg5 harg5 arg6 harg6 hc0 hc1 x0 x1 x2 xs0).2.1) (Rect.unit (s := SAcc) ![0, 0] SAcc.size inb_S768x256_S768x256_0_0).toLoadRect)⟩] := rfl
  have hs : sout4_C_0 c i arg2 harg2 arg3 harg3 arg4 harg4 arg5 harg5 arg6 harg6 hc0 hc1 x0 x1 x2 xs0 y = View.canon ((kernelRun4_C c i arg2 harg2 arg3 harg3 arg4 harg4 arg5 harg5 arg6 harg6 hc0 hc1 x0 x1 x2 xs0).2.1) y := by
    unfold sout4_C_0
    rw [View.read_writes_junk_eq_canon]
  have hc := View.canon_cons_emb (Val := Elt Ideal) (e := .bf16) (Rect.unit (s := SAcc) ![0, 0] SAcc.size inb_S768x256_S768x256_0_0)
    (k4_pay3 (arg6.view.readCov ((kernelRun4_C c i arg2 harg2 arg3 harg3 arg4 harg4 arg5 harg5 arg6 harg6 hc0 hc1 x0 x1 x2 xs0).2.1) (Rect.unit (s := SAcc) ![0, 0] SAcc.size inb_S768x256_S768x256_0_0).toLoadRect)) [] y
  have hr := hst.cov 0 SAcc.size inb_S768x256_S768x256_0_0 (by intro r h1 h2; change r < 0 + 768 at h2; omega) y
  rw [whole256_emb] at hc hr
  unfold out4_C_3
  rw [View.read_writes_junk_eq_canon, hL, hs, hst.1 y (y 0).isLt]
  exact hc.trans hr

open Idealize.ShloMosaic.Pipeline (Dat)

variable (V : (c : Dev nD) → (b : Ref sig .tc) → Buf (Elt Ideal) ((c : Thread nD τ).loc b))

theorem da_scratch (c : Dev nD) (t : Fin cfg4.N) (hr : t.val % 5 = 4) (y : SAcc.Idx) :
    (outsAt4 V c t.val t.isLt).2 y = 0 + ∑ s : Fin 5, ∑ k : Fin 9,
      daTap (iblk4 V c 0 ⟨5 * (t.val / 5) + s.val, Pipeline.run_point_lt_of_flush t hr s⟩)
        (iblk4 V c 1 ⟨5 * (t.val / 5) + s.val, Pipeline.run_point_lt_of_flush t hr s⟩)
        (iblk4 V c 2 ⟨5 * (t.val / 5) + s.val, Pipeline.run_point_lt_of_flush t hr s⟩) k y :=
  Pipeline.eq_sum_fin_of_reset_step_apply_of_flush (fun n h => (outsAt4 V c n h).2) 5 (fun _ => 0)
    (fun t y => ∑ k : Fin 9, daTap (iblk4 V c 0 t) (iblk4 V c 1 t) (iblk4 V c 2 t) k y)
    (fun t h y => by
      rw [outsAt4_A V c t h (by omega)]
      dsimp only
      rw [sout4_A_at])
    (fun t h y => by
      by_cases h1 : t.val % 5 = 4
      · rw [outsAt4_C V c t h h1]
        dsimp only
        rw [sout4_C_at]
      · rw [outsAt4_B V c t h h1]
        dsimp only
        rw [sout4_B_at]) t hr y

theorem da_out (c : Dev nD) (t : Fin cfg4.N) (hr : t.val % 5 = 4) (y : SAcc.Idx) :
    (outsAt4 V c t.val t.isLt).1 y = (outsAt4 V c t.val t.isLt).2 y := by
  rw [outsAt4_C V c t (by omega) hr]
  dsimp only
  rw [out4_C_at]

theorem da_final (c : Dev nD) (A15 : Fin 3 → Fin 2 → ℕ → Fin 1280 → EReal) (A30 : Fin 9 → Fin 1280 → Fin 1280 → EReal)
    (A31 : Fin 1280 → EReal) (h15 : ∀ k b (q : Fin 416) e, V c main_v15 (ix4 k b q e) = A15 k b q.val e)
    (h30 : ∀ k n e, V c main_v30 (ix3 k n e) = A30 k n e) (h31 : ∀ e, V c main_v31 (ix2 0 e) = A31 e)
    (p : Fin 768) (j : Fin 5) (n : Fin 256) :
    (dat4 V c).arrAt 3 cfg4.N (ix2 p ⟨256 * j.val + n.val, by omega⟩)
      = 0 + ∑ s : Fin 5, ∑ k : Fin 9, ∑ e : Fin 256,
          A15 ⟨k.val % 3, Nat.mod_lt _ (by decide)⟩ ⟨p.val / 384, by omega⟩ (p.val % 384 + (32 - k.val / 3 * 16)) ⟨256 * s.val + e.val, by omega⟩
            * (A30 k ⟨256 * j.val + n.val, by omega⟩ ⟨256 * s.val + e.val, by omega⟩ * A31 ⟨256 * s.val + e.val, by omega⟩) := by
  have hN : 5 * j.val + 4 < cfg4.N := by rw [show cfg4.N = 25 from N_4]; omega
  have hr : (⟨5 * j.val + 4, hN⟩ : Fin cfg4.N).val % 5 = 4 := by show (5 * j.val + 4) % 5 = 4; omega
  have h := back4_3 V c ⟨5 * j.val + 4, hN⟩ ((flush4_3 _).2 hr) p n
  rw [after4_3, da_out V c _ hr, da_scratch V c _ hr] at h
  refine Eq.trans ?_ (h.trans ?_)
  · refine congrArg _ (congrArg (ix2 p) (Fin.ext ?_))
    show 256 * j.val + n.val = 256 * ((5 * j.val + 4) / 5) + n.val
    omega
  · congr 1
    refine Finset.sum_congr rfl fun s _ => Finset.sum_congr rfl fun k _ => ?_
    have hlt := Pipeline.run_point_lt_of_flush ⟨5 * j.val + 4, hN⟩ hr s
    have hd : 5 * ((5 * j.val + 4) / 5) + s.val = 5 * j.val + s.val := by omega
    have h0 : ∀ (a0 : Fin 3) (a1 : Fin 2) (a2 : Fin 416) (a3 : Fin 256), iblk4 V c 0 ⟨5 * ((5 * j.val + 4) / 5) + s.val, hlt⟩ (ix4 a0 a1 a2 a3)
        = A15 a0 a1 a2.val ⟨256 * s.val + a3.val, by omega⟩ := fun a0 a1 a2 a3 => by
      rw [blk4_0, h15]
      congr 1
      apply Fin.ext
      show 256 * ((5 * ((5 * j.val + 4) / 5) + s.val) % 5) + a3.val = 256 * s.val + a3.val
      omega
    have e1 : ∀ e : Fin 256, iblk4 V c 1 ⟨5 * ((5 * j.val + 4) / 5) + s.val, hlt⟩ (ix3 k n e)
        = A30 k ⟨256 * j.val + n.val, by omega⟩ ⟨256 * s.val + e.val, by omega⟩ := fun e => by
      rw [blk4_1, h30]
      refine congrArg₂ (A30 k) (Fin.ext ?_) (Fin.ext ?_)
      · show 256 * ((5 * ((5 * j.val + 4) / 5) + s.val) / 5) + n.val = 256 * j.val + n.val
        omega
      · show 256 * ((5 * ((5 * j.val + 4) / 5) + s.val) % 5) + e.val = 256 * s.val + e.val
        omega
    have e2 : ∀ e : Fin 256, iblk4 V c 2 ⟨5 * ((5 * j.val + 4) / 5) + s.val, hlt⟩ (ix2 0 e) = A31 ⟨256 * s.val + e.val, by omega⟩ := fun e => by
      rw [blk4_2, h31]
      refine congrArg A31 (Fin.ext ?_)
      show 256 * ((5 * ((5 * j.val + 4) / 5) + s.val) % 5) + e.val = 256 * s.val + e.val
      omega
    unfold daTap
    refine Finset.sum_congr rfl fun e _ => ?_
    refine congrArg₂ (· * ·) ?_ (congrArg₂ (· * ·) (e1 e) (e2 e))
    unfold gRow
    have hq : p.val % 384 + (32 - k.val / 3 * 16) < 416 := by omega
    refine (dif_pos hq).trans ?_
    exact h0 _ _ ⟨_, hq⟩ e

end Cert.Spec
-- ==== Proof.Value.KernelVals.lean ====
module
public import proofs.«01_k».proof.Proof.Value.Args
public import proofs.«01_k».proof.Proof.Value.Hosts
public import proofs.«01_k».proof.Proof.Value.Final0
public import proofs.«01_k».proof.Proof.Value.Final1
public import proofs.«01_k».proof.Proof.Value.Final3
public import proofs.«01_k».proof.Proof.Value.Final5
public import proofs.«01_k».proof.Proof.Value.DaFinal
@[expose] public section
set_option maxRecDepth 65536

/-!
What the six calls leave, as functions of the arguments.
-/
noncomputable section
namespace Cert.Spec
open Idealize.ShloMosaic Idealize.ShloMosaic.TcCoe Cert.KernelIdeal Cert.KernelIdeal.Gen Cert.KernelIdeal.Run

variable (m : (ℓ : Loc nD τ sig) → Buf (Elt Ideal) ℓ) (ρ : Dev nD → PrngReg) (c : Dev nD)

/-- The arguments as launched. -/
def argsOf : Args where
  xc := fun b s d => m ((c : Thread nD τ).loc main_arg0) (ix3 b s d)
  xs := fun b s => m ((c : Thread nD τ).loc main_arg1) (ix2 b s)
  mean1 := fun b s => m ((c : Thread nD τ).loc main_arg2) (ix2 b s)
  rstd1 := fun b s => m ((c : Thread nD τ).loc main_arg3) (ix2 b s)
  gamma1 := fun d => m ((c : Thread nD τ).loc main_arg4) (ix1 d)
  beta1 := fun d => m ((c : Thread nD τ).loc main_arg5) (ix1 d)
  w1 := fun i j d n => m ((c : Thread nD τ).loc main_arg6) (ix4 i j d n)
  ws1 := fun d => m ((c : Thread nD τ).loc main_arg7) (ix1 d)
  b1 := fun d => m ((c : Thread nD τ).loc main_arg8) (ix1 d)
  temb := fun b s => m ((c : Thread nD τ).loc main_arg9) (ix2 b s)
  mean2 := fun b s => m ((c : Thread nD τ).loc main_arg10) (ix2 b s)
  rstd2 := fun b s => m ((c : Thread nD τ).loc main_arg11) (ix2 b s)
  gamma2 := fun d => m ((c : Thread nD τ).loc main_arg12) (ix1 d)
  beta2 := fun d => m ((c : Thread nD τ).loc main_arg13) (ix1 d)
  w2 := fun i j d n => m ((c : Thread nD τ).loc main_arg14) (ix4 i j d n)
  ws2 := fun d => m ((c : Thread nD τ).loc main_arg15) (ix1 d)
  dy := fun b s d => m ((c : Thread nD τ).loc main_arg16) (ix3 b s d)
  ds := fun b s => m ((c : Thread nD τ).loc main_arg17) (ix2 b s)

theorem bat_fin (p : Fin 768) : (⟨p.val / 384, by omega⟩ : Fin 2) = bat p.val := Fin.ext (by show p.val / 384 = p.val / 384 % 2; omega)

theorem act_in (p : Fin 768) (d : Fin 2560) : normAct (V1 m ρ c main_v0 (ix2 p d)) (V1 m ρ c main_v1 (ix2 p 0)) (V1 m ρ c main_v4 (ix3 ⟨p.val / 384, by omega⟩ 0 d))
      (V1 m ρ c main_v7 (ix3 ⟨p.val / 384, by omega⟩ 0 d)) (V1 m ρ c main_v8 (ix2 0 d)) (V1 m ρ c main_v9 (ix2 0 d)) = (argsOf m c).act p.val d := by
  have e0 : V1 m ρ c main_v0 (ix2 p d) = _ := w1_v0 m ρ c p d
  have e1 : V1 m ρ c main_v1 (ix2 p 0) = _ := w1_v1 m ρ c p
  have e4 : V1 m ρ c main_v4 (ix3 ⟨p.val / 384, by omega⟩ 0 d) = _ := w1_v4 m ρ c _ d
  have e7 : V1 m ρ c main_v7 (ix3 ⟨p.val / 384, by omega⟩ 0 d) = _ := w1_v7 m ρ c _ d
  have e8 : V1 m ρ c main_v8 (ix2 0 d) = _ := w1_v8 m ρ c d
  have e9 : V1 m ρ c main_v9 (ix2 0 d) = _ := w1_v9 m ρ c d
  rw [e0, e1, e4, e7, e8, e9, bat_fin]
  rfl

theorem k_v10_2 (k : Fin 3) (q : Fin 768) (d : Fin 2560) : V7 m ρ c main_v10_2 (ix3 k q d) = planeRow (fun r => deq (argsOf m c).act r d) k.val q.val :=
  (congrFun (w7_v10_2 m ρ c) _).trans (final0_8 (V1 m ρ) c _ (act_in m ρ c) k q d)

/-- The group of a channel of the second normalisation. -/
def grp40 (n : Fin 1280) : Fin 32 := ⟨n.val / 40, by omega⟩

theorem k_v28 (p : Fin 768) (n : Fin 1280) : V8 m ρ c main_v28 (ix2 p n) = (argsOf m c).hid p.val n := by
  refine (congrFun (w8_v28 m ρ c) _).trans ?_
  have h := conv_final (V7 m ρ) c (fun k q d => planeRow (fun r => deq (argsOf m c).act r d) k.val q)
    (fun k d n => (argsOf m c).w1 (tapY k) (tapX k) d n) (argsOf m c).ws1 (argsOf m c).b1 (argsOf m c).gamma2 (argsOf m c).beta2
    (argsOf m c).temb (fun b n => (argsOf m c).mean2 b (grp40 n)) (fun b n => (argsOf m c).rstd2 b (grp40 n))
    (k_v10_2 m ρ c) (w7_v16 m ρ c) (w7_v17 m ρ c) (w7_v18 m ρ c) (w7_v19 m ρ c) (w7_v22 m ρ c) (w7_v25 m ρ c) (w7_v26 m ρ c) (w7_v27 m ρ c)
    ⟨p.val / 384, by omega⟩ ⟨p.val % 384, by omega⟩ ⟨n.val / 256, by omega⟩ ⟨n.val % 256, by omega⟩
  have en : (⟨256 * (n.val / 256) + n.val % 256, by omega⟩ : Fin 1280) = n := Fin.ext (by show 256 * (n.val / 256) + n.val % 256 = n.val; omega)
  have ep : (⟨p.val / 384 * 384 + p.val % 384, by omega⟩ : Fin 768) = p := Fin.ext (by show p.val / 384 * 384 + p.val % 384 = p.val; omega)
  have ep' : p.val / 384 * 384 + p.val % 384 = p.val := by omega
  dsimp only at h
  rw [en, ep, ep', bat_fin] at h
  rw [conv_sum (fun q d => deq (argsOf m c).act q d) (fun k d => (argsOf m c).w1 (tapY k) (tapX k) d n) p.val] at h
  exact h

/-- The padded gradient. -/
def padG (a : Args) (k : Fin 3) (b : Fin 2) (q : ℕ) (e : Fin 1280) : EReal :=
  if 16 ≤ q ∧ q - 16 < 384 then planeRow (fun r => a.grad r e) (2 - k.val) (b.val * 384 + (q - 16)) else 0

theorem k_v15 (k : Fin 3) (b : Fin 2) (q : Fin 416) (e : Fin 1280) : W6 m ρ c (Proc.devRef .tc main_v15) (ix4 k b q e) = padG (argsOf m c) k b q.val e := by
  rw [w6_v15]
  unfold padG
  by_cases hq : 16 ≤ q.val ∧ q.val - 16 < 384
  · rw [dif_pos hq, if_pos hq]
    refine (congrFun (w4_v13 m ρ c) _).trans ?_
    refine final1_2 (V3 m ρ) c (fun p d => (argsOf m c).dy (bat p) (pos p) d) (fun p => (argsOf m c).ds (bat p) (pos p)) (fun p d => ?_) (fun p => ?_) k ⟨b.val * 384 + (q.val - 16), by omega⟩ e
    · refine (w3_v11 m ρ c p d).trans ?_
      rw [bat_fin]; rfl
    · refine (w3_v12 m ρ c p).trans ?_
      rw [bat_fin]; rfl
  · rw [dif_neg hq, if_neg hq]

theorem pad_at (a : Args) (k : Fin 9) (p : Fin 768) (e : Fin 1280) :
    padG a ⟨k.val % 3, Nat.mod_lt _ (by decide)⟩ ⟨p.val / 384, by omega⟩ (p.val % 384 + (32 - 16 * (k.val / 3))) e
      = tapRow (fun r => a.grad r e) (2 - (tapY k).val) (2 - (tapX k).val) p.val :=
  pad_tap (fun r => a.grad r e) k p.val

/-- The blocks of the input's gradient put together. -/
theorem da_sum (a : Args) (p : Fin 768) (n : Fin 1280) :
    0 + ∑ s : Fin 5, ∑ k : Fin 9, ∑ e : Fin 256,
      padG a ⟨k.val % 3, Nat.mod_lt _ (by decide)⟩ ⟨p.val / 384, by omega⟩ (p.val % 384 + (32 - k.val / 3 * 16)) ⟨256 * s.val + e.val, by omega⟩
        * (a.w2 (tapY k) (tapX k) n ⟨256 * s.val + e.val, by omega⟩ * a.ws2 ⟨256 * s.val + e.val, by omega⟩) = a.da p.val n := by
  rw [zero_add, Finset.sum_comm]
  unfold Args.da
  refine Finset.sum_congr rfl fun k _ => ?_
  refine Eq.trans (Finset.sum_congr rfl fun u _ => Finset.sum_congr rfl fun e _ => ?_)
    (sum_blocks (show 5 * 256 = 1280 from rfl) fun e => tapRow (fun r => a.grad r e) (2 - (tapY k).val) (2 - (tapX k).val) p.val
      * (a.w2 (tapY k) (tapX k) n e * a.ws2 e))
  rw [mul_comm (k.val / 3) 16, pad_at]

/-- The weights' gradient from the padded gradient. -/
theorem dw_sum (a : Args) (k : Fin 9) (r n : Fin 1280) :
    ∑ p : Fin 768, deq a.hid p.val r * padG a ⟨k.val % 3, Nat.mod_lt _ (by decide)⟩ ⟨p.val / 384, by omega⟩ (p.val % 384 + (32 - 16 * (k.val / 3))) n = a.dw k r n := by
  simp only [pad_at]
  exact tap_swap (fun q => deq a.hid q r) (fun q => a.grad q n) (tapY k).val (tapX k).val (tapY k).isLt (tapX k).isLt

theorem k_v32 (p : Fin 768) (n : Fin 1280) : W12 m ρ c (Proc.devRef .tc main_v32) (ix2 p n) = (argsOf m c).da p.val n := by
  refine (congrFun (w12_v32 m ρ c) _).trans ?_
  have h := da_final (V10 m ρ) c (padG (argsOf m c)) (fun k n e => (argsOf m c).w2 (tapY k) (tapX k) n e) (argsOf m c).ws2
    (fun k b q e => (congrFun (w10_v15 m ρ c) _).trans (k_v15 m ρ c k b q e)) (w10_v30 m ρ c) (w10_v31 m ρ c)
    p ⟨n.val / 256, by omega⟩ ⟨n.val % 256, by omega⟩
  have en : (⟨256 * (n.val / 256) + n.val % 256, by omega⟩ : Fin 1280) = n := Fin.ext (by show 256 * (n.val / 256) + n.val % 256 = n.val; omega)
  dsimp only at h
  rw [en] at h
  exact h.trans (da_sum (argsOf m c) p n)

theorem k_v29_2 (r : Fin 1280) (p : Fin 768) : V11 m ρ c main_v29_2 (ix2 r p) = deq (argsOf m c).hid p.val r :=
  (congrFun (w11_v29_2 m ρ c) _).trans (final3_3 (V8 m ρ) c _ (k_v28 m ρ c) p r)

theorem k_v33 (k : Fin 9) (r n : Fin 1280) : W12 m ρ c (Proc.devRef .tc main_v33) (ix3 k r n) = (argsOf m c).dw k r n := by
  refine (congrFun (w12_v33 m ρ c) _).trans ?_
  have h := final5_2 (V11 m ρ) c (fun r p => deq (argsOf m c).hid p r) (padG (argsOf m c)) (k_v29_2 m ρ c)
    (fun k b q e => (congrFun (w11_v15 m ρ c) _).trans (k_v15 m ρ c k b q e)) k r ⟨n.val / 256, by omega⟩ ⟨n.val % 256, by omega⟩
  have en : (⟨256 * (n.val / 256) + n.val % 256, by omega⟩ : Fin 1280) = n := Fin.ext (by show 256 * (n.val / 256) + n.val % 256 = n.val; omega)
  dsimp only at h
  rw [en] at h
  exact h.trans (dw_sum (argsOf m c) k r n)

/-! ### The six results -/

theorem out_v34 (ky kx : Fin 3) (r n : Fin 1280) : W13 m ρ c (Proc.devRef .tc main_v34) (ix4 ky kx r n) = (argsOf m c).dw ⟨ky.val * 3 + kx.val, by omega⟩ r n :=
  (w13_v34 m ρ c ky kx r n).trans (k_v33 m ρ c _ r n)

theorem out_v35 (b : Fin 2) (s : Fin 384) (n : Fin 1280) : W13 m ρ c (Proc.devRef .tc main_v35) (ix3 b s n) = (argsOf m c).da (b.val * 384 + s.val) n :=
  (w13_v35 m ρ c b s n).trans (k_v32 m ρ c ⟨b.val * 384 + s.val, by omega⟩ n)

theorem out_v36 (b : Fin 2) (s : Fin 384) (d : Fin 2560) : W13 m ρ c (Proc.devRef .tc main_v36) (ix3 b s d) = codes (argsOf m c).act (b.val * 384 + s.val) d :=
  (w13_v36 m ρ c b s d).trans ((congrFun (w12_v10_0 m ρ c) _).trans (final0_6 (V1 m ρ) c _ (act_in m ρ c) ⟨b.val * 384 + s.val, by omega⟩ d))

theorem out_v37 (b : Fin 2) (s : Fin 384) : W13 m ρ c (Proc.devRef .tc main_v37) (ix2 b s) = scales (argsOf m c).act (b.val * 384 + s.val) :=
  (w13_v37 m ρ c b s).trans ((congrFun (w12_v10_1 m ρ c) _).trans (final0_7 (V1 m ρ) c _ (act_in m ρ c) ⟨b.val * 384 + s.val, by omega⟩))

theorem out_v38 (b : Fin 2) (s : Fin 384) (d : Fin 1280) : W13 m ρ c (Proc.devRef .tc main_v38) (ix3 b s d) = codes (argsOf m c).hid (b.val * 384 + s.val) d :=
  (w13_v38 m ρ c b s d).trans ((congrFun (w12_v29_0 m ρ c) _).trans (final3_1 (V8 m ρ) c _ (k_v28 m ρ c) ⟨b.val * 384 + s.val, by omega⟩ d))

theorem out_v39 (b : Fin 2) (s : Fin 384) : W13 m ρ c (Proc.devRef .tc main_v39) (ix2 b s) = scales (argsOf m c).hid (b.val * 384 + s.val) :=
  (w13_v39 m ρ c b s).trans ((congrFun (w12_v29_1 m ρ c) _).trans (final3_2 (V8 m ρ) c _ (k_v28 m ρ c) ⟨b.val * 384 + s.val, by omega⟩))

end Cert.Spec
-- ==== Proof.Value.Agree.lean ====
module
public import proofs.«01_k».proof.Defs
public import proofs.«01_k».proof.Proof.Gen.ReferenceIdeal.Value
public import Idealize.ShloMosaic.Lib.Pointwise
public import proofs.«01_k».proof.Proof.Value.Spec
public import proofs.«01_k».proof.Proof.Value.RefRows
public import proofs.«01_k».proof.Proof.Value.RefWeights
public import proofs.«01_k».proof.Proof.Value.KernelVals
public import proofs.«01_k».proof.Proof.Run.Frame
@[expose] public section
set_option maxRecDepth 65536

/-!
The kernel's results and the reference's are the same.
-/
noncomputable section
namespace Cert.Spec
open Idealize.ShloMosaic Idealize.ShloMosaic.TcCoe Cert.ReferenceIdeal Cert.ReferenceIdeal.Gen
variable (X0 : Vec Ideal S2x384x2560 .i8) (X1 : Vec Ideal S2x384 .f32) (X2 : Vec Ideal S2x32 .f32) (X3 : Vec Ideal S2x32 .f32) (X4 : Vec Ideal S2560 .f32) (X5 : Vec Ideal S2560 .f32) (X6 : Vec Ideal S3x3x2560x1280 .fp8e4m3) (X7 : Vec Ideal S1280 .f32) (X8 : Vec Ideal S1280 .f32) (X9 : Vec Ideal S2x1280 .f32) (X10 : Vec Ideal S2x32 .f32) (X11 : Vec Ideal S2x32 .f32) (X12 : Vec Ideal S1280 .f32) (X13 : Vec Ideal S1280 .f32) (X14 : Vec Ideal S3x3x1280x1280 .fp8e4m3) (X15 : Vec Ideal S1280 .f32) (X16 : Vec Ideal S2x384x1280 .fp8e5m2) (X17 : Vec Ideal S2x384 .f32)
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem agree18 (h : (argsR X0 X1 X2 X3 X4 X5 X6 X7 X8 X9 X10 X11 X12 X13 X14 X15 X16 X17) = argsOf m c) : (show S3x3x1280x1280.Idx → EReal from Cert.ReferenceIdeal.Value.G18 X0 X1 X2 X3 X4 X5 X6 X7 X8 X9 X10 X11 X12 X13 X14 X15 X16 X17) = (show S3x3x1280x1280.Idx → EReal from Cert.KernelIdeal.Run.W13 m ρ c (Proc.devRef .tc Cert.KernelIdeal.main_v34)) := by
  funext x
  obtain ⟨i, j, k, l, rfl⟩ : ∃ (i : Fin 3) (j : Fin 3) (k : Fin 1280) (l : Fin 1280), x = ix4 i j k l := ⟨x 0, x 1, x 2, x 3, funext fun a => by fin_cases a <;> rfl⟩
  exact (congrFun (Cert.ReferenceIdeal.Value.out18_eq X0 X1 X2 X3 X4 X5 X6 X7 X8 X9 X10 X11 X12 X13 X14 X15 X16 X17).symm _).trans ((ref_dw X0 X1 X2 X3 X4 X5 X6 X7 X8 X9 X10 X11 X12 X13 X14 X15 X16 X17 i j k l).trans ((congrArg (fun a : Args => Args.dw a ⟨i.val * 3 + j.val, by omega⟩ k l) h).trans (out_v34 m ρ c i j k l).symm))

theorem agree19 (h : (argsR X0 X1 X2 X3 X4 X5 X6 X7 X8 X9 X10 X11 X12 X13 X14 X15 X16 X17) = argsOf m c) : (show S2x384x1280.Idx → EReal from Cert.ReferenceIdeal.Value.G19 X0 X1 X2 X3 X4 X5 X6 X7 X8 X9 X10 X11 X12 X13 X14 X15 X16 X17) = (show S2x384x1280.Idx → EReal from Cert.KernelIdeal.Run.W13 m ρ c (Proc.devRef .tc Cert.KernelIdeal.main_v35)) := by
  funext x
  obtain ⟨i, j, k, rfl⟩ : ∃ (i : Fin 2) (j : Fin 384) (k : Fin 1280), x = ix3 i j k := ⟨x 0, x 1, x 2, funext fun a => by fin_cases a <;> rfl⟩
  exact (congrFun (Cert.ReferenceIdeal.Value.out19_eq X0 X1 X2 X3 X4 X5 X6 X7 X8 X9 X10 X11 X12 X13 X14 X15 X16 X17).symm _).trans ((ref_da X0 X1 X2 X3 X4 X5 X6 X7 X8 X9 X10 X11 X12 X13 X14 X15 X16 X17 i j k).trans ((congrArg (fun a : Args => Args.da a (i.val * 384 + j.val) k) h).trans (out_v35 m ρ c i j k).symm))

theorem agree20 (h : (argsR X0 X1 X2 X3 X4 X5 X6 X7 X8 X9 X10 X11 X12 X13 X14 X15 X16 X17) = argsOf m c) : (show S2x384x2560.Idx → EReal from Cert.ReferenceIdeal.Value.G20 X0 X1 X2 X3 X4 X5 X6 X7 X8 X9 X10 X11 X12 X13 X14 X15 X16 X17) = (show S2x384x2560.Idx → EReal from Cert.KernelIdeal.Run.W13 m ρ c (Proc.devRef .tc Cert.KernelIdeal.main_v36)) := by
  funext x
  obtain ⟨i, j, k, rfl⟩ : ∃ (i : Fin 2) (j : Fin 384) (k : Fin 2560), x = ix3 i j k := ⟨x 0, x 1, x 2, funext fun a => by fin_cases a <;> rfl⟩
  exact (congrFun (Cert.ReferenceIdeal.Value.out20_eq X0 X1 X2 X3 X4 X5 X6 X7 X8 X9 X10 X11 X12 X13 X14 X15 X16 X17).symm _).trans ((ref_codes1 X0 X1 X2 X3 X4 X5 X6 X7 X8 X9 X10 X11 X12 X13 X14 X15 X16 X17 i j k).trans ((congrArg (fun a : Args => codes (Args.act a) (i.val * 384 + j.val) k) h).trans (out_v36 m ρ c i j k).symm))

theorem agree21 (h : (argsR X0 X1 X2 X3 X4 X5 X6 X7 X8 X9 X10 X11 X12 X13 X14 X15 X16 X17) = argsOf m c) : (show S2x384.Idx → EReal from Cert.ReferenceIdeal.Value.G21 X0 X1 X2 X3 X4 X5 X6 X7 X8 X9 X10 X11 X12 X13 X14 X15 X16 X17) = (show S2x384.Idx → EReal from Cert.KernelIdeal.Run.W13 m ρ c (Proc.devRef .tc Cert.KernelIdeal.main_v37)) := by
  funext x
  obtain ⟨i, j, rfl⟩ : ∃ (i : Fin 2) (j : Fin 384), x = ix2 i j := ⟨x 0, x 1, funext fun a => by fin_cases a <;> rfl⟩
  exact (congrFun (Cert.ReferenceIdeal.Value.out21_eq X0 X1 X2 X3 X4 X5 X6 X7 X8 X9 X10 X11 X12 X13 X14 X15 X16 X17).symm _).trans ((ref_scale1 X0 X1 X2 X3 X4 X5 X6 X7 X8 X9 X10 X11 X12 X13 X14 X15 X16 X17 i j).trans ((congrArg (fun a : Args => scales (Args.act a) (i.val * 384 + j.val)) h).trans (out_v37 m ρ c i j).symm))

theorem agree22 (h : (argsR X0 X1 X2 X3 X4 X5 X6 X7 X8 X9 X10 X11 X12 X13 X14 X15 X16 X17) = argsOf m c) : (show S2x384x1280.Idx → EReal from Cert.ReferenceIdeal.Value.G22 X0 X1 X2 X3 X4 X5 X6 X7 X8 X9 X10 X11 X12 X13 X14 X15 X16 X17) = (show S2x384x1280.Idx → EReal from Cert.KernelIdeal.Run.W13 m ρ c (Proc.devRef .tc Cert.KernelIdeal.main_v38)) := by
  funext x
  obtain ⟨i, j, k, rfl⟩ : ∃ (i : Fin 2) (j : Fin 384) (k : Fin 1280), x = ix3 i j k := ⟨x 0, x 1, x 2, funext fun a => by fin_cases a <;> rfl⟩
  exact (congrFun (Cert.ReferenceIdeal.Value.out22_eq X0 X1 X2 X3 X4 X5 X6 X7 X8 X9 X10 X11 X12 X13 X14 X15 X16 X17).symm _).trans ((ref_codes2 X0 X1 X2 X3 X4 X5 X6 X7 X8 X9 X10 X11 X12 X13 X14 X15 X16 X17 i j k).trans ((congrArg (fun a : Args => codes (Args.hid a) (i.val * 384 + j.val) k) h).trans (out_v38 m ρ c i j k).symm))

theorem agree23 (h : (argsR X0 X1 X2 X3 X4 X5 X6 X7 X8 X9 X10 X11 X12 X13 X14 X15 X16 X17) = argsOf m c) : (show S2x384.Idx → EReal from Cert.ReferenceIdeal.Value.G23 X0 X1 X2 X3 X4 X5 X6 X7 X8 X9 X10 X11 X12 X13 X14 X15 X16 X17) = (show S2x384.Idx → EReal from Cert.KernelIdeal.Run.W13 m ρ c (Proc.devRef .tc Cert.KernelIdeal.main_v39)) := by
  funext x
  obtain ⟨i, j, rfl⟩ : ∃ (i : Fin 2) (j : Fin 384), x = ix2 i j := ⟨x 0, x 1, funext fun a => by fin_cases a <;> rfl⟩
  exact (congrFun (Cert.ReferenceIdeal.Value.out23_eq X0 X1 X2 X3 X4 X5 X6 X7 X8 X9 X10 X11 X12 X13 X14 X15 X16 X17).symm _).trans ((ref_scale2 X0 X1 X2 X3 X4 X5 X6 X7 X8 X9 X10 X11 X12 X13 X14 X15 X16 X17 i j).trans ((congrArg (fun a : Args => scales (Args.hid a) (i.val * 384 + j.val)) h).trans (out_v39 m ρ c i j).symm))

/-- Arguments equal in every field. -/
theorem args_ext : ∀ {a a' : Args}, a.xc = a'.xc → a.xs = a'.xs → a.mean1 = a'.mean1 → a.rstd1 = a'.rstd1 → a.gamma1 = a'.gamma1 → a.beta1 = a'.beta1 → a.w1 = a'.w1 → a.ws1 = a'.ws1 → a.b1 = a'.b1 → a.temb = a'.temb → a.mean2 = a'.mean2 → a.rstd2 = a'.rstd2 → a.gamma2 = a'.gamma2 → a.beta2 = a'.beta2 → a.w2 = a'.w2 → a.ws2 = a'.ws2 → a.dy = a'.dy → a.ds = a'.ds → a = a'
  | ⟨_, _, _, _, _, _, _, _, _, _, _, _, _, _, _, _, _, _⟩, ⟨_, _, _, _, _, _, _, _, _, _, _, _, _, _, _, _, _, _⟩, rfl, rfl, rfl, rfl, rfl, rfl, rfl, rfl, rfl, rfl, rfl, rfl, rfl, rfl, rfl, rfl, rfl, rfl => rfl

/-- From the same arguments the kernel and the reference end with the same six results. -/
theorem agree : Cert.algebraic_KernelIdeal_ReferenceIdeal (hKernelIdeal := Cert.KernelIdeal.Gen.facts) (hReferenceIdeal := Cert.ReferenceIdeal.Gen.facts) := by
  intro m g m' g' _ hargs
  have hA : ∀ c : Dev Cert.KernelIdeal.nD, argsR (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) (m' ((c : Thread Cert.ReferenceIdeal.nD Cert.ReferenceIdeal.τ).loc Cert.ReferenceIdeal.main_arg17)) = argsOf m c := by
    intro c
    obtain ⟨h0, h1, h2, h3, h4, h5, h6, h7, h8, h9, h10, h11, h12, h13, h14, h15, h16, h17⟩ := hargs c
    exact args_ext (funext fun b => funext fun s => funext fun d => congrFun h0 (ix3 b s d))
      (funext fun b => funext fun s => congrFun h1 (ix2 b s))
      (funext fun b => funext fun g => congrFun h2 (ix2 b g))
      (funext fun b => funext fun g => congrFun h3 (ix2 b g))
      (funext fun d => congrFun h4 (ix1 d))
      (funext fun d => congrFun h5 (ix1 d))
      (funext fun y => funext fun x => funext fun d => funext fun n => congrFun h6 (ix4 y x d n))
      (funext fun n => congrFun h7 (ix1 n))
      (funext fun n => congrFun h8 (ix1 n))
      (funext fun b => funext fun n => congrFun h9 (ix2 b n))
      (funext fun b => funext fun g => congrFun h10 (ix2 b g))
      (funext fun b => funext fun g => congrFun h11 (ix2 b g))
      (funext fun n => congrFun h12 (ix1 n))
      (funext fun n => congrFun h13 (ix1 n))
      (funext fun y => funext fun x => funext fun d => funext fun n => congrFun h14 (ix4 y x d n))
      (funext fun n => congrFun h15 (ix1 n))
      (funext fun b => funext fun s => funext fun n => congrFun h16 (ix3 b s n))
      (funext fun b => funext fun s => congrFun h17 (ix2 b s))
  refine ⟨fun c => Cert.KernelIdeal.Run.W13 m g c (Proc.devRef .tc Cert.KernelIdeal.main_v34),
    fun c => Cert.KernelIdeal.Run.W13 m g c (Proc.devRef .tc Cert.KernelIdeal.main_v35),
    fun c => Cert.KernelIdeal.Run.W13 m g c (Proc.devRef .tc Cert.KernelIdeal.main_v36),
    fun c => Cert.KernelIdeal.Run.W13 m g c (Proc.devRef .tc Cert.KernelIdeal.main_v37),
    fun c => Cert.KernelIdeal.Run.W13 m g c (Proc.devRef .tc Cert.KernelIdeal.main_v38),
    fun c => Cert.KernelIdeal.Run.W13 m g c (Proc.devRef .tc Cert.KernelIdeal.main_v39), ?_, ?_⟩
  · refine (θ_run _ _ _).mono (fun r h c => ⟨h.1 c _ (Cert.KernelIdeal.Run.mem_uc Cert.KernelIdeal.main_v34 (by decide)),
      h.1 c _ (Cert.KernelIdeal.Run.mem_uc Cert.KernelIdeal.main_v35 (by decide)),
      h.1 c _ (Cert.KernelIdeal.Run.mem_uc Cert.KernelIdeal.main_v36 (by decide)),
      h.1 c _ (Cert.KernelIdeal.Run.mem_uc Cert.KernelIdeal.main_v37 (by decide)),
      h.1 c _ (Cert.KernelIdeal.Run.mem_uc Cert.KernelIdeal.main_v38 (by decide)),
      h.1 c _ (Cert.KernelIdeal.Run.mem_uc Cert.KernelIdeal.main_v39 (by decide)),
      (h.1 c _ (Cert.KernelIdeal.Run.mem_uc Cert.KernelIdeal.main_arg0 (by decide))).trans (Cert.KernelIdeal.Run.W13_main_arg0 m g c),
      (h.1 c _ (Cert.KernelIdeal.Run.mem_uc Cert.KernelIdeal.main_arg1 (by decide))).trans (Cert.KernelIdeal.Run.W13_main_arg1 m g c),
      (h.1 c _ (Cert.KernelIdeal.Run.mem_uc Cert.KernelIdeal.main_arg2 (by decide))).trans (Cert.KernelIdeal.Run.W13_main_arg2 m g c),
      (h.1 c _ (Cert.KernelIdeal.Run.mem_uc Cert.KernelIdeal.main_arg3 (by decide))).trans (Cert.KernelIdeal.Run.W13_main_arg3 m g c),
      (h.1 c _ (Cert.KernelIdeal.Run.mem_uc Cert.KernelIdeal.main_arg4 (by decide))).trans (Cert.KernelIdeal.Run.W13_main_arg4 m g c),
      (h.1 c _ (Cert.KernelIdeal.Run.mem_uc Cert.KernelIdeal.main_arg5 (by decide))).trans (Cert.KernelIdeal.Run.W13_main_arg5 m g c),
      (h.1 c _ (Cert.KernelIdeal.Run.mem_uc Cert.KernelIdeal.main_arg6 (by decide))).trans (Cert.KernelIdeal.Run.W13_main_arg6 m g c),
      (h.1 c _ (Cert.KernelIdeal.Run.mem_uc Cert.KernelIdeal.main_arg7 (by decide))).trans (Cert.KernelIdeal.Run.W13_main_arg7 m g c),
      (h.1 c _ (Cert.KernelIdeal.Run.mem_uc Cert.KernelIdeal.main_arg8 (by decide))).trans (Cert.KernelIdeal.Run.W13_main_arg8 m g c),
      (h.1 c _ (Cert.KernelIdeal.Run.mem_uc Cert.KernelIdeal.main_arg9 (by decide))).trans (Cert.KernelIdeal.Run.W13_main_arg9 m g c),
      (h.1 c _ (Cert.KernelIdeal.Run.mem_uc Cert.KernelIdeal.main_arg10 (by decide))).trans (Cert.KernelIdeal.Run.W13_main_arg10 m g c),
      (h.1 c _ (Cert.KernelIdeal.Run.mem_uc Cert.KernelIdeal.main_arg11 (by decide))).trans (Cert.KernelIdeal.Run.W13_main_arg11 m g c),
      (h.1 c _ (Cert.KernelIdeal.Run.mem_uc Cert.KernelIdeal.main_arg12 (by decide))).trans (Cert.KernelIdeal.Run.W13_main_arg12 m g c),
      (h.1 c _ (Cert.KernelIdeal.Run.mem_uc Cert.KernelIdeal.main_arg13 (by decide))).trans (Cert.KernelIdeal.Run.W13_main_arg13 m g c),
      (h.1 c _ (Cert.KernelIdeal.Run.mem_uc Cert.KernelIdeal.main_arg14 (by decide))).trans (Cert.KernelIdeal.Run.W13_main_arg14 m g c),
      (h.1 c _ (Cert.KernelIdeal.Run.mem_uc Cert.KernelIdeal.main_arg15 (by decide))).trans (Cert.KernelIdeal.Run.W13_main_arg15 m g c),
      (h.1 c _ (Cert.KernelIdeal.Run.mem_uc Cert.KernelIdeal.main_arg16 (by decide))).trans (Cert.KernelIdeal.Run.W13_main_arg16 m g c),
      (h.1 c _ (Cert.KernelIdeal.Run.mem_uc Cert.KernelIdeal.main_arg17 (by decide))).trans (Cert.KernelIdeal.Run.W13_main_arg17 m g c)⟩) (Cert.KernelIdeal.Run.final m g)
  · refine (θ_run _ _ _).mono (fun r h c => ?_) (Cert.ReferenceIdeal.Value.run m' g')
    obtain ⟨r0, r1, r2, r3, r4, r5, rest⟩ := h c
    exact ⟨r0.trans (agree18 _ _ _ _ _ _ _ _ _ _ _ _ _ _ _ _ _ _ m g c (hA c)),
      r1.trans (agree19 _ _ _ _ _ _ _ _ _ _ _ _ _ _ _ _ _ _ m g c (hA c)),
      r2.trans (agree20 _ _ _ _ _ _ _ _ _ _ _ _ _ _ _ _ _ _ m g c (hA c)),
      r3.trans (agree21 _ _ _ _ _ _ _ _ _ _ _ _ _ _ _ _ _ _ m g c (hA c)),
      r4.trans (agree22 _ _ _ _ _ _ _ _ _ _ _ _ _ _ _ _ _ _ m g c (hA c)),
      r5.trans (agree23 _ _ _ _ _ _ _ _ _ _ _ _ _ _ _ _ _ _ m g c (hA c)), rest⟩

end Cert.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run.Transfer
public import proofs.«01_k».proof.Proof.Value.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Spec.agree⟩

end Cert.Proof

end
